-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S8x2048x8x64 : Shape := ⟨4, ![8, 2048, 8, 64]⟩
abbrev S8x2048x2x64 : Shape := ⟨4, ![8, 2048, 2, 64]⟩
abbrev S8x2048x8x3 : Shape := ⟨4, ![8, 2048, 8, 3]⟩
abbrev S32x64 : Shape := ⟨2, ![32, 64]⟩
abbrev S32x64x64 : Shape := ⟨3, ![32, 64, 64]⟩
abbrev S64x64 : Shape := ⟨2, ![64, 64]⟩
abbrev S128 : Shape := ⟨1, ![128]⟩
abbrev S128x1 : Shape := ⟨2, ![128, 1]⟩
abbrev S1x128 : Shape := ⟨2, ![1, 128]⟩
abbrev S_ : Shape := ⟨0, ![]⟩
abbrev S128x128 : Shape := ⟨2, ![128, 128]⟩
abbrev S2048 : Shape := ⟨1, ![2048]⟩
abbrev S1x2048 : Shape := ⟨2, ![1, 2048]⟩
abbrev S128x2048 : Shape := ⟨2, ![128, 2048]⟩
abbrev S8x2048x512 : Shape := ⟨3, ![8, 2048, 512]⟩
abbrev S8x2048x128 : Shape := ⟨3, ![8, 2048, 128]⟩
abbrev S8x2048x64 : Shape := ⟨3, ![8, 2048, 64]⟩
abbrev S8x2048x256 : Shape := ⟨3, ![8, 2048, 256]⟩
abbrev S8x2048x1152 : Shape := ⟨3, ![8, 2048, 1152]⟩
abbrev S8x2048x2176 : Shape := ⟨3, ![8, 2048, 2176]⟩
abbrev S8x2048x24 : Shape := ⟨3, ![8, 2048, 24]⟩
abbrev S8x2048x104 : Shape := ⟨3, ![8, 2048, 104]⟩
abbrev S2x2 : Shape := ⟨2, ![2, 2]⟩
abbrev S32x1x64x1x64 : Shape := ⟨5, ![32, 1, 64, 1, 64]⟩
abbrev S1x2x1x2x1 : Shape := ⟨5, ![1, 2, 1, 2, 1]⟩
abbrev S32x2x64x2x64 : Shape := ⟨5, ![32, 2, 64, 2, 64]⟩
abbrev S32x128x128 : Shape := ⟨3, ![32, 128, 128]⟩
abbrev S16x128x128 : Shape := ⟨3, ![16, 128, 128]⟩
abbrev S2048x128 : Shape := ⟨2, ![2048, 128]⟩
abbrev S64x256 : Shape := ⟨2, ![64, 256]⟩
abbrev S128x256 : Shape := ⟨2, ![128, 256]⟩
abbrev S32x1x64 : Shape := ⟨3, ![32, 1, 64]⟩
abbrev S32x2x64 : Shape := ⟨3, ![32, 2, 64]⟩
abbrev S16x2x64 : Shape := ⟨3, ![16, 2, 64]⟩
abbrev S8x128x2048 : Shape := ⟨3, ![8, 128, 2048]⟩
abbrev S1x128x512 : Shape := ⟨3, ![1, 128, 512]⟩
abbrev S1x2048x256 : Shape := ⟨3, ![1, 2048, 256]⟩
abbrev S1x128x2048 : Shape := ⟨3, ![1, 128, 2048]⟩
abbrev S1x128x128 : Shape := ⟨3, ![1, 128, 128]⟩
abbrev S8x128x128 : Shape := ⟨3, ![8, 128, 128]⟩
abbrev S32x128 : Shape := ⟨2, ![32, 128]⟩
abbrev S96x128 : Shape := ⟨2, ![96, 128]⟩
abbrev S128x640 : Shape := ⟨2, ![128, 640]⟩
abbrev S1x640x128 : Shape := ⟨3, ![1, 640, 128]⟩
abbrev S640x128 : Shape := ⟨2, ![640, 128]⟩
abbrev S1x256x128 : Shape := ⟨3, ![1, 256, 128]⟩
abbrev S256x128 : Shape := ⟨2, ![256, 128]⟩
abbrev S128x512 : Shape := ⟨2, ![128, 512]⟩
abbrev S1x512x128 : Shape := ⟨3, ![1, 512, 128]⟩
abbrev S512x128 : Shape := ⟨2, ![512, 128]⟩
abbrev S128x768 : Shape := ⟨2, ![128, 768]⟩
abbrev S1x768x128 : Shape := ⟨3, ![1, 768, 128]⟩
abbrev S768x128 : Shape := ⟨2, ![768, 128]⟩
abbrev S128x1024 : Shape := ⟨2, ![128, 1024]⟩
abbrev S1x1024x128 : Shape := ⟨3, ![1, 1024, 128]⟩
abbrev S1024x128 : Shape := ⟨2, ![1024, 128]⟩
abbrev S128x1280 : Shape := ⟨2, ![128, 1280]⟩
abbrev S1x1280x128 : Shape := ⟨3, ![1, 1280, 128]⟩
abbrev S1280x128 : Shape := ⟨2, ![1280, 128]⟩
abbrev S128x1536 : Shape := ⟨2, ![128, 1536]⟩
abbrev S1x1536x128 : Shape := ⟨3, ![1, 1536, 128]⟩
abbrev S1536x128 : Shape := ⟨2, ![1536, 128]⟩
abbrev S128x1792 : Shape := ⟨2, ![128, 1792]⟩
abbrev S1x1792x128 : Shape := ⟨3, ![1, 1792, 128]⟩
abbrev S1792x128 : Shape := ⟨2, ![1792, 128]⟩
abbrev S1x2048x128 : Shape := ⟨3, ![1, 2048, 128]⟩

abbrev nBuf : Space → Nat
  | .hbm => 208
  | .vmem => 31
  | .smem => 0
  | _ => 0

abbrev hbmTy0_0 (i : Nat) : BufTy := match i % 128 with
  | 0 => ⟨S8x2048x8x64, .f32⟩
  | 1 => ⟨S8x2048x2x64, .f32⟩
  | 2 => ⟨S8x2048x2x64, .f32⟩
  | 3 => ⟨S8x2048x2x64, .f32⟩
  | 4 => ⟨S8x2048x2x64, .f32⟩
  | 5 => ⟨S8x2048x2x64, .f32⟩
  | 6 => ⟨S8x2048x2x64, .f32⟩
  | 7 => ⟨S8x2048x8x3, .f32⟩
  | 8 => ⟨S32x64, .f32⟩
  | 9 => ⟨S32x64x64, .f32⟩
  | 10 => ⟨S64x64, .f32⟩
  | 11 => ⟨S32x64x64, .f32⟩
  | 12 => ⟨S64x64, .f32⟩
  | 13 => ⟨S128, .i32⟩
  | 14 => ⟨S128x1, .i32⟩
  | 15 => ⟨S128, .i32⟩
  | 16 => ⟨S1x128, .i32⟩
  | 17 => ⟨S_, .i32⟩
  | 18 => ⟨S_, .i32⟩
  | 19 => ⟨S128x1, .i32⟩
  | 20 => ⟨S128x1, .i32⟩
  | 21 => ⟨S128x1, .i32⟩
  | 22 => ⟨S_, .i32⟩
  | 23 => ⟨S128x1, .i32⟩
  | 24 => ⟨S128x1, .i1⟩
  | 25 => ⟨S128x1, .i32⟩
  | 26 => ⟨S128x1, .i32⟩
  | 27 => ⟨S_, .i32⟩
  | 28 => ⟨S128x1, .i32⟩
  | 29 => ⟨S128x1, .i1⟩
  | 30 => ⟨S128x1, .i1⟩
  | 31 => ⟨S_, .i32⟩
  | 32 => ⟨S128x1, .i32⟩
  | 33 => ⟨S128x1, .i32⟩
  | 34 => ⟨S128x1, .i32⟩
  | 35 => ⟨S128x128, .i32⟩
  | 36 => ⟨S128x128, .i32⟩
  | 37 => ⟨S128x128, .i1⟩
  | 38 => ⟨S128x128, .f32⟩
  | 39 => ⟨S_, .i32⟩
  | 40 => ⟨S128x1, .i32⟩
  | 41 => ⟨S128x1, .i32⟩
  | 42 => ⟨S_, .i32⟩
  | 43 => ⟨S_, .i32⟩
  | 44 => ⟨S128x1, .i32⟩
  | 45 => ⟨S128x1, .i32⟩
  | 46 => ⟨S128x1, .i32⟩
  | 47 => ⟨S_, .i32⟩
  | 48 => ⟨S128x1, .i32⟩
  | 49 => ⟨S128x1, .i1⟩
  | 50 => ⟨S128x1, .i32⟩
  | 51 => ⟨S128x1, .i32⟩
  | 52 => ⟨S_, .i32⟩
  | 53 => ⟨S128x1, .i32⟩
  | 54 => ⟨S128x1, .i1⟩
  | 55 => ⟨S128x1, .i1⟩
  | 56 => ⟨S_, .i32⟩
  | 57 => ⟨S128x1, .i32⟩
  | 58 => ⟨S128x1, .i32⟩
  | 59 => ⟨S128x1, .i32⟩
  | 60 => ⟨S128x128, .i32⟩
  | 61 => ⟨S128x128, .i32⟩
  | 62 => ⟨S128x128, .i1⟩
  | 63 => ⟨S128x128, .f32⟩
  | 64 => ⟨S128x128, .f32⟩
  | 65 => ⟨S_, .i32⟩
  | 66 => ⟨S1x128, .i32⟩
  | 67 => ⟨S1x128, .i1⟩
  | 68 => ⟨S1x128, .f32⟩
  | 69 => ⟨S128x128, .f32⟩
  | 70 => ⟨S128x128, .f32⟩
  | 71 => ⟨S_, .i32⟩
  | 72 => ⟨S128x1, .i32⟩
  | 73 => ⟨S128x1, .i1⟩
  | 74 => ⟨S128x1, .f32⟩
  | 75 => ⟨S128x128, .f32⟩
  | 76 => ⟨S128x128, .f32⟩
  | 77 => ⟨S2048, .i32⟩
  | 78 => ⟨S1x2048, .i32⟩
  | 79 => ⟨S_, .i32⟩
  | 80 => ⟨S_, .i32⟩
  | 81 => ⟨S1x2048, .i32⟩
  | 82 => ⟨S1x2048, .i32⟩
  | 83 => ⟨S1x2048, .i32⟩
  | 84 => ⟨S_, .i32⟩
  | 85 => ⟨S1x2048, .i32⟩
  | 86 => ⟨S1x2048, .i1⟩
  | 87 => ⟨S1x2048, .i32⟩
  | 88 => ⟨S1x2048, .i32⟩
  | 89 => ⟨S_, .i32⟩
  | 90 => ⟨S1x2048, .i32⟩
  | 91 => ⟨S1x2048, .i1⟩
  | 92 => ⟨S1x2048, .i1⟩
  | 93 => ⟨S_, .i32⟩
  | 94 => ⟨S1x2048, .i32⟩
  | 95 => ⟨S1x2048, .i32⟩
  | 96 => ⟨S1x2048, .i32⟩
  | 97 => ⟨S128, .i32⟩
  | 98 => ⟨S128x1, .i32⟩
  | 99 => ⟨S128x2048, .i32⟩
  | 100 => ⟨S128x2048, .i32⟩
  | 101 => ⟨S128x2048, .i1⟩
  | 102 => ⟨S128x2048, .f32⟩
  | 103 => ⟨S128x128, .f32⟩
  | 104 => ⟨S128x128, .bf16⟩
  | 105 => ⟨S128x2048, .bf16⟩
  | 106 => ⟨S8x2048x512, .f32⟩
  | 107 => ⟨S8x2048x128, .f32⟩
  | 108 => ⟨S8x2048x64, .f32⟩
  | 109 => ⟨S8x2048x64, .f32⟩
  | 110 => ⟨S8x2048x64, .f32⟩
  | 111 => ⟨S8x2048x64, .f32⟩
  | 112 => ⟨S8x2048x256, .f32⟩
  | 113 => ⟨S8x2048x128, .f32⟩
  | 114 => ⟨S8x2048x64, .f32⟩
  | 115 => ⟨S8x2048x64, .f32⟩
  | 116 => ⟨S8x2048x64, .f32⟩
  | 117 => ⟨S8x2048x64, .f32⟩
  | 118 => ⟨S8x2048x256, .f32⟩
  | 119 => ⟨S_, .f32⟩
  | 120 => ⟨S8x2048x1152, .f32⟩
  | 121 => ⟨S8x2048x2176, .f32⟩
  | 122 => ⟨S8x2048x2176, .bf16⟩
  | 123 => ⟨S8x2048x128, .f32⟩
  | 124 => ⟨S8x2048x64, .f32⟩
  | 125 => ⟨S8x2048x64, .f32⟩
  | 126 => ⟨S8x2048x64, .f32⟩
  | 127 => ⟨S8x2048x64, .f32⟩
  | _ => ⟨S8x2048x8x64, .f32⟩

abbrev hbmTy0_1 (i : Nat) : BufTy := match i % 128 with
  | 0 => ⟨S8x2048x256, .f32⟩
  | 1 => ⟨S8x2048x128, .f32⟩
  | 2 => ⟨S8x2048x64, .f32⟩
  | 3 => ⟨S8x2048x64, .f32⟩
  | 4 => ⟨S8x2048x64, .f32⟩
  | 5 => ⟨S8x2048x64, .f32⟩
  | 6 => ⟨S8x2048x256, .f32⟩
  | 7 => ⟨S8x2048x512, .f32⟩
  | 8 => ⟨S8x2048x512, .bf16⟩
  | 9 => ⟨S_, .f32⟩
  | 10 => ⟨S8x2048x128, .f32⟩
  | 11 => ⟨S8x2048x24, .f32⟩
  | 12 => ⟨S_, .f32⟩
  | 13 => ⟨S8x2048x104, .f32⟩
  | 14 => ⟨S8x2048x256, .f32⟩
  | 15 => ⟨S2x2, .i32⟩
  | 16 => ⟨S2x2, .i32⟩
  | 17 => ⟨S_, .i32⟩
  | 18 => ⟨S2x2, .i32⟩
  | 19 => ⟨S2x2, .i32⟩
  | 20 => ⟨S2x2, .i1⟩
  | 21 => ⟨S2x2, .f32⟩
  | 22 => ⟨S32x1x64x1x64, .f32⟩
  | 23 => ⟨S1x2x1x2x1, .f32⟩
  | 24 => ⟨S32x2x64x2x64, .f32⟩
  | 25 => ⟨S32x2x64x2x64, .f32⟩
  | 26 => ⟨S32x2x64x2x64, .f32⟩
  | 27 => ⟨S32x128x128, .f32⟩
  | 28 => ⟨S16x128x128, .f32⟩
  | 29 => ⟨S2048x128, .f32⟩
  | 30 => ⟨S16x128x128, .f32⟩
  | 31 => ⟨S2048x128, .f32⟩
  | 32 => ⟨S_, .f32⟩
  | 33 => ⟨S64x64, .f32⟩
  | 34 => ⟨S64x256, .f32⟩
  | 35 => ⟨S64x256, .f32⟩
  | 36 => ⟨S128x256, .f32⟩
  | 37 => ⟨S32x1x64, .f32⟩
  | 38 => ⟨S32x2x64, .f32⟩
  | 39 => ⟨S16x2x64, .f32⟩
  | 40 => ⟨S1x2048, .f32⟩
  | 41 => ⟨S16x2x64, .f32⟩
  | 42 => ⟨S1x2048, .f32⟩
  | 43 => ⟨S2048x128, .bf16⟩
  | 44 => ⟨S2048x128, .bf16⟩
  | 45 => ⟨S128x256, .bf16⟩
  | 46 => ⟨S2x2, .i32⟩
  | 47 => ⟨S2x2, .i32⟩
  | 48 => ⟨S_, .i32⟩
  | 49 => ⟨S2x2, .i32⟩
  | 50 => ⟨S2x2, .i32⟩
  | 51 => ⟨S2x2, .i1⟩
  | 52 => ⟨S2x2, .f32⟩
  | 53 => ⟨S32x1x64x1x64, .f32⟩
  | 54 => ⟨S1x2x1x2x1, .f32⟩
  | 55 => ⟨S32x2x64x2x64, .f32⟩
  | 56 => ⟨S32x2x64x2x64, .f32⟩
  | 57 => ⟨S32x2x64x2x64, .f32⟩
  | 58 => ⟨S32x128x128, .f32⟩
  | 59 => ⟨S16x128x128, .f32⟩
  | 60 => ⟨S2048x128, .f32⟩
  | 61 => ⟨S16x128x128, .f32⟩
  | 62 => ⟨S2048x128, .f32⟩
  | 63 => ⟨S_, .f32⟩
  | 64 => ⟨S64x64, .f32⟩
  | 65 => ⟨S64x256, .f32⟩
  | 66 => ⟨S64x256, .f32⟩
  | 67 => ⟨S128x256, .f32⟩
  | 68 => ⟨S32x1x64, .f32⟩
  | 69 => ⟨S32x2x64, .f32⟩
  | 70 => ⟨S16x2x64, .f32⟩
  | 71 => ⟨S1x2048, .f32⟩
  | 72 => ⟨S16x2x64, .f32⟩
  | 73 => ⟨S1x2048, .f32⟩
  | 74 => ⟨S2048x128, .bf16⟩
  | 75 => ⟨S2048x128, .bf16⟩
  | 76 => ⟨S128x256, .bf16⟩
  | 77 => ⟨S8x128x2048, .f32⟩
  | 78 => ⟨S8x128x2048, .f32⟩
  | 79 => ⟨S8x2048x512, .bf16⟩
  | _ => ⟨S8x2048x8x64, .f32⟩

abbrev hbmTy (i : Nat) : BufTy := match i / 128 with
  | 0 => hbmTy0_0 i
  | 1 => hbmTy0_1 i
  | _ => ⟨S8x2048x8x64, .f32⟩

abbrev bufTy : (tb : Table) → Fin (tcTables nBuf tb) → BufTy
  | .hbm, ⟨i, _⟩ => hbmTy i
  | .local _ .vmem, ⟨0, _⟩ => ⟨S1x128x512, .bf16⟩
  | .local _ .vmem, ⟨1, _⟩ => ⟨S1x128x512, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x128, .f32⟩
  | .local _ .vmem, ⟨15, _⟩ => ⟨S1x128x128, .f32⟩
  | .local _ .vmem, ⟨16, _⟩ => ⟨S2048x128, .bf16⟩
  | .local _ .vmem, ⟨17, _⟩ => ⟨S2048x128, .bf16⟩
  | .local _ .vmem, ⟨18, _⟩ => ⟨S128x256, .bf16⟩
  | .local _ .vmem, ⟨19, _⟩ => ⟨S2048x128, .bf16⟩
  | .local _ .vmem, ⟨20, _⟩ => ⟨S2048x128, .bf16⟩
  | .local _ .vmem, ⟨21, _⟩ => ⟨S128x256, .bf16⟩
  | .local _ .vmem, ⟨22, _⟩ => ⟨S1x2048, .f32⟩
  | .local _ .vmem, ⟨23, _⟩ => ⟨S1x2048, .f32⟩
  | .local _ .vmem, ⟨24, _⟩ => ⟨S128x128, .bf16⟩
  | .local _ .vmem, ⟨25, _⟩ => ⟨S128x2048, .bf16⟩
  | .local _ .vmem, ⟨26, _⟩ => ⟨S1x128x512, .bf16⟩
  | .local _ .vmem, ⟨27, _⟩ => ⟨S1x128x512, .bf16⟩
  | .local _ .vmem, ⟨28, _⟩ => ⟨S128x256, .bf16⟩
  | .local _ .vmem, ⟨29, _⟩ => ⟨S128x256, .bf16⟩
  | .local _ .vmem, ⟨30, _⟩ => ⟨S8x128x128, .f32⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_c_0 : Ref sig .tc := ⟨.hbm, 39, rfl⟩
abbrev main_v9 : Ref sig .tc := ⟨.hbm, 40, rfl⟩
abbrev main_v10 : Ref sig .tc := ⟨.hbm, 41, rfl⟩
abbrev main_c_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_c_2 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_c_3 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_c_4 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_c : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_0 : Ref sig .tc := ⟨.hbm, 93, rfl⟩
abbrev main_call2_v12 : Ref sig .tc := ⟨.hbm, 94, rfl⟩
abbrev main_call2_v13 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_cst : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_cst_5 : Ref sig .tc := ⟨.hbm, 137, rfl⟩
abbrev main_v69 : Ref sig .tc := ⟨.hbm, 138, rfl⟩
abbrev main_v70 : Ref sig .tc := ⟨.hbm, 139, rfl⟩
abbrev main_cst_6 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_c_7 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_cst_8 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_c_9 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_cst_10 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  let c512_i32 : BitVec 32 := 512#32
  let v1116 : BitVec 32 := Scalar.subi v3 c512_i32
  let c0_i32_217 : BitVec 32 := 0#32
  let v1117 : BitVec 32 := Scalar.maxsi v1116 c0_i32_217
  v1117
def k0_off1 (i : grid0.Coords) : Fin 3 → Nat :=
  let c0_222 : Index := 0#32
  let arg1 : BitVec 32 := BitVec.ofNat 32 (i 1).val
  let c128_i32 : BitVec 32 := 128#32
  let v3 : BitVec 32 := Scalar.muli arg1 c128_i32
  let c512_i32 : BitVec 32 := 512#32
  let v1116 : BitVec 32 := Scalar.subi v3 c512_i32
  let c0_i32_217 : BitVec 32 := 0#32
  let v1117 : BitVec 32 := Scalar.maxsi v1116 c0_i32_217
  let v1118 : BitVec 32 := v1117
  let v1134 : Index := Scalar.indexCast v1118
  let c0_223 : Index := 0#32
  ![0, v1134.toNat, 0]
def k0_off2 (i : grid0.Coords) : Fin 3 → Nat :=
  let c0_267 : Index := 0#32
  let arg1 : BitVec 32 := BitVec.ofNat 32 (i 1).val
  let c128_i32 : BitVec 32 := 128#32
  let v3 : BitVec 32 := Scalar.muli arg1 c128_i32
  let c512_i32 : BitVec 32 := 512#32
  let v1116 : BitVec 32 := Scalar.subi v3 c512_i32
  let c0_i32_217 : BitVec 32 := 0#32
  let v1117 : BitVec 32 := Scalar.maxsi v1116 c0_i32_217
  let v1118 : BitVec 32 := v1117
  let v1258 : Index := Scalar.indexCast v1118
  let c128_268 : Index := 128#32
  ![0, v1258.toNat, 128]
def k0_cond2 (i : grid0.Coords) : BitVec 1 :=
  let arg1 : BitVec 32 := BitVec.ofNat 32 (i 1).val
  let c0_i32_312 : BitVec 32 := 0#32
  let v1383 : BitVec 1 := Scalar.cmpi .sgt arg1 c0_i32_312
  let v1384 : BitVec 32 := Scalar.extui v1383
  let c0_i32_313 : BitVec 32 := 0#32
  let v1385 : BitVec 1 := Scalar.cmpi .slt arg1 c0_i32_313
  let v1386 : BitVec 32 := Scalar.extui v1385
  let v1387 : BitVec 32 := Scalar.subi v1384 v1386
  let c2_i32_311 : BitVec 32 := 2#32
  let c0_i32_314 : BitVec 32 := 0#32
  let v1388 : BitVec 1 := Scalar.cmpi .sgt c2_i32_311 c0_i32_314
  let v1389 : BitVec 32 := Scalar.extui v1388
  let c0_i32_315 : BitVec 32 := 0#32
  let v1390 : BitVec 1 := Scalar.cmpi .slt c2_i32_311 c0_i32_315
  let v1391 : BitVec 32 := Scalar.extui v1390
  let v1392 : BitVec 32 := Scalar.subi v1389 v1391
  let v1393 : BitVec 1 := Scalar.cmpi .ne v1387 v1392
  let v1394 : BitVec 32 := Scalar.remsi arg1 c2_i32_311
  let c0_i32_316 : BitVec 32 := 0#32
  let v1395 : BitVec 1 := Scalar.cmpi .ne v1394 c0_i32_316
  let v1396 : BitVec 1 := Scalar.andi v1393 v1395
  let v1382 : BitVec 32 := Scalar.divsi arg1 c2_i32_311
  let c1_i32_317 : BitVec 32 := 1#32
  let v1397 : BitVec 32 := Scalar.subi v1382 c1_i32_317
  let v1398 : BitVec 32 := Scalar.select v1396 v1397 v1382
  let c0_i32_318 : BitVec 32 := 0#32
  let v1399 : BitVec 1 := Scalar.cmpi .eq v1398 c0_i32_318
  let v1400 : BitVec 32 := Scalar.extui v1399
  let c0_i32_319 : BitVec 32 := 0#32
  let v1401 : BitVec 1 := Scalar.cmpi .ne v1400 c0_i32_319
  v1401

def k0_cond3 (i : grid0.Coords) : BitVec 1 :=
  let arg1 : BitVec 32 := BitVec.ofNat 32 (i 1).val
  let c0_i32_321 : BitVec 32 := 0#32
  let v1403 : BitVec 1 := Scalar.cmpi .sgt arg1 c0_i32_321
  let v1404 : BitVec 32 := Scalar.extui v1403
  let c0_i32_322 : BitVec 32 := 0#32
  let v1405 : BitVec 1 := Scalar.cmpi .slt arg1 c0_i32_322
  let v1406 : BitVec 32 := Scalar.extui v1405
  let v1407 : BitVec 32 := Scalar.subi v1404 v1406
  let c2_i32_320 : BitVec 32 := 2#32
  let c0_i32_323 : BitVec 32 := 0#32
  let v1408 : BitVec 1 := Scalar.cmpi .sgt c2_i32_320 c0_i32_323
  let v1409 : BitVec 32 := Scalar.extui v1408
  let c0_i32_324 : BitVec 32 := 0#32
  let v1410 : BitVec 1 := Scalar.cmpi .slt c2_i32_320 c0_i32_324
  let v1411 : BitVec 32 := Scalar.extui v1410
  let v1412 : BitVec 32 := Scalar.subi v1409 v1411
  let v1413 : BitVec 1 := Scalar.cmpi .ne v1407 v1412
  let v1414 : BitVec 32 := Scalar.remsi arg1 c2_i32_320
  let c0_i32_325 : BitVec 32 := 0#32
  let v1415 : BitVec 1 := Scalar.cmpi .ne v1414 c0_i32_325
  let v1416 : BitVec 1 := Scalar.andi v1413 v1415
  let v1402 : BitVec 32 := Scalar.divsi arg1 c2_i32_320
  let c1_i32_326 : BitVec 32 := 1#32
  let v1417 : BitVec 32 := Scalar.subi v1402 c1_i32_326
  let v1418 : BitVec 32 := Scalar.select v1416 v1417 v1402
  let c1_i32_327 : BitVec 32 := 1#32
  let v1419 : BitVec 1 := Scalar.cmpi .eq v1418 c1_i32_327
  let v1420 : BitVec 32 := Scalar.extui v1419
  let c0_i32_328 : BitVec 32 := 0#32
  let v1421 : BitVec 1 := Scalar.cmpi .ne v1420 c0_i32_328
  v1421

def k0_cond4 (i : grid0.Coords) : BitVec 1 :=
  let arg1 : BitVec 32 := BitVec.ofNat 32 (i 1).val
  let c0_i32_330 : BitVec 32 := 0#32
  let v1423 : BitVec 1 := Scalar.cmpi .sgt arg1 c0_i32_330
  let v1424 : BitVec 32 := Scalar.extui v1423
  let c0_i32_331 : BitVec 32 := 0#32
  let v1425 : BitVec 1 := Scalar.cmpi .slt arg1 c0_i32_331
  let v1426 : BitVec 32 := Scalar.extui v1425
  let v1427 : BitVec 32 := Scalar.subi v1424 v1426
  let c2_i32_329 : BitVec 32 := 2#32
  let c0_i32_332 : BitVec 32 := 0#32
  let v1428 : BitVec 1 := Scalar.cmpi .sgt c2_i32_329 c0_i32_332
  let v1429 : BitVec 32 := Scalar.extui v1428
  let c0_i32_333 : BitVec 32 := 0#32
  let v1430 : BitVec 1 := Scalar.cmpi .slt c2_i32_329 c0_i32_333
  let v1431 : BitVec 32 := Scalar.extui v1430
  let v1432 : BitVec 32 := Scalar.subi v1429 v1431
  let v1433 : BitVec 1 := Scalar.cmpi .ne v1427 v1432
  let v1434 : BitVec 32 := Scalar.remsi arg1 c2_i32_329
  let c0_i32_334 : BitVec 32 := 0#32
  let v1435 : BitVec 1 := Scalar.cmpi .ne v1434 c0_i32_334
  let v1436 : BitVec 1 := Scalar.andi v1433 v1435
  let v1422 : BitVec 32 := Scalar.divsi arg1 c2_i32_329
  let c1_i32_335 : BitVec 32 := 1#32
  let v1437 : BitVec 32 := Scalar.subi v1422 c1_i32_335
  let v1438 : BitVec 32 := Scalar.select v1436 v1437 v1422
  let c2_i32_336 : BitVec 32 := 2#32
  let v1439 : BitVec 1 := Scalar.cmpi .eq v1438 c2_i32_336
  let v1440 : BitVec 32 := Scalar.extui v1439
  let c0_i32_337 : BitVec 32 := 0#32
  let v1441 : BitVec 1 := Scalar.cmpi .ne v1440 c0_i32_337
  v1441

def k0_cond5 (i : grid0.Coords) : BitVec 1 :=
  let arg1 : BitVec 32 := BitVec.ofNat 32 (i 1).val
  let c0_i32_339 : BitVec 32 := 0#32
  let v1443 : BitVec 1 := Scalar.cmpi .sgt arg1 c0_i32_339
  let v1444 : BitVec 32 := Scalar.extui v1443
  let c0_i32_340 : BitVec 32 := 0#32
  let v1445 : BitVec 1 := Scalar.cmpi .slt arg1 c0_i32_340
  let v1446 : BitVec 32 := Scalar.extui v1445
  let v1447 : BitVec 32 := Scalar.subi v1444 v1446
  let c2_i32_338 : BitVec 32 := 2#32
  let c0_i32_341 : BitVec 32 := 0#32
  let v1448 : BitVec 1 := Scalar.cmpi .sgt c2_i32_338 c0_i32_341
  let v1449 : BitVec 32 := Scalar.extui v1448
  let c0_i32_342 : BitVec 32 := 0#32
  let v1450 : BitVec 1 := Scalar.cmpi .slt c2_i32_338 c0_i32_342
  let v1451 : BitVec 32 := Scalar.extui v1450
  let v1452 : BitVec 32 := Scalar.subi v1449 v1451
  let v1453 : BitVec 1 := Scalar.cmpi .ne v1447 v1452
  let v1454 : BitVec 32 := Scalar.remsi arg1 c2_i32_338
  let c0_i32_343 : BitVec 32 := 0#32
  let v1455 : BitVec 1 := Scalar.cmpi .ne v1454 c0_i32_343
  let v1456 : BitVec 1 := Scalar.andi v1453 v1455
  let v1442 : BitVec 32 := Scalar.divsi arg1 c2_i32_338
  let c1_i32_344 : BitVec 32 := 1#32
  let v1457 : BitVec 32 := Scalar.subi v1442 c1_i32_344
  let v1458 : BitVec 32 := Scalar.select v1456 v1457 v1442
  let c3_i32_345 : BitVec 32 := 3#32
  let v1459 : BitVec 1 := Scalar.cmpi .eq v1458 c3_i32_345
  let v1460 : BitVec 32 := Scalar.extui v1459
  let c0_i32_346 : BitVec 32 := 0#32
  let v1461 : BitVec 1 := Scalar.cmpi .ne v1460 c0_i32_346
  v1461

def k0_cond6 (i : grid0.Coords) : BitVec 1 :=
  let arg1 : BitVec 32 := BitVec.ofNat 32 (i 1).val
  let c0_i32_348 : BitVec 32 := 0#32
  let v1463 : BitVec 1 := Scalar.cmpi .sgt arg1 c0_i32_348
  let v1464 : BitVec 32 := Scalar.extui v1463
  let c0_i32_349 : BitVec 32 := 0#32
  let v1465 : BitVec 1 := Scalar.cmpi .slt arg1 c0_i32_349
  let v1466 : BitVec 32 := Scalar.extui v1465
  let v1467 : BitVec 32 := Scalar.subi v1464 v1466
  let c2_i32_347 : BitVec 32 := 2#32
  let c0_i32_350 : BitVec 32 := 0#32
  let v1468 : BitVec 1 := Scalar.cmpi .sgt c2_i32_347 c0_i32_350
  let v1469 : BitVec 32 := Scalar.extui v1468
  let c0_i32_351 : BitVec 32 := 0#32
  let v1470 : BitVec 1 := Scalar.cmpi .slt c2_i32_347 c0_i32_351
  let v1471 : BitVec 32 := Scalar.extui v1470
  let v1472 : BitVec 32 := Scalar.subi v1469 v1471
  let v1473 : BitVec 1 := Scalar.cmpi .ne v1467 v1472
  let v1474 : BitVec 32 := Scalar.remsi arg1 c2_i32_347
  let c0_i32_352 : BitVec 32 := 0#32
  let v1475 : BitVec 1 := Scalar.cmpi .ne v1474 c0_i32_352
  let v1476 : BitVec 1 := Scalar.andi v1473 v1475
  let v1462 : BitVec 32 := Scalar.divsi arg1 c2_i32_347
  let c1_i32_353 : BitVec 32 := 1#32
  let v1477 : BitVec 32 := Scalar.subi v1462 c1_i32_353
  let v1478 : BitVec 32 := Scalar.select v1476 v1477 v1462
  let c4_i32_354 : BitVec 32 := 4#32
  let v1479 : BitVec 1 := Scalar.cmpi .eq v1478 c4_i32_354
  let v1480 : BitVec 32 := Scalar.extui v1479
  let c0_i32_355 : BitVec 32 := 0#32
  let v1481 : BitVec 1 := Scalar.cmpi .ne v1480 c0_i32_355
  v1481

def k0_cond7 (i : grid0.Coords) : BitVec 1 :=
  let arg1 : BitVec 32 := BitVec.ofNat 32 (i 1).val
  let c0_i32_357 : BitVec 32 := 0#32
  let v1483 : BitVec 1 := Scalar.cmpi .sgt arg1 c0_i32_357
  let v1484 : BitVec 32 := Scalar.extui v1483
  let c0_i32_358 : BitVec 32 := 0#32
  let v1485 : BitVec 1 := Scalar.cmpi .slt arg1 c0_i32_358
  let v1486 : BitVec 32 := Scalar.extui v1485
  let v1487 : BitVec 32 := Scalar.subi v1484 v1486
  let c2_i32_356 : BitVec 32 := 2#32
  let c0_i32_359 : BitVec 32 := 0#32
  let v1488 : BitVec 1 := Scalar.cmpi .sgt c2_i32_356 c0_i32_359
  let v1489 : BitVec 32 := Scalar.extui v1488
  let c0_i32_360 : BitVec 32 := 0#32
  let v1490 : BitVec 1 := Scalar.cmpi .slt c2_i32_356 c0_i32_360
  let v1491 : BitVec 32 := Scalar.extui v1490
  let v1492 : BitVec 32 := Scalar.subi v1489 v1491
  let v1493 : BitVec 1 := Scalar.cmpi .ne v1487 v1492
  let v1494 : BitVec 32 := Scalar.remsi arg1 c2_i32_356
  let c0_i32_361 : BitVec 32 := 0#32
  let v1495 : BitVec 1 := Scalar.cmpi .ne v1494 c0_i32_361
  let v1496 : BitVec 1 := Scalar.andi v1493 v1495
  let v1482 : BitVec 32 := Scalar.divsi arg1 c2_i32_356
  let c1_i32_362 : BitVec 32 := 1#32
  let v1497 : BitVec 32 := Scalar.subi v1482 c1_i32_362
  let v1498 : BitVec 32 := Scalar.select v1496 v1497 v1482
  let c5_i32_363 : BitVec 32 := 5#32
  let v1499 : BitVec 1 := Scalar.cmpi .eq v1498 c5_i32_363
  let v1500 : BitVec 32 := Scalar.extui v1499
  let c0_i32_364 : BitVec 32 := 0#32
  let v1501 : BitVec 1 := Scalar.cmpi .ne v1500 c0_i32_364
  v1501

def k0_cond8 (i : grid0.Coords) : BitVec 1 :=
  let arg1 : BitVec 32 := BitVec.ofNat 32 (i 1).val
  let c0_i32_366 : BitVec 32 := 0#32
  let v1503 : BitVec 1 := Scalar.cmpi .sgt arg1 c0_i32_366
  let v1504 : BitVec 32 := Scalar.extui v1503
  let c0_i32_367 : BitVec 32 := 0#32
  let v1505 : BitVec 1 := Scalar.cmpi .slt arg1 c0_i32_367
  let v1506 : BitVec 32 := Scalar.extui v1505
  let v1507 : BitVec 32 := Scalar.subi v1504 v1506
  let c2_i32_365 : BitVec 32 := 2#32
  let c0_i32_368 : BitVec 32 := 0#32
  let v1508 : BitVec 1 := Scalar.cmpi .sgt c2_i32_365 c0_i32_368
  let v1509 : BitVec 32 := Scalar.extui v1508
  let c0_i32_369 : BitVec 32 := 0#32
  let v1510 : BitVec 1 := Scalar.cmpi .slt c2_i32_365 c0_i32_369
  let v1511 : BitVec 32 := Scalar.extui v1510
  let v1512 : BitVec 32 := Scalar.subi v1509 v1511
  let v1513 : BitVec 1 := Scalar.cmpi .ne v1507 v1512
  let v1514 : BitVec 32 := Scalar.remsi arg1 c2_i32_365
  let c0_i32_370 : BitVec 32 := 0#32
  let v1515 : BitVec 1 := Scalar.cmpi .ne v1514 c0_i32_370
  let v1516 : BitVec 1 := Scalar.andi v1513 v1515
  let v1502 : BitVec 32 := Scalar.divsi arg1 c2_i32_365
  let c1_i32_371 : BitVec 32 := 1#32
  let v1517 : BitVec 32 := Scalar.subi v1502 c1_i32_371
  let v1518 : BitVec 32 := Scalar.select v1516 v1517 v1502
  let c6_i32_372 : BitVec 32 := 6#32
  let v1519 : BitVec 1 := Scalar.cmpi .eq v1518 c6_i32_372
  let v1520 : BitVec 32 := Scalar.extui v1519
  let c0_i32_373 : BitVec 32 := 0#32
  let v1521 : BitVec 1 := Scalar.cmpi .ne v1520 c0_i32_373
  v1521

def k0_cond9 (i : grid0.Coords) : BitVec 1 :=
  let arg1 : BitVec 32 := BitVec.ofNat 32 (i 1).val
  let c0_i32_375 : BitVec 32 := 0#32
  let v1523 : BitVec 1 := Scalar.cmpi .sgt arg1 c0_i32_375
  let v1524 : BitVec 32 := Scalar.extui v1523
  let c0_i32_376 : BitVec 32 := 0#32
  let v1525 : BitVec 1 := Scalar.cmpi .slt arg1 c0_i32_376
  let v1526 : BitVec 32 := Scalar.extui v1525
  let v1527 : BitVec 32 := Scalar.subi v1524 v1526
  let c2_i32_374 : BitVec 32 := 2#32
  let c0_i32_377 : BitVec 32 := 0#32
  let v1528 : BitVec 1 := Scalar.cmpi .sgt c2_i32_374 c0_i32_377
  let v1529 : BitVec 32 := Scalar.extui v1528
  let c0_i32_378 : BitVec 32 := 0#32
  let v1530 : BitVec 1 := Scalar.cmpi .slt c2_i32_374 c0_i32_378
  let v1531 : BitVec 32 := Scalar.extui v1530
  let v1532 : BitVec 32 := Scalar.subi v1529 v1531
  let v1533 : BitVec 1 := Scalar.cmpi .ne v1527 v1532
  let v1534 : BitVec 32 := Scalar.remsi arg1 c2_i32_374
  let c0_i32_379 : BitVec 32 := 0#32
  let v1535 : BitVec 1 := Scalar.cmpi .ne v1534 c0_i32_379
  let v1536 : BitVec 1 := Scalar.andi v1533 v1535
  let v1522 : BitVec 32 := Scalar.divsi arg1 c2_i32_374
  let c1_i32_380 : BitVec 32 := 1#32
  let v1537 : BitVec 32 := Scalar.subi v1522 c1_i32_380
  let v1538 : BitVec 32 := Scalar.select v1536 v1537 v1522
  let c7_i32_381 : BitVec 32 := 7#32
  let v1539 : BitVec 1 := Scalar.cmpi .eq v1538 c7_i32_381
  let v1540 : BitVec 32 := Scalar.extui v1539
  let c0_i32_382 : BitVec 32 := 0#32
  let v1541 : BitVec 1 := Scalar.cmpi .ne v1540 c0_i32_382
  v1541

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S128x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x8x64 : Shape := ⟨4, ![8, 2048, 8, 64]⟩
abbrev S8x2048x2x64 : Shape := ⟨4, ![8, 2048, 2, 64]⟩
abbrev S8x2048x8x3 : Shape := ⟨4, ![8, 2048, 8, 3]⟩
abbrev S32x64 : Shape := ⟨2, ![32, 64]⟩
abbrev S32x64x64 : Shape := ⟨3, ![32, 64, 64]⟩
abbrev S64x64 : Shape := ⟨2, ![64, 64]⟩
abbrev S2048 : Shape := ⟨1, ![2048]⟩
abbrev S8x2048x2x4x64 : Shape := ⟨5, ![8, 2048, 2, 4, 64]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x2x2048x2048x4 : Shape := ⟨5, ![8, 2, 2048, 2048, 4]⟩
abbrev S8x2x4x2048x2048 : Shape := ⟨5, ![8, 2, 4, 2048, 2048]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩
abbrev S8x128x16x2x64 : Shape := ⟨5, ![8, 128, 16, 2, 64]⟩
abbrev S8x127x16x2x64 : Shape := ⟨5, ![8, 127, 16, 2, 64]⟩
abbrev S8x127x32x2x64 : Shape := ⟨5, ![8, 127, 32, 2, 64]⟩
abbrev S32x1x64 : Shape := ⟨3, ![32, 1, 64]⟩
abbrev S1x1x32x1x64 : Shape := ⟨5, ![1, 1, 32, 1, 64]⟩
abbrev S8x127x2x64 : Shape := ⟨4, ![8, 127, 2, 64]⟩
abbrev S127 : Shape := ⟨1, ![127]⟩
abbrev S1x127 : Shape := ⟨2, ![1, 127]⟩
abbrev S2048x127 : Shape := ⟨2, ![2048, 127]⟩
abbrev S8x2x127x2048x4 : Shape := ⟨5, ![8, 2, 127, 2048, 4]⟩
abbrev S8x2x4x2048x127 : Shape := ⟨5, ![8, 2, 4, 2048, 127]⟩
abbrev S8x2x2048x127 : Shape := ⟨4, ![8, 2, 2048, 127]⟩
abbrev S8x2x2048x128 : Shape := ⟨4, ![8, 2, 2048, 128]⟩
abbrev S8x2x2048x32x4 : Shape := ⟨5, ![8, 2, 2048, 32, 4]⟩
abbrev S8x2x2048x32 : Shape := ⟨4, ![8, 2, 2048, 32]⟩
abbrev S32 : Shape := ⟨1, ![32]⟩
abbrev S1x32 : Shape := ⟨2, ![1, 32]⟩
abbrev S2048x32 : Shape := ⟨2, ![2048, 32]⟩
abbrev S8x2x2048x16 : Shape := ⟨4, ![8, 2, 2048, 16]⟩
abbrev S8x32x64x2x64 : Shape := ⟨5, ![8, 32, 64, 2, 64]⟩
abbrev S8x2x32x64x64 : Shape := ⟨5, ![8, 2, 32, 64, 64]⟩
abbrev S8x2x2048x16x1 : Shape := ⟨5, ![8, 2, 2048, 16, 1]⟩
abbrev S8x2x2048x16x64x64 : Shape := ⟨6, ![8, 2, 2048, 16, 64, 64]⟩
abbrev S8x2x2048x1024x64 : Shape := ⟨5, ![8, 2, 2048, 1024, 64]⟩
abbrev S64 : Shape := ⟨1, ![64]⟩
abbrev S1x1x1x1x64 : Shape := ⟨5, ![1, 1, 1, 1, 64]⟩
abbrev S8x2x2048x16x64 : Shape := ⟨5, ![8, 2, 2048, 16, 64]⟩
abbrev S8x2x2048x1024 : Shape := ⟨4, ![8, 2, 2048, 1024]⟩
abbrev S1x1x2048x1 : Shape := ⟨4, ![1, 1, 2048, 1]⟩
abbrev S8x2x1x2048x1024 : Shape := ⟨5, ![8, 2, 1, 2048, 1024]⟩
abbrev S8x2x2048x1024x4 : Shape := ⟨5, ![8, 2, 2048, 1024, 4]⟩
abbrev S8x2x4x2048x1024 : Shape := ⟨5, ![8, 2, 4, 2048, 1024]⟩
abbrev S8x2048x8x1 : Shape := ⟨4, ![8, 2048, 8, 1]⟩
abbrev S8x2048x512 : Shape := ⟨3, ![8, 2048, 512]⟩

abbrev nBuf : Space → Nat
  | .hbm => 305
  | .vmem => 0
  | .smem => 0
  | _ => 0

abbrev hbmTy0_0 (i : Nat) : BufTy := match i % 128 with
  | 0 => ⟨S8x2048x8x64, .f32⟩
  | 1 => ⟨S8x2048x2x64, .f32⟩
  | 2 => ⟨S8x2048x2x64, .f32⟩
  | 3 => ⟨S8x2048x2x64, .f32⟩
  | 4 => ⟨S8x2048x2x64, .f32⟩
  | 5 => ⟨S8x2048x2x64, .f32⟩
  | 6 => ⟨S8x2048x2x64, .f32⟩
  | 7 => ⟨S8x2048x8x3, .f32⟩
  | 8 => ⟨S32x64, .f32⟩
  | 9 => ⟨S32x64x64, .f32⟩
  | 10 => ⟨S64x64, .f32⟩
  | 11 => ⟨S32x64x64, .f32⟩
  | 12 => ⟨S64x64, .f32⟩
  | 13 => ⟨S2048, .i32⟩
  | 14 => ⟨S8x2048x2x4x64, .f32⟩
  | 15 => ⟨S2048x1, .i32⟩
  | 16 => ⟨S1x2048, .i32⟩
  | 17 => ⟨S2048x2048, .i32⟩
  | 18 => ⟨S2048x2048, .i32⟩
  | 19 => ⟨S2048x2048, .i32⟩
  | 20 => ⟨S_, .i32⟩
  | 21 => ⟨S2048x2048, .i32⟩
  | 22 => ⟨S2048x2048, .i1⟩
  | 23 => ⟨S_, .i32⟩
  | 24 => ⟨S2048x2048, .i32⟩
  | 25 => ⟨S2048x2048, .i1⟩
  | 26 => ⟨S2048x2048, .i1⟩
  | 27 => ⟨S8x2x2048x2048x4, .f32⟩
  | 28 => ⟨S8x2x4x2048x2048, .f32⟩
  | 29 => ⟨S_, .f32⟩
  | 30 => ⟨S8x2x4x2048x2048, .f32⟩
  | 31 => ⟨S8x2x4x2048x2048, .f32⟩
  | 32 => ⟨S_, .f32⟩
  | 33 => ⟨S_, .f32⟩
  | 34 => ⟨S8x2x4x2048x2048, .i1⟩
  | 35 => ⟨S8x2x4x2048x2048, .f32⟩
  | 36 => ⟨S8x2x4x2048x2048, .f32⟩
  | 37 => ⟨S_, .f32⟩
  | 38 => ⟨S8x2x4x2048, .f32⟩
  | 39 => ⟨S8x2x4x2048x1, .f32⟩
  | 40 => ⟨S8x2x4x2048x2048, .f32⟩
  | 41 => ⟨S8x2x4x2048x2048, .f32⟩
  | 42 => ⟨S8x2x4x2048x2048, .f32⟩
  | 43 => ⟨S_, .f32⟩
  | 44 => ⟨S_, .f32⟩
  | 45 => ⟨S8x2x4x2048x2048, .i1⟩
  | 46 => ⟨S8x2x4x2048x2048, .f32⟩
  | 47 => ⟨S8x2x4x2048x2048, .f32⟩
  | 48 => ⟨S_, .f32⟩
  | 49 => ⟨S8x2x4x2048, .f32⟩
  | 50 => ⟨S8x2x4x2048x1, .f32⟩
  | 51 => ⟨S_, .f32⟩
  | 52 => ⟨S8x2x4x2048x1, .f32⟩
  | 53 => ⟨S8x2x4x2048x1, .f32⟩
  | 54 => ⟨S8x2x4x2048x2048, .f32⟩
  | 55 => ⟨S8x2x4x2048x2048, .f32⟩
  | 56 => ⟨S8x2x64x4x2048, .f32⟩
  | 57 => ⟨S8x2048x2x4x64, .f32⟩
  | 58 => ⟨S8x128x16x2x64, .f32⟩
  | 59 => ⟨S8x127x16x2x64, .f32⟩
  | 60 => ⟨S8x127x16x2x64, .f32⟩
  | 61 => ⟨S8x127x32x2x64, .f32⟩
  | 62 => ⟨S32x1x64, .f32⟩
  | 63 => ⟨S1x1x32x1x64, .f32⟩
  | 64 => ⟨S8x127x32x2x64, .f32⟩
  | 65 => ⟨S8x127x32x2x64, .f32⟩
  | 66 => ⟨S8x127x2x64, .f32⟩
  | 67 => ⟨S8x127x2x64, .f32⟩
  | 68 => ⟨S8x127x2x64, .f32⟩
  | 69 => ⟨S_, .f32⟩
  | 70 => ⟨S8x127x2x64, .f32⟩
  | 71 => ⟨S8x127x2x64, .f32⟩
  | 72 => ⟨S8x127x2x64, .f32⟩
  | 73 => ⟨S_, .f32⟩
  | 74 => ⟨S8x127x2x64, .f32⟩
  | 75 => ⟨S8x127x2x64, .f32⟩
  | 76 => ⟨S8x127x2x64, .f32⟩
  | 77 => ⟨S_, .f32⟩
  | 78 => ⟨S8x127x2x64, .f32⟩
  | 79 => ⟨S8x127x2x64, .f32⟩
  | 80 => ⟨S_, .f32⟩
  | 81 => ⟨S8x127x2x64, .f32⟩
  | 82 => ⟨S8x127x2x64, .f32⟩
  | 83 => ⟨S8x127x2x64, .f32⟩
  | 84 => ⟨S8x127x2x64, .f32⟩
  | 85 => ⟨S8x128x16x2x64, .f32⟩
  | 86 => ⟨S8x127x16x2x64, .f32⟩
  | 87 => ⟨S8x127x16x2x64, .f32⟩
  | 88 => ⟨S8x127x32x2x64, .f32⟩
  | 89 => ⟨S32x1x64, .f32⟩
  | 90 => ⟨S1x1x32x1x64, .f32⟩
  | 91 => ⟨S8x127x32x2x64, .f32⟩
  | 92 => ⟨S8x127x32x2x64, .f32⟩
  | 93 => ⟨S8x127x2x64, .f32⟩
  | 94 => ⟨S8x127x2x64, .f32⟩
  | 95 => ⟨S8x127x2x64, .f32⟩
  | 96 => ⟨S_, .f32⟩
  | 97 => ⟨S8x127x2x64, .f32⟩
  | 98 => ⟨S8x127x2x64, .f32⟩
  | 99 => ⟨S8x127x2x64, .f32⟩
  | 100 => ⟨S_, .f32⟩
  | 101 => ⟨S8x127x2x64, .f32⟩
  | 102 => ⟨S8x127x2x64, .f32⟩
  | 103 => ⟨S8x127x2x64, .f32⟩
  | 104 => ⟨S_, .f32⟩
  | 105 => ⟨S8x127x2x64, .f32⟩
  | 106 => ⟨S8x127x2x64, .f32⟩
  | 107 => ⟨S_, .f32⟩
  | 108 => ⟨S8x127x2x64, .f32⟩
  | 109 => ⟨S8x127x2x64, .f32⟩
  | 110 => ⟨S8x127x2x64, .f32⟩
  | 111 => ⟨S8x127x2x64, .f32⟩
  | 112 => ⟨S127, .i32⟩
  | 113 => ⟨S_, .i32⟩
  | 114 => ⟨S127, .i32⟩
  | 115 => ⟨S127, .i32⟩
  | 116 => ⟨S_, .i32⟩
  | 117 => ⟨S127, .i32⟩
  | 118 => ⟨S127, .i32⟩
  | 119 => ⟨S_, .i32⟩
  | 120 => ⟨S127, .i32⟩
  | 121 => ⟨S127, .i32⟩
  | 122 => ⟨S1x127, .i32⟩
  | 123 => ⟨S2048x1, .i32⟩
  | 124 => ⟨S2048x127, .i32⟩
  | 125 => ⟨S2048x127, .i32⟩
  | 126 => ⟨S2048x127, .i1⟩
  | 127 => ⟨S8x2x127x2048x4, .f32⟩
  | _ => ⟨S8x2048x8x64, .f32⟩

abbrev hbmTy0_1 (i : Nat) : BufTy := match i % 128 with
  | 0 => ⟨S8x2x4x2048x127, .f32⟩
  | 1 => ⟨S_, .f32⟩
  | 2 => ⟨S8x2x4x2048x127, .f32⟩
  | 3 => ⟨S8x2x4x2048x127, .f32⟩
  | 4 => ⟨S_, .f32⟩
  | 5 => ⟨S_, .f32⟩
  | 6 => ⟨S8x2x4x2048x127, .i1⟩
  | 7 => ⟨S8x2x4x2048x127, .f32⟩
  | 8 => ⟨S8x2x4x2048x127, .f32⟩
  | 9 => ⟨S_, .f32⟩
  | 10 => ⟨S8x2x4x2048, .f32⟩
  | 11 => ⟨S8x2x4x2048x1, .f32⟩
  | 12 => ⟨S8x2x4x2048x127, .f32⟩
  | 13 => ⟨S8x2x4x2048x127, .f32⟩
  | 14 => ⟨S8x2x4x2048x127, .f32⟩
  | 15 => ⟨S_, .f32⟩
  | 16 => ⟨S_, .f32⟩
  | 17 => ⟨S8x2x4x2048x127, .i1⟩
  | 18 => ⟨S8x2x4x2048x127, .f32⟩
  | 19 => ⟨S8x2x4x2048x127, .f32⟩
  | 20 => ⟨S_, .f32⟩
  | 21 => ⟨S8x2x4x2048, .f32⟩
  | 22 => ⟨S8x2x4x2048x1, .f32⟩
  | 23 => ⟨S_, .f32⟩
  | 24 => ⟨S8x2x4x2048x1, .f32⟩
  | 25 => ⟨S8x2x4x2048x1, .f32⟩
  | 26 => ⟨S8x2x4x2048x127, .f32⟩
  | 27 => ⟨S8x2x4x2048x127, .f32⟩
  | 28 => ⟨S8x2x64x4x2048, .f32⟩
  | 29 => ⟨S8x2048x2x4x64, .f32⟩
  | 30 => ⟨S_, .f32⟩
  | 31 => ⟨S8x2x2048x127, .f32⟩
  | 32 => ⟨S_, .i32⟩
  | 33 => ⟨S_, .f32⟩
  | 34 => ⟨S8x2x2048x128, .f32⟩
  | 35 => ⟨S_, .f32⟩
  | 36 => ⟨S8x2x2048x128, .f32⟩
  | 37 => ⟨S8x2x2048x128, .f32⟩
  | 38 => ⟨S_, .i32⟩
  | 39 => ⟨S_, .f32⟩
  | 40 => ⟨S8x2x2048x128, .f32⟩
  | 41 => ⟨S8x2x2048x128, .f32⟩
  | 42 => ⟨S8x2x2048x32x4, .f32⟩
  | 43 => ⟨S_, .f32⟩
  | 44 => ⟨S8x2x2048x32, .f32⟩
  | 45 => ⟨S32, .i32⟩
  | 46 => ⟨S1x32, .i32⟩
  | 47 => ⟨S_, .i32⟩
  | 48 => ⟨S2048, .i32⟩
  | 49 => ⟨S2048, .i32⟩
  | 50 => ⟨S2048x1, .i32⟩
  | 51 => ⟨S_, .i32⟩
  | 52 => ⟨S1x32, .i32⟩
  | 53 => ⟨S1x32, .i1⟩
  | 54 => ⟨S2048x32, .i32⟩
  | 55 => ⟨S2048x32, .i32⟩
  | 56 => ⟨S2048x32, .i1⟩
  | 57 => ⟨S2048x32, .i1⟩
  | 58 => ⟨S2048x32, .i1⟩
  | 59 => ⟨S_, .i32⟩
  | 60 => ⟨S2048x1, .i32⟩
  | 61 => ⟨S2048x1, .i32⟩
  | 62 => ⟨S2048x32, .i32⟩
  | 63 => ⟨S2048x32, .i32⟩
  | 64 => ⟨S2048x32, .i1⟩
  | 65 => ⟨S2048x32, .i1⟩
  | 66 => ⟨S_, .i32⟩
  | 67 => ⟨S1x32, .i32⟩
  | 68 => ⟨S1x32, .i32⟩
  | 69 => ⟨S2048x1, .i32⟩
  | 70 => ⟨S2048x32, .i32⟩
  | 71 => ⟨S2048x32, .i32⟩
  | 72 => ⟨S2048x32, .i1⟩
  | 73 => ⟨S_, .f32⟩
  | 74 => ⟨S_, .f32⟩
  | 75 => ⟨S8x2x2048x32, .i1⟩
  | 76 => ⟨S8x2x2048x32, .f32⟩
  | 77 => ⟨S8x2x2048x32, .f32⟩
  | 78 => ⟨S_, .f32⟩
  | 79 => ⟨S_, .f32⟩
  | 80 => ⟨S8x2x2048x32, .i1⟩
  | 81 => ⟨S8x2x2048x32, .f32⟩
  | 82 => ⟨S8x2x2048x32, .f32⟩
  | 83 => ⟨S8x2x2048x16, .f32⟩
  | 84 => ⟨S8x2x2048x16, .i32⟩
  | 85 => ⟨S8x32x64x2x64, .f32⟩
  | 86 => ⟨S8x2x32x64x64, .f32⟩
  | 87 => ⟨S8x32x64x2x64, .f32⟩
  | 88 => ⟨S8x2x32x64x64, .f32⟩
  | 89 => ⟨S_, .i32⟩
  | 90 => ⟨S8x2x2048x16, .i32⟩
  | 91 => ⟨S8x2x2048x16, .i1⟩
  | 92 => ⟨S_, .i32⟩
  | 93 => ⟨S8x2x2048x16, .i32⟩
  | 94 => ⟨S8x2x2048x16, .i32⟩
  | 95 => ⟨S8x2x2048x16, .i32⟩
  | 96 => ⟨S8x2x2048x16x1, .i32⟩
  | 97 => ⟨S8x2x2048x16x64x64, .f32⟩
  | 98 => ⟨S8x2x2048x1024x64, .f32⟩
  | 99 => ⟨S_, .i32⟩
  | 100 => ⟨S8x2x2048x16, .i32⟩
  | 101 => ⟨S8x2x2048x16, .i1⟩
  | 102 => ⟨S_, .i32⟩
  | 103 => ⟨S8x2x2048x16, .i32⟩
  | 104 => ⟨S8x2x2048x16, .i32⟩
  | 105 => ⟨S8x2x2048x16, .i32⟩
  | 106 => ⟨S8x2x2048x16x1, .i32⟩
  | 107 => ⟨S8x2x2048x16x64x64, .f32⟩
  | 108 => ⟨S8x2x2048x1024x64, .f32⟩
  | 109 => ⟨S8x2x2048x16x1, .i32⟩
  | 110 => ⟨S_, .i32⟩
  | 111 => ⟨S8x2x2048x16x1, .i32⟩
  | 112 => ⟨S8x2x2048x16x1, .i32⟩
  | 113 => ⟨S64, .i32⟩
  | 114 => ⟨S1x1x1x1x64, .i32⟩
  | 115 => ⟨S8x2x2048x16x64, .i32⟩
  | 116 => ⟨S8x2x2048x16x64, .i32⟩
  | 117 => ⟨S8x2x2048x16x64, .i32⟩
  | 118 => ⟨S8x2x2048x1024, .i32⟩
  | 119 => ⟨S1x1x2048x1, .i32⟩
  | 120 => ⟨S8x2x2048x1024, .i32⟩
  | 121 => ⟨S8x2x2048x1024, .i1⟩
  | 122 => ⟨S8x2x1x2048x1024, .i1⟩
  | 123 => ⟨S8x2x2048x1024x4, .f32⟩
  | 124 => ⟨S8x2x4x2048x1024, .f32⟩
  | 125 => ⟨S_, .f32⟩
  | 126 => ⟨S8x2x4x2048x1024, .f32⟩
  | 127 => ⟨S8x2x4x2048x1024, .f32⟩
  | _ => ⟨S8x2048x8x64, .f32⟩

abbrev hbmTy0_2 (i : Nat) : BufTy := match i % 128 with
  | 0 => ⟨S_, .f32⟩
  | 1 => ⟨S_, .f32⟩
  | 2 => ⟨S8x2x4x2048x1024, .i1⟩
  | 3 => ⟨S8x2x4x2048x1024, .f32⟩
  | 4 => ⟨S8x2x4x2048x1024, .f32⟩
  | 5 => ⟨S_, .f32⟩
  | 6 => ⟨S8x2x4x2048, .f32⟩
  | 7 => ⟨S8x2x4x2048x1, .f32⟩
  | 8 => ⟨S8x2x4x2048x1024, .f32⟩
  | 9 => ⟨S8x2x4x2048x1024, .f32⟩
  | 10 => ⟨S8x2x4x2048x1024, .f32⟩
  | 11 => ⟨S_, .f32⟩
  | 12 => ⟨S_, .f32⟩
  | 13 => ⟨S8x2x4x2048x1024, .i1⟩
  | 14 => ⟨S8x2x4x2048x1024, .f32⟩
  | 15 => ⟨S8x2x4x2048x1024, .f32⟩
  | 16 => ⟨S_, .f32⟩
  | 17 => ⟨S8x2x4x2048, .f32⟩
  | 18 => ⟨S8x2x4x2048x1, .f32⟩
  | 19 => ⟨S_, .f32⟩
  | 20 => ⟨S8x2x4x2048x1, .f32⟩
  | 21 => ⟨S8x2x4x2048x1, .f32⟩
  | 22 => ⟨S8x2x4x2048x1024, .f32⟩
  | 23 => ⟨S8x2x4x2048x1024, .f32⟩
  | 24 => ⟨S8x2048x2x4x64, .f32⟩
  | 25 => ⟨S8x2048x8x3, .f32⟩
  | 26 => ⟨S8x2048x8x3, .f32⟩
  | 27 => ⟨S_, .f32⟩
  | 28 => ⟨S8x2048x8x3, .f32⟩
  | 29 => ⟨S8x2048x8x3, .f32⟩
  | 30 => ⟨S_, .f32⟩
  | 31 => ⟨S8x2048x8x3, .f32⟩
  | 32 => ⟨S8x2048x8x3, .f32⟩
  | 33 => ⟨S8x2048x8x1, .f32⟩
  | 34 => ⟨S8x2048x8x64, .f32⟩
  | 35 => ⟨S8x2048x8x64, .f32⟩
  | 36 => ⟨S8x2048x8x64, .f32⟩
  | 37 => ⟨S8x2048x8x1, .f32⟩
  | 38 => ⟨S8x2048x8x64, .f32⟩
  | 39 => ⟨S8x2048x8x64, .f32⟩
  | 40 => ⟨S8x2048x8x64, .f32⟩
  | 41 => ⟨S8x2048x8x64, .f32⟩
  | 42 => ⟨S8x2048x8x1, .f32⟩
  | 43 => ⟨S8x2048x8x64, .f32⟩
  | 44 => ⟨S8x2048x8x64, .f32⟩
  | 45 => ⟨S8x2048x8x64, .f32⟩
  | 46 => ⟨S8x2048x8x64, .f32⟩
  | 47 => ⟨S8x2048x512, .f32⟩
  | 48 => ⟨S8x2048x512, .bf16⟩
  | _ => ⟨S8x2048x8x64, .f32⟩

abbrev hbmTy (i : Nat) : BufTy := match i / 128 with
  | 0 => hbmTy0_0 i
  | 1 => hbmTy0_1 i
  | 2 => hbmTy0_2 i
  | _ => ⟨S8x2048x8x64, .f32⟩

abbrev bufTy : (tb : Table) → Fin (tcTables nBuf tb) → BufTy
  | .hbm, ⟨i, _⟩ => hbmTy i
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_v24 : Ref sig .tc := ⟨.hbm, 50, rfl⟩
abbrev main_cst_5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_cst_9 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_10 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_11 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_12 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_14 : Ref sig .tc := ⟨.hbm, 113, rfl⟩
abbrev main_v78 : Ref sig .tc := ⟨.hbm, 114, rfl⟩
abbrev main_v79 : Ref sig .tc := ⟨.hbm, 115, rfl⟩
abbrev main_c_15 : Ref sig .tc := ⟨.hbm, 116, rfl⟩
abbrev main_v80 : Ref sig .tc := ⟨.hbm, 117, rfl⟩
abbrev main_v81 : Ref sig .tc := ⟨.hbm, 118, rfl⟩
abbrev main_c_16 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_17 : Ref sig .tc := ⟨.hbm, 129, rfl⟩
abbrev main_v91 : Ref sig .tc := ⟨.hbm, 130, rfl⟩
abbrev main_v92 : Ref sig .tc := ⟨.hbm, 131, rfl⟩
abbrev main_cst_18 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_v93 : Ref sig .tc := ⟨.hbm, 136, rfl⟩
abbrev main_cst_19 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_20 : Ref sig .tc := ⟨.hbm, 143, rfl⟩
abbrev main_call3_v0 : Ref sig .tc := ⟨.hbm, 144, rfl⟩
abbrev main_call3_v1 : Ref sig .tc := ⟨.hbm, 145, rfl⟩
abbrev main_call3_v2 : Ref sig .tc := ⟨.hbm, 146, rfl⟩
abbrev main_v99 : Ref sig .tc := ⟨.hbm, 147, rfl⟩
abbrev main_cst_21 : Ref sig .tc := ⟨.hbm, 148, rfl⟩
abbrev main_v100 : Ref sig .tc := ⟨.hbm, 149, rfl⟩
abbrev main_v101 : Ref sig .tc := ⟨.hbm, 150, rfl⟩
abbrev main_cst_22 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_cst_23 : Ref sig .tc := ⟨.hbm, 158, rfl⟩
abbrev main_v108 : Ref sig .tc := ⟨.hbm, 159, rfl⟩
abbrev main_c_24 : Ref sig .tc := ⟨.hbm, 160, rfl⟩
abbrev main_call4_v0 : Ref sig .tc := ⟨.hbm, 161, rfl⟩
abbrev main_v109 : Ref sig .tc := ⟨.hbm, 162, rfl⟩
abbrev main_cst_25 : Ref sig .tc := ⟨.hbm, 163, rfl⟩
abbrev main_v110 : Ref sig .tc := ⟨.hbm, 164, rfl⟩
abbrev main_v111 : Ref sig .tc := ⟨.hbm, 165, rfl⟩
abbrev main_c_26 : Ref sig .tc := ⟨.hbm, 166, rfl⟩
abbrev main_call5_v0 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_27 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_c_28 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_c_29 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_c_30 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_c_31 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_cst_32 : Ref sig .tc := ⟨.hbm, 201, rfl⟩
abbrev main_call6_v0 : Ref sig .tc := ⟨.hbm, 202, rfl⟩
abbrev main_call6_v1 : Ref sig .tc := ⟨.hbm, 203, rfl⟩
abbrev main_call6_v2 : Ref sig .tc := ⟨.hbm, 204, rfl⟩
abbrev main_v140 : Ref sig .tc := ⟨.hbm, 205, rfl⟩
abbrev main_cst_33 : Ref sig .tc := ⟨.hbm, 206, rfl⟩
abbrev main_call7_v0 : Ref sig .tc := ⟨.hbm, 207, rfl⟩
abbrev main_call7_v1 : Ref sig .tc := ⟨.hbm, 208, rfl⟩
abbrev main_call7_v2 : Ref sig .tc := ⟨.hbm, 209, rfl⟩
abbrev main_v141 : Ref sig .tc := ⟨.hbm, 210, rfl⟩
abbrev main_values : Ref sig .tc := ⟨.hbm, 211, rfl⟩
abbrev main_indices : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_c_34 : Ref sig .tc := ⟨.hbm, 217, rfl⟩
abbrev main_v146 : Ref sig .tc := ⟨.hbm, 218, rfl⟩
abbrev main_v147 : Ref sig .tc := ⟨.hbm, 219, rfl⟩
abbrev main_c_35 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_c_36 : Ref sig .tc := ⟨.hbm, 227, rfl⟩
abbrev main_v154 : Ref sig .tc := ⟨.hbm, 228, rfl⟩
abbrev main_v155 : Ref sig .tc := ⟨.hbm, 229, rfl⟩
abbrev main_c_37 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_c_38 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_cst_39 : Ref sig .tc := ⟨.hbm, 253, rfl⟩
abbrev main_v177 : Ref sig .tc := ⟨.hbm, 254, rfl⟩
abbrev main_v178 : Ref sig .tc := ⟨.hbm, 255, rfl⟩
abbrev main_cst_40 : Ref sig .tc := ⟨.hbm, 256, rfl⟩
abbrev main_call8_v0 : Ref sig .tc := ⟨.hbm, 257, rfl⟩
abbrev main_call8_v1 : Ref sig .tc := ⟨.hbm, 258, rfl⟩
abbrev main_call8_v2 : Ref sig .tc := ⟨.hbm, 259, rfl⟩
abbrev main_v179 : Ref sig .tc := ⟨.hbm, 260, rfl⟩
abbrev main_cst_41 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_cst_42 : Ref sig .tc := ⟨.hbm, 267, rfl⟩
abbrev main_call9_v0 : Ref sig .tc := ⟨.hbm, 268, rfl⟩
abbrev main_call9_v1 : Ref sig .tc := ⟨.hbm, 269, rfl⟩
abbrev main_call9_v2 : Ref sig .tc := ⟨.hbm, 270, rfl⟩
abbrev main_v185 : Ref sig .tc := ⟨.hbm, 271, rfl⟩
abbrev main_cst_43 : Ref sig .tc := ⟨.hbm, 272, rfl⟩
abbrev main_v186 : Ref sig .tc := ⟨.hbm, 273, rfl⟩
abbrev main_v187 : Ref sig .tc := ⟨.hbm, 274, rfl⟩
abbrev main_cst_44 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_v194 : Ref sig .tc := ⟨.hbm, 282, rfl⟩
abbrev main_cst_45 : Ref sig .tc := ⟨.hbm, 283, rfl⟩
abbrev main_v195 : Ref sig .tc := ⟨.hbm, 284, rfl⟩
abbrev main_v196 : Ref sig .tc := ⟨.hbm, 285, rfl⟩
abbrev main_cst_46 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩

abbrev nD : Nat := 1
abbrev τ : Topo := Topo.v7x

variable {F : FTy → Type} [FloatOps F]
-- ==== Kernel2.lean ====
abbrev S8x2048x512 : Shape := ⟨3, ![8, 2048, 512]⟩
abbrev S8x2048x1024 : Shape := ⟨3, ![8, 2048, 1024]⟩
abbrev S1024 : Shape := ⟨1, ![1024]⟩
abbrev S8x1x1024 : Shape := ⟨3, ![8, 1, 1024]⟩
abbrev S1024x2048 : Shape := ⟨2, ![1024, 2048]⟩
abbrev S512x1024 : Shape := ⟨2, ![512, 1024]⟩
abbrev S1024x1024 : Shape := ⟨2, ![1024, 1024]⟩
abbrev S16384x512 : Shape := ⟨2, ![16384, 512]⟩
abbrev S16384x1024 : Shape := ⟨2, ![16384, 1024]⟩
abbrev S1x1024 : Shape := ⟨2, ![1, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S512x2048 : Shape := ⟨2, ![512, 2048]⟩

abbrev nBuf : Space → Nat
  | .hbm => 27
  | .vmem => 26
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x1024, .f32⟩
  | .hbm, ⟨3, _⟩ => ⟨S1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S1024, .f32⟩
  | .hbm, ⟨10, _⟩ => ⟨S1024x2048, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S8x2048x512, .bf16⟩
  | .hbm, ⟨15, _⟩ => ⟨S16384x512, .bf16⟩
  | .hbm, ⟨16, _⟩ => ⟨S8x2048x512, .bf16⟩
  | .hbm, ⟨17, _⟩ => ⟨S16384x512, .bf16⟩
  | .hbm, ⟨18, _⟩ => ⟨S16384x1024, .f32⟩
  | .hbm, ⟨19, _⟩ => ⟨S1x1024, .f32⟩
  | .hbm, ⟨20, _⟩ => ⟨S1024x2048, .bf16⟩
  | .hbm, ⟨21, _⟩ => ⟨S1x1024, .f32⟩
  | .hbm, ⟨22, _⟩ => ⟨S512x1024, .bf16⟩
  | .hbm, ⟨23, _⟩ => ⟨S512x1024, .bf16⟩
  | .hbm, ⟨24, _⟩ => ⟨S1024x1024, .bf16⟩
  | .hbm, ⟨25, _⟩ => ⟨S16384x1024, .f32⟩
  | .hbm, ⟨26, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x2048, .bf16⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S8x2048x512 : Shape := ⟨3, ![8, 2048, 512]⟩
abbrev S8x2048x1024 : Shape := ⟨3, ![8, 2048, 1024]⟩
abbrev S1024 : Shape := ⟨1, ![1024]⟩
abbrev S8x1x1024 : Shape := ⟨3, ![8, 1, 1024]⟩
abbrev S1024x2048 : Shape := ⟨2, ![1024, 2048]⟩
abbrev S512x1024 : Shape := ⟨2, ![512, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S16384x1024 : Shape := ⟨2, ![16384, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x1024, .f32⟩
  | .hbm, ⟨3, _⟩ => ⟨S1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S1024, .f32⟩
  | .hbm, ⟨10, _⟩ => ⟨S1024x2048, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x2048, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S_, .f32⟩
  | .hbm, ⟨53, _⟩ => ⟨S8x2048x1024, .f32⟩
  | .hbm, ⟨54, _⟩ => ⟨S8x2048x1024, .f32⟩
  | .hbm, ⟨55, _⟩ => ⟨S_, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S_, .f32⟩
  | .hbm, ⟨67, _⟩ => ⟨S8x2048, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S8x2048x1, .f32⟩
  | .hbm, ⟨76, _⟩ => ⟨S8x2048x1024, .f32⟩
  | .hbm, ⟨77, _⟩ => ⟨S8x2048x1024, .f32⟩
  | .hbm, ⟨78, _⟩ => ⟨S1x1x1024, .f32⟩
  | .hbm, ⟨79, _⟩ => ⟨S8x2048x1024, .f32⟩
  | .hbm, ⟨80, _⟩ => ⟨S8x2048x1024, .f32⟩
  | .hbm, ⟨81, _⟩ => ⟨S_, .f32⟩
  | .hbm, ⟨82, _⟩ => ⟨S8x1x1024, .f32⟩
  | .hbm, ⟨83, _⟩ => ⟨S8x1x1024, .f32⟩
  | .hbm, ⟨84, _⟩ => ⟨S8x2048x1024, .f32⟩
  | .hbm, ⟨85, _⟩ => ⟨S8x2048x1024, .f32⟩
  | .hbm, ⟨86, _⟩ => ⟨S8x2048x1024, .f32⟩
  | .hbm, ⟨87, _⟩ => ⟨S8x2048x1024, .f32⟩
  | .hbm, ⟨88, _⟩ => ⟨S16384x1024, .f32⟩
  | .hbm, ⟨89, _⟩ => ⟨S16384x1024, .f32⟩
  | .hbm, ⟨90, _⟩ => ⟨S16384x1024, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Proof.Att.lean ====
/- Masked softmax attention over a finite set of keys, in extended reals: the weights, the floored sum of
   the weights, and the three forms in which the two programs write it. -/
module

public import Idealize.ShloMosaic.PureOps.Ideal
public import Mathlib.Algebra.BigOperators.Group.Finset.Basic
public import Mathlib.Data.EReal.Inv

@[expose] public section

noncomputable section

namespace Cert.Proof.Nsa

open Idealize.ShloMosaic

variable {ι κ : Type} [Fintype ι] [Fintype κ] [DecidableEq ι] [DecidableEq κ]

/-- The unnormalised softmax weight of key `k` among the keys `S` with scores `s`. -/
def wt (S : Finset ι) (s : ι → EReal) (k : ι) : EReal := Ideal.exp (s k - S.sup s)

/-- The floored sum of the weights. -/
def den (ε : EReal) (S : Finset ι) (s : ι → EReal) : EReal := max (∑ k ∈ S, wt S s k) ε

/-- Softmax attention over the keys `S`. -/
def att (ε : EReal) (S : Finset ι) (s v : ι → EReal) : EReal := ∑ k ∈ S, Ideal.div (wt S s k) (den ε S s) * v k

theorem exp_bot : Ideal.exp ⊥ = 0 := rfl

theorem exp_coe (x : ℝ) : Ideal.exp (x : EReal) = ((Real.exp x : ℝ) : EReal) := rfl

theorem exp_nonneg' (x : EReal) : 0 ≤ Ideal.exp x := by
  induction x with
  | bot => exact le_refl 0
  | top => exact (le_top : (0 : EReal) ≤ ⊤)
  | coe x => rw [exp_coe]; exact_mod_cast (Real.exp_pos x).le

theorem exp_le_one {x : EReal} (h : x ≤ 0) : Ideal.exp x ≤ 1 := by
  induction x with
  | bot => rw [exp_bot]; exact zero_le_one
  | top => simp at h
  | coe x =>
    have hx : x ≤ 0 := by exact_mod_cast h
    have : Real.exp x ≤ 1 := Real.exp_le_one_iff.mpr hx
    rw [exp_coe]; exact_mod_cast this

theorem sub_le_zero {x y : EReal} (h : x ≤ y) : x - y ≤ 0 := by
  induction x with
  | bot => simp [sub_eq_add_neg]
  | top => obtain rfl : y = ⊤ := top_le_iff.mp h; simp [sub_eq_add_neg]
  | coe x =>
    induction y with
    | bot => simp at h
    | top => simp [sub_eq_add_neg]
    | coe y =>
      have hxy : x ≤ y := by exact_mod_cast h
      have : x - y ≤ 0 := by linarith
      exact_mod_cast this

theorem wt_nonneg (S : Finset ι) (s : ι → EReal) (k : ι) : 0 ≤ wt S s k := exp_nonneg' _

theorem wt_le_one (S : Finset ι) (s : ι → EReal) {k : ι} (h : k ∈ S) : wt S s k ≤ 1 :=
  exp_le_one (sub_le_zero (Finset.le_sup h))

variable {ε : EReal}

theorem den_pos (hε : 0 < ε) (S : Finset ι) (s : ι → EReal) : 0 < den ε S s := lt_of_lt_of_le hε (le_max_right _ _)

theorem sum_wt_ne_top (S T : Finset ι) (hT : T ⊆ S) (s : ι → EReal) : ∑ k ∈ T, wt S s k ≠ ⊤ := by
  have h : ∑ k ∈ T, wt S s k ≤ ∑ k ∈ T, (1 : EReal) := Finset.sum_le_sum fun k hk => wt_le_one S s (hT hk)
  have h2 : ∑ k ∈ T, (1 : EReal) = ((T.card : ℝ) : EReal) := by simp
  rw [h2] at h
  exact ne_of_lt (lt_of_le_of_lt h (EReal.coe_lt_top _))

theorem den_inv_nonneg (hε : 0 < ε) (S : Finset ι) (s : ι → EReal) : 0 ≤ (den ε S s)⁻¹ :=
  EReal.inv_nonneg_of_nonneg (den_pos hε S s).le

theorem div_den (hε : 0 < ε) (S : Finset ι) (s : ι → EReal) (x : EReal) :
    Ideal.div x (den ε S s) = x * (den ε S s)⁻¹ := by
  unfold Ideal.div; rw [if_neg (den_pos hε S s).ne']

theorem inv_ne_top_of_pos {x : EReal} (h : 0 < x) : x⁻¹ ≠ ⊤ := by
  induction x with
  | bot => simp at h
  | top => simp
  | coe x => rw [← EReal.coe_inv]; exact EReal.coe_ne_top _

theorem den_inv_ne_top (hε : 0 < ε) (S : Finset ι) (s : ι → EReal) : (den ε S s)⁻¹ ≠ ⊤ :=
  inv_ne_top_of_pos (den_pos hε S s)

/-- A nonnegative finite factor goes through a sum. -/
theorem sum_mul_of_finite (T : Finset κ) (f : κ → EReal) {c : EReal} (h0 : 0 ≤ c) (ht : c ≠ ⊤) :
    (∑ k ∈ T, f k) * c = ∑ k ∈ T, f k * c := by
  induction T using Finset.induction_on with
  | empty => simp
  | insert a T ha ih => rw [Finset.sum_insert ha, Finset.sum_insert ha, EReal.right_distrib_of_nonneg_of_ne_top h0 ht, ih]

/-- The attention with the division done once at the end. -/
theorem att_div_last (hε : 0 < ε) (S : Finset ι) (s v : ι → EReal) :
    Ideal.div (∑ k ∈ S, wt S s k * v k) (den ε S s) = att ε S s v := by
  rw [div_den hε, sum_mul_of_finite _ _ (den_inv_nonneg hε S s) (den_inv_ne_top hε S s)]
  refine Finset.sum_congr rfl fun k _ => ?_
  rw [div_den hε, mul_assoc, mul_comm (v k), ← mul_assoc]

variable (M : ι → Prop) [DecidablePred M]

theorem sup_ite (s : ι → EReal) : (Finset.univ.sup fun k => if M k then s k else ⊥) = (Finset.univ.filter M).sup s := by
  apply le_antisymm
  · refine Finset.sup_le fun k _ => ?_
    split
    · next h => exact Finset.le_sup (f := s) (by simpa using h)
    · exact bot_le
  · refine Finset.sup_le fun k hk => ?_
    have hM : M k := by simpa using hk
    have := Finset.le_sup (f := fun k => if M k then s k else ⊥) (Finset.mem_univ k)
    simpa [hM] using this

/-- A score to which 0 or minus infinity is added is the score or minus infinity. -/
theorem add_bias (x : EReal) (p : Prop) [Decidable p] : x + (if p then 0 else ⊥) = if p then x else ⊥ := by
  split <;> simp

theorem bot_sub (x : EReal) : (⊥ : EReal) - x = ⊥ := by rw [sub_eq_add_neg, EReal.bot_add]

/-- The weights of the form that fills the score with minus infinity and never masks again. -/
theorem exp_fill (s : ι → EReal) (k : ι) :
    Ideal.exp ((if M k then s k else ⊥) - (Finset.univ.sup fun k => if M k then s k else ⊥))
      = if M k then wt (Finset.univ.filter M) s k else 0 := by
  rw [sup_ite]
  by_cases h : M k
  · simp [h, wt]
  · simp [h, bot_sub, exp_bot]

/-- The weights of the form that masks the exponential. -/
theorem exp_fill_mask (s : ι → EReal) (k : ι) :
    (if M k then Ideal.exp ((if M k then s k else ⊥) - (Finset.univ.sup fun k => if M k then s k else ⊥)) else 0)
      = if M k then wt (Finset.univ.filter M) s k else 0 := by
  rw [exp_fill]; by_cases h : M k <;> simp [h]

theorem sum_ite_wt (s : ι → EReal) :
    (∑ k, if M k then wt (Finset.univ.filter M) s k else 0) = ∑ k ∈ Finset.univ.filter M, wt (Finset.univ.filter M) s k := by
  rw [Finset.sum_filter]

theorem den_ite (s : ι → EReal) :
    max (∑ k, if M k then wt (Finset.univ.filter M) s k else 0) ε = den ε (Finset.univ.filter M) s := by
  rw [sum_ite_wt]; rfl

/-- Attention with masked weights, divided once at the end. -/
theorem att_last_ite (hε : 0 < ε) (s v : ι → EReal) :
    Ideal.div (∑ k, (if M k then wt (Finset.univ.filter M) s k else 0) * v k) (den ε (Finset.univ.filter M) s)
      = att ε (Finset.univ.filter M) s v := by
  rw [← att_div_last hε, Finset.sum_filter]
  congr 1
  refine Finset.sum_congr rfl fun k _ => ?_
  split <;> simp

theorem zero_div_den (hε : 0 < ε) (S : Finset ι) (s : ι → EReal) : Ideal.div 0 (den ε S s) = 0 := by
  rw [div_den hε, zero_mul]

/-- Attention with masked weights, each divided. -/
theorem att_first_ite (hε : 0 < ε) (s v : ι → EReal) :
    (∑ k, Ideal.div (if M k then wt (Finset.univ.filter M) s k else 0) (den ε (Finset.univ.filter M) s) * v k)
      = att ε (Finset.univ.filter M) s v := by
  unfold att; rw [Finset.sum_filter]
  refine Finset.sum_congr rfl fun k _ => ?_
  split
  · rfl
  · rw [zero_div_den hε, zero_mul]

/-- The same keys under other names: if `f` carries `S` one to one onto `T` and takes scores to scores and values to
    values, the two attentions are equal. -/
theorem att_rename (S : Finset ι) (T : Finset κ) (f : ι → κ) (hf : ∀ k ∈ S, f k ∈ T)
    (hinj : ∀ a ∈ S, ∀ b ∈ S, f a = f b → a = b) (hsur : ∀ t ∈ T, ∃ k ∈ S, f k = t)
    (s v : ι → EReal) (s' v' : κ → EReal) (hs : ∀ k ∈ S, s k = s' (f k)) (hv : ∀ k ∈ S, v k = v' (f k)) :
    att ε S s v = att ε T s' v' := by
  have hsup : S.sup s = T.sup s' := by
    apply le_antisymm
    · refine Finset.sup_le fun k hk => ?_
      rw [hs k hk]; exact Finset.le_sup (hf k hk)
    · refine Finset.sup_le fun t ht => ?_
      obtain ⟨k, hk, rfl⟩ := hsur t ht
      rw [← hs k hk]; exact Finset.le_sup hk
  have hw : ∀ k ∈ S, wt S s k = wt T s' (f k) := fun k hk => by unfold wt; rw [hsup, hs k hk]
  have hd : den ε S s = den ε T s' := by
    unfold den; congr 1
    exact Finset.sum_bij (fun k _ => f k) hf (fun a ha b hb h => hinj a ha b hb h)
      (fun t ht => by obtain ⟨k, hk, e⟩ := hsur t ht; exact ⟨k, hk, e⟩) hw
  unfold att
  exact Finset.sum_bij (fun k _ => f k) hf (fun a ha b hb h => hinj a ha b hb h)
    (fun t ht => by obtain ⟨k, hk, e⟩ := hsur t ht; exact ⟨k, hk, e⟩)
    (fun k hk => by rw [hw k hk, hd, hv k hk])

theorem att_congr (S : Finset ι) (s v s' v' : ι → EReal) (hs : ∀ k ∈ S, s k = s' k) (hv : ∀ k ∈ S, v k = v' k) :
    att ε S s v = att ε S s' v' :=
  att_rename S S id (fun _ h => h) (fun _ _ _ _ h => h) (fun t h => ⟨t, h, rfl⟩) s v s' v' hs hv

/-- A weight divided by the floored sum is at least 0 and not infinite. -/
theorem prob_nonneg (hε : 0 < ε) (S : Finset ι) (s : ι → EReal) (k : ι) : 0 ≤ Ideal.div (wt S s k) (den ε S s) := by
  rw [div_den hε]; exact mul_nonneg (wt_nonneg S s k) (den_inv_nonneg hε S s)

theorem prob_ne_top (hε : 0 < ε) (S : Finset ι) (s : ι → EReal) {k : ι} (h : k ∈ S) :
    Ideal.div (wt S s k) (den ε S s) ≠ ⊤ := by
  rw [div_den hε]
  have h1 := wt_le_one S s h
  have h2 := den_inv_nonneg hε S s
  have h3 : wt S s k * (den ε S s)⁻¹ ≤ 1 * (den ε S s)⁻¹ := mul_le_mul_of_nonneg_right h1 h2
  rw [one_mul] at h3
  exact ne_of_lt (lt_of_le_of_lt h3 (lt_of_le_of_ne le_top (den_inv_ne_top hε S s)))

end Cert.Proof.Nsa
-- ==== Proof.Words.lean ====
/- Comparisons of 32-bit words that hold small natural numbers, and the choices made by them. -/
module

public import Idealize.ShloMosaic.Lib.Pointwise
public import Idealize.ShloMosaic.Lib.Routing.Words

@[expose] public section

namespace Cert.Proof.Nsa

open Idealize.ShloMosaic

theorem select_ofBool {α : Type} (p : Prop) [Decidable p] (a b : α) :
    Scalar.select (BitVec.ofBool (decide p)) a b = if p then a else b := by
  by_cases h : p <;> simp [h, Scalar.select]

theorem toInt_small {a : ℕ} (ha : a < 2 ^ 31) : (BitVec.ofNat 32 a).toInt = a := by
  rw [BitVec.toInt_eq_toNat_of_lt] <;> simp [BitVec.toNat_ofNat] <;> omega

theorem slt_word {a b : ℕ} (ha : a < 2 ^ 31) (hb : b < 2 ^ 31) :
    IntOp.cmpi .slt (BitVec.ofNat 32 a) (BitVec.ofNat 32 b) = BitVec.ofBool (decide (a < b)) := by
  simp [IntOp.cmpi, BitVec.slt, toInt_small ha, toInt_small hb]

theorem sle_word {a b : ℕ} (ha : a < 2 ^ 31) (hb : b < 2 ^ 31) :
    IntOp.cmpi .sle (BitVec.ofNat 32 a) (BitVec.ofNat 32 b) = BitVec.ofBool (decide (a ≤ b)) := by
  simp [IntOp.cmpi, BitVec.sle, toInt_small ha, toInt_small hb]

theorem sgt_word {a b : ℕ} (ha : a < 2 ^ 31) (hb : b < 2 ^ 31) :
    IntOp.cmpi .sgt (BitVec.ofNat 32 a) (BitVec.ofNat 32 b) = BitVec.ofBool (decide (b < a)) := by
  simp [IntOp.cmpi, BitVec.slt, toInt_small ha, toInt_small hb]

theorem sge_word {a b : ℕ} (ha : a < 2 ^ 31) (hb : b < 2 ^ 31) :
    IntOp.cmpi .sge (BitVec.ofNat 32 a) (BitVec.ofNat 32 b) = BitVec.ofBool (decide (b ≤ a)) := by
  simp [IntOp.cmpi, BitVec.sle, toInt_small ha, toInt_small hb]

theorem eq_word {a b : ℕ} (ha : a < 2 ^ 31) (hb : b < 2 ^ 31) :
    IntOp.cmpi .eq (BitVec.ofNat 32 a) (BitVec.ofNat 32 b) = BitVec.ofBool (decide (a = b)) := by
  have : (BitVec.ofNat 32 a = BitVec.ofNat 32 b) ↔ a = b := by
    constructor
    · intro h
      have := congrArg BitVec.toNat h
      simp [BitVec.toNat_ofNat] at this
      omega
    · rintro rfl; rfl
  by_cases h : a = b
  · subst h; simp [IntOp.cmpi]
  · have h' : ¬ BitVec.ofNat 32 a = BitVec.ofNat 32 b := fun e => h (this.mp e)
    simp only [IntOp.cmpi, h, decide_false]
    rw [beq_eq_false_iff_ne.mpr h']

theorem and_ofBool (p q : Prop) [Decidable p] [Decidable q] :
    BitVec.ofBool (decide p) &&& BitVec.ofBool (decide q) = BitVec.ofBool (decide (p ∧ q)) := by
  by_cases h : p <;> by_cases h' : q <;> simp [h, h']

theorem or_ofBool (p q : Prop) [Decidable p] [Decidable q] :
    BitVec.ofBool (decide p) ||| BitVec.ofBool (decide q) = BitVec.ofBool (decide (p ∨ q)) := by
  by_cases h : p <;> by_cases h' : q <;> simp [h, h']

theorem add_word (a b : ℕ) : IntOp.addi (BitVec.ofNat 32 a) (BitVec.ofNat 32 b) = BitVec.ofNat 32 (a + b) :=
  (BitVec.ofNat_add a b).symm

theorem mul_word (a b : ℕ) : IntOp.muli (BitVec.ofNat 32 a) (BitVec.ofNat 32 b) = BitVec.ofNat 32 (a * b) :=
  (BitVec.ofNat_mul a b).symm

theorem toInt_sub_word {a b : ℕ} (ha : a < 2 ^ 20) (hb : b < 2 ^ 20) :
    (IntOp.subi (BitVec.ofNat 32 a) (BitVec.ofNat 32 b)).toInt = (a : ℤ) - b := by
  unfold IntOp.subi
  rw [BitVec.toInt_sub, toInt_small (by omega), toInt_small (by omega), Int.bmod_eq_of_le (by omega) (by omega)]

theorem sub_sge_word {a b : ℕ} (ha : a < 2 ^ 20) (hb : b < 2 ^ 20) :
    IntOp.cmpi .sge (IntOp.subi (BitVec.ofNat 32 a) (BitVec.ofNat 32 b)) 0#32 = BitVec.ofBool (decide (b ≤ a)) := by
  simp only [IntOp.cmpi, BitVec.sle, toInt_sub_word ha hb]
  congr 1
  simp

theorem sub_slt_word {a b : ℕ} (ha : a < 2 ^ 20) (hb : b < 2 ^ 20) :
    IntOp.cmpi .slt (IntOp.subi (BitVec.ofNat 32 a) (BitVec.ofNat 32 b)) 512#32 = BitVec.ofBool (decide (a < b + 512)) := by
  simp only [IntOp.cmpi, BitVec.slt, toInt_sub_word ha hb]
  congr 1
  rw [show (512#32 : BitVec 32).toInt = 512 from by decide]
  exact decide_eq_decide.mpr (by omega)

/-- The quotient rounded down, as it is written for words of either sign, of a small natural number by 64. -/
theorem floor_word {t : ℕ} (ht : t < 2 ^ 20) :
    Scalar.select
      (IntOp.andi
        (IntOp.cmpi .ne
          (IntOp.subi (BitVec.setWidth 32 (IntOp.cmpi .sgt (BitVec.ofNat 32 t) 0#32)) (BitVec.setWidth 32 (IntOp.cmpi .slt (BitVec.ofNat 32 t) 0#32)))
          (Scalar.subi (Scalar.extui (Scalar.cmpi .sgt 64#32 0#32)) (Scalar.extui (Scalar.cmpi .slt 64#32 0#32))))
        (IntOp.cmpi .ne (IntOp.remsi .vector (BitVec.ofNat 32 t) 64#32) 0#32))
      (IntOp.subi (IntOp.divsi .vector (BitVec.ofNat 32 t) 64#32) 1#32)
      (IntOp.divsi .vector (BitVec.ofNat 32 t) 64#32) = BitVec.ofNat 32 (t / 64) := by
  rw [Routing.divsi_word .vector (by omega) (by norm_num) (by norm_num), Routing.remsi_word .vector (by omega) (by norm_num) (by norm_num),
    sgt_word (by omega) (by norm_num), slt_word (by omega) (by norm_num)]
  have h64 : Scalar.subi (Scalar.extui (Scalar.cmpi .sgt 64#32 0#32)) (Scalar.extui (Scalar.cmpi .slt 64#32 0#32)) = 1#32 := by decide
  rw [h64]
  by_cases h : t = 0
  · subst h; decide
  · have h0 : 0 < t := Nat.pos_of_ne_zero h
    have hn : ¬ t < 0 := by omega
    simp only [h0, hn, decide_true, decide_false]
    rw [show IntOp.cmpi .ne (IntOp.subi (BitVec.setWidth 32 (BitVec.ofBool true)) (BitVec.setWidth 32 (BitVec.ofBool false))) 1#32 = 0#1 from by decide]
    simp [IntOp.andi, Scalar.select]

end Cert.Proof.Nsa
-- ==== Proof.Body.lean ====
/- The vector expressions of one head of the kernel, over any number of keys, and what they hold at an index. -/
module

public import proofs.«01_k».proof.Proof.Att
public import proofs.«01_k».proof.Proof.Words
public import Idealize.ShloMosaic.Lib.Pointwise
public import Idealize.ShloMosaic.Lib.Pointwise.IndexVar
public import Idealize.ShloMosaic.Lib.MatmulPlain
public import Idealize.ShloMosaic.PureOps.Ideal.Laws

@[expose] public section

set_option maxRecDepth 16384

noncomputable section

namespace Cert.Proof.Nsa

open Idealize.ShloMosaic

variable {nk : ℕ}

/-- The scores of a head with a bias added. -/
def vScore (q : FVec Ideal ⟨2, ![128, 128]⟩ .bf16) (k : FVec Ideal ⟨2, ![nk, 128]⟩ .bf16) (bias : FVec Ideal ⟨2, ![128, nk]⟩ .f32) :
    FVec Ideal ⟨2, ![128, nk]⟩ .f32 :=
  addf (matmul (DotDims.transposedRhs 128 128 nk) none q k (constant ⟨2, ![128, nk]⟩ .f32 0x00000000#32)) bias

/-- The exponential of the scores less their row's maximum. -/
def vExp (hr : (⟨2, ![128, nk]⟩ : Shape).Reduces [1] ⟨1, ![128]⟩) (hb : (⟨2, ![128, 1]⟩ : Shape).Broadcasts ⟨2, ![128, nk]⟩)
    (hc : (⟨1, ![128]⟩ : Shape).ShapeCasts ⟨2, ![128, 1]⟩) (s : FVec Ideal ⟨2, ![128, nk]⟩ .f32) : FVec Ideal ⟨2, ![128, nk]⟩ .f32 :=
  exp (subf s (broadcastTo ⟨2, ![128, nk]⟩ (shapeCast ⟨2, ![128, 1]⟩ (multiReduction .maximumf [1] ⟨1, ![128]⟩ s 0xFF800000#32 hr (.inl rfl) rfl) hc) hb))

/-- The floored row sums. -/
def vDen (hr : (⟨2, ![128, nk]⟩ : Shape).Reduces [1] ⟨1, ![128]⟩)
    (hc : (⟨1, ![128]⟩ : Shape).ShapeCasts ⟨2, ![128, 1]⟩) (p : FVec Ideal ⟨2, ![128, nk]⟩ .f32) : FVec Ideal ⟨2, ![128, 1]⟩ .f32 :=
  maximumf (shapeCast ⟨2, ![128, 1]⟩ (multiReduction .add [1] ⟨1, ![128]⟩ p 0x00000000#32 hr (.inl rfl) rfl) hc)
    (broadcast ⟨2, ![128, 1]⟩ (Scalar.ofBits .f32 0x0DA24260#32))

/-- The product of weights and values. -/
def vPV (p : FVec Ideal ⟨2, ![128, nk]⟩ .bf16) (v : FVec Ideal ⟨2, ![nk, 128]⟩ .bf16) : FVec Ideal ⟨2, ![128, 128]⟩ .f32 :=
  matmul (DotDims.plain 128 nk 128) none p v (constant ⟨2, ![128, 128]⟩ .f32 0x00000000#32)

/-- The weighted values divided by the row sums. -/
def vOut (hd : (⟨2, ![128, 1]⟩ : Shape).Broadcasts ⟨2, ![128, 128]⟩) (ht : FTy.bits .bf16 < FTy.bits .f32)
    (p : FVec Ideal ⟨2, ![128, nk]⟩ .f32) (v : FVec Ideal ⟨2, ![nk, 128]⟩ .bf16) (d : FVec Ideal ⟨2, ![128, 1]⟩ .f32) : FVec Ideal ⟨2, ![128, 128]⟩ .f32 :=
  divf (vPV (truncf .bf16 p ht) v) (broadcastTo ⟨2, ![128, 128]⟩ d hd)

theorem vScore_apply (q : FVec Ideal ⟨2, ![128, 128]⟩ .bf16) (k : FVec Ideal ⟨2, ![nk, 128]⟩ .bf16) (bias : FVec Ideal ⟨2, ![128, nk]⟩ .f32)
    (r : Fin 128) (j : Fin nk) : vScore q k bias (ix2 r j) = (∑ l : Fin 128, q (ix2 r l) * k (ix2 j l)) + bias (ix2 r j) := by
  unfold vScore
  pointwise

theorem bits_bot : Ideal.ofBits .f32 0xFF800000#32 = ⊥ := by simp [Ideal.ofBits, Ideal.ieee]

theorem bits_top : Ideal.ofBits .f32 0x7F800000#32 = ⊤ := by simp [Ideal.ofBits, Ideal.ieee]

theorem bits_zero : Ideal.ofBits .f32 0x00000000#32 = 0 := by simp [Ideal.ofBits, Ideal.ieee]

theorem bits_half : Ideal.ofBits .f32 0x3F000000#32 = ((1 / 2 : ℝ) : EReal) := by
  simp [Ideal.ofBits, Ideal.ieee, -EReal.coe_mul]; norm_num

/-- The floor of the row sums. -/
def eps : EReal := Ideal.ofBits .f32 0x0DA24260#32

theorem eps_pos : 0 < eps := by
  unfold eps; simp [Ideal.ofBits, Ideal.ieee, -EReal.coe_mul]

/-- The factor of the scores, one eighth. -/
def eighth : EReal := ((1 / 8 : ℝ) : EReal)

theorem bits_eighth16 : Ideal.ofBits .bf16 0x3E00#16 = eighth := by
  unfold eighth; simp [Ideal.ofBits, Ideal.ieee, -EReal.coe_mul]; norm_num

theorem bits_eighth32 : Ideal.ofBits .f32 0x3E000000#32 = eighth := by
  unfold eighth; simp [Ideal.ofBits, Ideal.ieee, -EReal.coe_mul]; norm_num

theorem eighth_nonneg : 0 ≤ eighth := by unfold eighth; exact_mod_cast (by norm_num : (0 : ℝ) ≤ 1 / 8)

theorem eighth_ne_top : eighth ≠ ⊤ := EReal.coe_ne_top _

theorem fold_max_bot {n : ℕ} (f : Fin n → EReal) : Finset.fold max ⊥ f Finset.univ = Finset.univ.sup f := rfl

theorem vExp_apply (hr hb hc) (s : FVec Ideal ⟨2, ![128, nk]⟩ .f32) (r : Fin 128) (j : Fin nk) :
    vExp hr hb hc s (ix2 r j) = Ideal.exp (s (ix2 r j) - Finset.univ.sup fun j => s (ix2 r j)) := by
  unfold vExp
  pointwise
  rw [bits_bot, fold_max_bot]

theorem vDen_apply (hr hc) (p : FVec Ideal ⟨2, ![128, nk]⟩ .f32) (r : Fin 128) :
    vDen hr hc p (ix2 r 0) = max (∑ j, p (ix2 r j)) eps := by
  unfold vDen eps
  pointwise

theorem vPV_apply (p : FVec Ideal ⟨2, ![128, nk]⟩ .bf16) (v : FVec Ideal ⟨2, ![nk, 128]⟩ .bf16) (r c : Fin 128) :
    vPV p v (ix2 r c) = ∑ j, p (ix2 r j) * v (ix2 j c) := by
  refine (Ideal.matmul_plain_apply none p v (constant ⟨2, ![128, 128]⟩ .f32 0x00000000#32) r c).trans ?_
  exact (congrArg (· + ∑ j, p (ix2 r j) * v (ix2 j c)) bits_zero).trans (zero_add _)

theorem vOut_apply (hd ht) (p : FVec Ideal ⟨2, ![128, nk]⟩ .f32) (v : FVec Ideal ⟨2, ![nk, 128]⟩ .bf16) (d : FVec Ideal ⟨2, ![128, 1]⟩ .f32)
    (r c : Fin 128) : vOut hd ht p v d (ix2 r c) = Ideal.div (∑ j, p (ix2 r j) * v (ix2 j c)) (d (ix2 r 0)) := by
  unfold vOut
  pointwise
  rw [vPV_apply]
  rfl

/-- A head with a bias: attention over the keys where the bias is 0, the others carrying minus infinity. -/
theorem bias_head (hr hb hc hd ht) (q : FVec Ideal ⟨2, ![128, 128]⟩ .bf16) (k v : FVec Ideal ⟨2, ![nk, 128]⟩ .bf16)
    (bias : FVec Ideal ⟨2, ![128, nk]⟩ .f32) (r c : Fin 128) (M : Fin nk → Prop) [DecidablePred M]
    (hM : ∀ j, bias (ix2 r j) = if M j then 0 else ⊥) :
    vOut hd ht (vExp hr hb hc (vScore q k bias)) v (vDen hr hc (vExp hr hb hc (vScore q k bias))) (ix2 r c)
      = att eps (Finset.univ.filter M) (fun j => ∑ l : Fin 128, q (ix2 r l) * k (ix2 j l)) (fun j => v (ix2 j c)) := by
  rw [vOut_apply, vDen_apply]
  have h : ∀ j, vExp hr hb hc (vScore q k bias) (ix2 r j)
      = if M j then wt (Finset.univ.filter M) (fun j => ∑ l : Fin 128, q (ix2 r l) * k (ix2 j l)) j else 0 := fun j => by
    rw [vExp_apply, ← exp_fill]
    simp only [vScore_apply, hM, add_bias]
  simp only [h]
  rw [den_ite, att_last_ite M eps_pos]

/-- The weights of the compressed branch: the scores filled off the mask, the exponential masked again. -/
def vMask (hr : (⟨2, ![128, nk]⟩ : Shape).Reduces [1] ⟨1, ![128]⟩) (hb : (⟨2, ![128, 1]⟩ : Shape).Broadcasts ⟨2, ![128, nk]⟩)
    (hc : (⟨1, ![128]⟩ : Shape).ShapeCasts ⟨2, ![128, 1]⟩) (fill : Ideal .f32) (m : IVec ⟨2, ![128, nk]⟩ 1)
    (q : FVec Ideal ⟨2, ![128, 128]⟩ .bf16) (k : FVec Ideal ⟨2, ![nk, 128]⟩ .bf16) : FVec Ideal ⟨2, ![128, nk]⟩ .f32 :=
  select m (vExp hr hb hc (select m (matmul (DotDims.transposedRhs 128 128 nk) none q k (constant ⟨2, ![128, nk]⟩ .f32 0x00000000#32))
    (broadcast ⟨2, ![128, nk]⟩ fill))) (broadcast ⟨2, ![128, nk]⟩ (Scalar.ofBits .f32 0x00000000#32))

theorem vMask_apply (hr hb hc) (fill : Ideal .f32) (hf : fill = (⊥ : EReal)) (m : IVec ⟨2, ![128, nk]⟩ 1)
    (q : FVec Ideal ⟨2, ![128, 128]⟩ .bf16) (k : FVec Ideal ⟨2, ![nk, 128]⟩ .bf16) (r : Fin 128) (M : Fin nk → Prop) [DecidablePred M]
    (hM : ∀ j, m (ix2 r j) = BitVec.ofBool (decide (M j))) (j : Fin nk) :
    vMask hr hb hc fill m q k (ix2 r j)
      = if M j then wt (Finset.univ.filter M) (fun j => ∑ l : Fin 128, q (ix2 r l) * k (ix2 j l)) j else 0 := by
  rw [← exp_fill_mask]
  unfold vMask
  have h : ∀ j, (select m (matmul (DotDims.transposedRhs 128 128 nk) none q k (constant ⟨2, ![128, nk]⟩ .f32 0x00000000#32))
    (broadcast ⟨2, ![128, nk]⟩ fill)) (ix2 r j) = if M j then ∑ l : Fin 128, q (ix2 r l) * k (ix2 j l) else (⊥ : EReal) := fun j => by
    pointwise
    rw [hM, hf]
    by_cases hj : M j <;> simp [hj, Scalar.select]
  rw [show ∀ (a b : FVec Ideal ⟨2, ![128, nk]⟩ .f32), (select m a b) (ix2 r j) = if m (ix2 r j) = 1#1 then a (ix2 r j) else b (ix2 r j) from fun _ _ => rfl]
  rw [vExp_apply, hM]
  simp only [h]
  by_cases hj : M j
  · simp [hj]
  · simp only [hj, decide_false, BitVec.ofBool_false, if_false]; rw [if_neg (by decide)]; exact bits_zero

/-- A head of the compressed branch. -/
theorem mask_head (hr hb hc hd ht) (fill : Ideal .f32) (hf : fill = (⊥ : EReal)) (m : IVec ⟨2, ![128, nk]⟩ 1)
    (q : FVec Ideal ⟨2, ![128, 128]⟩ .bf16) (k v : FVec Ideal ⟨2, ![nk, 128]⟩ .bf16) (r c : Fin 128) (M : Fin nk → Prop) [DecidablePred M]
    (hM : ∀ j, m (ix2 r j) = BitVec.ofBool (decide (M j))) :
    vOut hd ht (vMask hr hb hc fill m q k) v (vDen hr hc (vMask hr hb hc fill m q k)) (ix2 r c)
      = att eps (Finset.univ.filter M) (fun j => ∑ l : Fin 128, q (ix2 r l) * k (ix2 j l)) (fun j => v (ix2 j c)) := by
  rw [vOut_apply, vDen_apply]
  simp only [vMask_apply hr hb hc fill hf m q k r M hM]
  rw [den_ite, att_last_ite M eps_pos]

/-- The weights of the compressed branch divided by their row's sum. -/
def vProb (hr : (⟨2, ![128, nk]⟩ : Shape).Reduces [1] ⟨1, ![128]⟩) (hb : (⟨2, ![128, 1]⟩ : Shape).Broadcasts ⟨2, ![128, nk]⟩)
    (hc : (⟨1, ![128]⟩ : Shape).ShapeCasts ⟨2, ![128, 1]⟩) (p : FVec Ideal ⟨2, ![128, nk]⟩ .f32) : FVec Ideal ⟨2, ![128, nk]⟩ .f32 :=
  divf p (broadcastTo ⟨2, ![128, nk]⟩ (vDen hr hc p) hb)

theorem vProb_apply (hr hb hc) (p : FVec Ideal ⟨2, ![128, nk]⟩ .f32) (r : Fin 128) (j : Fin nk) :
    vProb hr hb hc p (ix2 r j) = Ideal.div (p (ix2 r j)) (max (∑ j, p (ix2 r j)) eps) := by
  unfold vProb
  pointwise
  rw [vDen_apply]

/-- Masked weights divided by their sum. -/
def prob {ι : Type} [Fintype ι] [DecidableEq ι] (S : Finset ι) (s : ι → EReal) (j : ι) : EReal :=
  if j ∈ S then Ideal.div (wt S s j) (den eps S s) else 0

theorem prob_head (hr hb hc) (fill : Ideal .f32) (hf : fill = (⊥ : EReal)) (m : IVec ⟨2, ![128, nk]⟩ 1)
    (q : FVec Ideal ⟨2, ![128, 128]⟩ .bf16) (k : FVec Ideal ⟨2, ![nk, 128]⟩ .bf16) (r : Fin 128) (M : Fin nk → Prop) [DecidablePred M]
    (hM : ∀ j, m (ix2 r j) = BitVec.ofBool (decide (M j))) (j : Fin nk) :
    vProb hr hb hc (vMask hr hb hc fill m q k) (ix2 r j)
      = prob (Finset.univ.filter M) (fun j => ∑ l : Fin 128, q (ix2 r l) * k (ix2 j l)) j := by
  rw [vProb_apply]
  simp only [vMask_apply hr hb hc fill hf m q k r M hM]
  rw [den_ite]
  unfold prob
  by_cases hj : M j
  · simp [hj]
  · simp [hj, zero_div_den eps_pos]

theorem prob_nonneg' {ι : Type} [Fintype ι] [DecidableEq ι] (S : Finset ι) (s : ι → EReal) (j : ι) : 0 ≤ prob S s j := by
  unfold prob; split
  · exact prob_nonneg eps_pos S s j
  · exact le_refl 0

theorem prob_ne_top' {ι : Type} [Fintype ι] [DecidableEq ι] (S : Finset ι) (s : ι → EReal) (j : ι) : prob S s j ≠ ⊤ := by
  unfold prob; split
  · next h => exact prob_ne_top eps_pos S s h
  · exact EReal.zero_ne_top

/-- One column of the gates times a head's output. -/
def vGate (c : ℕ) (hs : (⟨2, ![128, 128]⟩ : Shape).Slices ![0, c] ⟨2, ![128, 1]⟩) (hd : (⟨2, ![128, 1]⟩ : Shape).Broadcasts ⟨2, ![128, 128]⟩)
    (sig x : FVec Ideal ⟨2, ![128, 128]⟩ .f32) : FVec Ideal ⟨2, ![128, 128]⟩ .f32 :=
  mulf (broadcastTo ⟨2, ![128, 128]⟩ (extractStridedSlice ⟨2, ![128, 1]⟩ ![0, c] sig hs) hd) x

theorem vGate_apply (c : ℕ) (hc : c < 128) (hs hd) (sig x : FVec Ideal ⟨2, ![128, 128]⟩ .f32) (r l : Fin 128) :
    vGate c hs hd sig x (ix2 r l) = sig (ix2 r ⟨c, hc⟩) * x (ix2 r l) := by
  unfold vGate
  pointwise

/-- Two heads beside each other in one block of 128 lanes. -/
def vPair (ht : FTy.bits .bf16 < FTy.bits .f32) (hi : (⟨2, ![128, 128]⟩ : Shape).Iotas .tc 32 [1]) (a b : FVec Ideal ⟨2, ![128, 128]⟩ .f32) : FVec Ideal ⟨2, ![128, 128]⟩ .bf16 :=
  truncf .bf16 (select (cmpi .slt (iota .tc ⟨2, ![128, 128]⟩ 32 [1] hi) (broadcast ⟨2, ![128, 128]⟩ 64#32)) a b) ht

theorem iota_word (r l : Fin 128) (hi : (⟨2, ![128, 128]⟩ : Shape).Iotas .tc 32 [1]) :
    iota .tc ⟨2, ![128, 128]⟩ 32 [1] hi (ix2 r l) = BitVec.ofNat 32 l.val := by
  pointwise

theorem vPair_apply (ht hi) (a b : FVec Ideal ⟨2, ![128, 128]⟩ .f32) (r l : Fin 128) :
    vPair ht hi a b (ix2 r l) = if l.val < 64 then a (ix2 r l) else b (ix2 r l) := by
  unfold vPair
  pointwise
  rw [slt_word (by omega) (by norm_num), select_ofBool]

end Cert.Proof.Nsa
-- ==== Proof.Rank.lean ====
/- The sixteen greatest of thirty-two values, two ways: by a stable sort in descending order, and by counting for every
   position the values that come before it. -/
module

public import Idealize.ShloMosaic.Lib.SortFacts
public import Mathlib.Data.Fintype.Card
public import Mathlib.Order.Interval.Finset.Fin
public import Mathlib.Data.EReal.Basic

@[expose] public section

namespace Cert.Proof.Nsa

open Idealize.ShloMosaic

variable {n : Nat} (x : Fin n → EReal)

/-- Position `i` comes before `j`: its value is greater, or equal with `i` earlier. -/
def ahead (i j : Fin n) : Prop := x j < x i ∨ (x i = x j ∧ i < j)

noncomputable instance (i j : Fin n) : Decidable (ahead x i j) := Classical.propDecidable _

/-- How many positions come before `j`. -/
noncomputable def rank (j : Fin n) : Nat := (Finset.univ.filter fun i => ahead x i j).card

theorem ahead_trans {i j k : Fin n} (h : ahead x i j) (h' : ahead x j k) : ahead x i k := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

theorem ahead_irrefl (i : Fin n) : ¬ ahead x i i := by rintro (h | ⟨_, h⟩) <;> exact lt_irrefl _ h

theorem insert_ahead (before : Fin n → Fin n → Bool) (hb : ∀ i j, before i j = true ↔ x j < x i) (a : Fin n) (l : List (Fin n))
    (ha : ∀ b ∈ l, a < b) (hl : l.Pairwise (ahead x)) : (insertBefore before a l).Pairwise (ahead x) := by
  induction l with
  | nil => simp [insertBefore]
  | cons b l ih =>
    obtain ⟨hbl, hl'⟩ := List.pairwise_cons.mp hl
    unfold insertBefore
    split
    · next h =>
      have hba : x a < x b := (hb b a).mp h
      refine List.pairwise_cons.mpr ⟨fun y hy => ?_, ih (fun y hy => ha y (List.mem_cons_of_mem _ hy)) hl'⟩
      rcases List.mem_cons.mp ((perm_insertBefore _ a l).mem_iff.mp hy) with rfl | hy'
      · exact Or.inl hba
      · exact hbl y hy'
    · next h =>
      have hab : ¬ x a < x b := fun hh => h ((hb b a).mpr hh)
      have hab' : ahead x a b := by
        rcases lt_or_eq_of_le (not_lt.mp hab) with h1 | h1
        · exact Or.inl h1
        · exact Or.inr ⟨h1.symm, ha b (by simp)⟩
      refine List.pairwise_cons.mpr ⟨fun y hy => ?_, hl⟩
      rcases List.mem_cons.mp hy with rfl | hy'
      · exact hab'
      · exact ahead_trans x hab' (hbl y hy')

theorem sort_ahead (before : Fin n → Fin n → Bool) (hb : ∀ i j, before i j = true ↔ x j < x i) (l : List (Fin n))
    (hl : l.Pairwise (· < ·)) : (stableSort before l).Pairwise (ahead x) := by
  induction l with
  | nil => simp [stableSort]
  | cons a l ih =>
    obtain ⟨ha, hl'⟩ := List.pairwise_cons.mp hl
    unfold stableSort
    exact insert_ahead x before hb a _ (fun b h => ha b ((perm_stableSort _ l).mem_iff.mp h)) (ih hl')

section
variable (before : Fin n → Fin n → Bool) (hb : ∀ i j, before i j = true ↔ x j < x i)
include hb

/-- Earlier in the sorted order is ahead. -/
theorem sortedFrom_ahead {i j : Fin n} (h : i < j) : ahead x (sortedFrom before i) (sortedFrom before j) := by
  have hp := sort_ahead x before hb (List.finRange n) (List.pairwise_lt_finRange n)
  exact List.pairwise_iff_get.mp hp _ _ (Fin.lt_def.mpr (Fin.lt_def.mp h))

theorem sortedFrom_injective : Function.Injective (sortedFrom before) := by
  intro i j h
  rcases lt_trichotomy i j with hij | hij | hij
  · exact absurd (h ▸ sortedFrom_ahead x before hb hij) (ahead_irrefl x _)
  · exact hij
  · exact absurd (h ▸ sortedFrom_ahead x before hb hij) (ahead_irrefl x _)

theorem sortedFrom_surjective : Function.Surjective (sortedFrom before) :=
  Finite.surjective_of_injective (sortedFrom_injective x before hb)

/-- The position that stands `k`-th in the sorted order has exactly `k` positions before it. -/
theorem rank_sortedFrom (k : Fin n) : rank x (sortedFrom before k) = k.val := by
  have hinj := sortedFrom_injective x before hb
  have : (Finset.univ.filter fun i => ahead x i (sortedFrom before k)) = (Finset.Iio k).image (sortedFrom before) := by
    ext i
    obtain ⟨m, rfl⟩ := sortedFrom_surjective x before hb i
    simp only [Finset.mem_filter, Finset.mem_univ, true_and, Finset.mem_image, Finset.mem_Iio]
    constructor
    · intro h
      rcases lt_trichotomy m k with hm | hm | hm
      · exact ⟨m, hm, rfl⟩
      · subst hm; exact absurd h (ahead_irrefl x _)
      · exact absurd (ahead_trans x h (sortedFrom_ahead x before hb hm)) (ahead_irrefl x _)
    · rintro ⟨m', hm', e⟩
      rw [← e]; exact sortedFrom_ahead x before hb hm'
  unfold rank
  rw [this, Finset.card_image_of_injective _ hinj, Fin.card_Iio]

/-- Among the first `K` of the sorted order exactly when fewer than `K` positions come before. -/
theorem rank_lt_iff (K : Nat) (j : Fin n) : rank x j < K ↔ ∃ k : Fin n, k.val < K ∧ sortedFrom before k = j := by
  obtain ⟨m, rfl⟩ := sortedFrom_surjective x before hb j
  rw [rank_sortedFrom x before hb]
  constructor
  · exact fun h => ⟨m, h, rfl⟩
  · rintro ⟨k, hk, e⟩
    rwa [← sortedFrom_injective x before hb e]
end

end Cert.Proof.Nsa
-- ==== Proof.Pick.lean ====
/- The selection of blocks in the kernel: the importance of a block, the value it is ranked by, its rank by counting,
   and the masks of the three branches as words. -/
module

public import proofs.«01_k».proof.Proof.Body
public import proofs.«01_k».proof.Proof.Rank
public import proofs.«01_k».proof.Proof.Words

@[expose] public section

set_option maxRecDepth 16384

noncomputable section

namespace Cert.Proof.Nsa

open Idealize.ShloMosaic

/-- The importance of the blocks from the summed probabilities, split in three parts of which two are 0. -/
def vBlk (hs : (⟨2, ![128, 128]⟩ : Shape).ShapeCasts ⟨2, ![128, 128]⟩) (ht : FTy.bits .bf16 < FTy.bits .f32)
    (mimp : FVec Ideal ⟨2, ![128, 128]⟩ .bf16) (p : FVec Ideal ⟨2, ![128, 128]⟩ .f32) : FVec Ideal ⟨2, ![128, 128]⟩ .f32 :=
  addf (addf
    (matmul (DotDims.transposedRhs 128 128 128) none (shapeCast ⟨2, ![128, 128]⟩ mimp hs) (truncf .bf16 p ht) (constant ⟨2, ![128, 128]⟩ .f32 0x00000000#32))
    (matmul (DotDims.transposedRhs 128 128 128) none (shapeCast ⟨2, ![128, 128]⟩ mimp hs)
      (truncf .bf16 (subf p (extf .f32 (truncf .bf16 p ht) ht)) ht) (constant ⟨2, ![128, 128]⟩ .f32 0x00000000#32)))
    (matmul (DotDims.transposedRhs 128 128 128) none (shapeCast ⟨2, ![128, 128]⟩ mimp hs)
      (truncf .bf16 (subf (subf p (extf .f32 (truncf .bf16 p ht) ht)) (extf .f32 (truncf .bf16 (subf p (extf .f32 (truncf .bf16 p ht) ht)) ht) ht)) ht)
      (constant ⟨2, ![128, 128]⟩ .f32 0x00000000#32))

theorem sub_self_of_prob {x : EReal} (h0 : 0 ≤ x) (ht : x ≠ ⊤) : x - x = 0 := by
  induction x with
  | bot => simp at h0
  | top => exact absurd rfl ht
  | coe x => rw [← EReal.coe_sub]; simp

theorem vBlk_apply (hs ht) (mimp : FVec Ideal ⟨2, ![128, 128]⟩ .bf16) (p : FVec Ideal ⟨2, ![128, 128]⟩ .f32) (j r : Fin 128)
    (h0 : ∀ n, (0 : EReal) ≤ p (ix2 r n)) (hT : ∀ n, p (ix2 r n) ≠ (⊤ : EReal)) :
    vBlk hs ht mimp p (ix2 j r) = ∑ n : Fin 128, mimp (ix2 j n) * p (ix2 r n) := by
  have hz : ∀ n, (p (ix2 r n) : EReal) - p (ix2 r n) = 0 := fun n => sub_self_of_prob (h0 n) (hT n)
  unfold vBlk
  pointwise
  simp [hz]

/-- The word of the row's number. -/
def vCmpMask (h0 : (⟨2, ![128, 128]⟩ : Shape).Iotas .tc 32 [0]) (h1 : (⟨2, ![128, 128]⟩ : Shape).Iotas .tc 32 [1]) (v3 : BitVec 32) : IVec ⟨2, ![128, 128]⟩ 1 :=
  cmpi .sle (addi (muli (iota .tc ⟨2, ![128, 128]⟩ 32 [1] h1) (broadcast ⟨2, ![128, 128]⟩ 16#32)) (broadcast ⟨2, ![128, 128]⟩ 31#32))
    (addi (broadcast ⟨2, ![128, 128]⟩ v3) (iota .tc ⟨2, ![128, 128]⟩ 32 [0] h0))

theorem vCmpMask_apply (h0 h1) (T : ℕ) (hT : T < 16) (r n : Fin 128) :
    vCmpMask h0 h1 (BitVec.ofNat 32 (128 * T)) (ix2 r n) = BitVec.ofBool (decide (16 * n.val + 31 ≤ 128 * T + r.val)) := by
  unfold vCmpMask
  pointwise
  rw [mul_word, add_word, add_word, sle_word (by omega) (by omega), mul_comm n.val]

/-- The number of the row's block of 64. -/
def vCur (h1 : (⟨2, ![32, 128]⟩ : Shape).Iotas .tc 32 [1]) (hw : (1 : ℕ) < 32) (v3 : BitVec 32) : IVec ⟨2, ![32, 128]⟩ 32 :=
  let t := addi (broadcast ⟨2, ![32, 128]⟩ v3) (iota .tc ⟨2, ![32, 128]⟩ 32 [1] h1)
  let d := divsi t (broadcast ⟨2, ![32, 128]⟩ 64#32)
  select (andi (cmpi .ne (subi (extui 32 (cmpi .sgt t (broadcast ⟨2, ![32, 128]⟩ 0#32)) hw) (extui 32 (cmpi .slt t (broadcast ⟨2, ![32, 128]⟩ 0#32)) hw))
      (broadcast ⟨2, ![32, 128]⟩ (Scalar.subi (Scalar.extui (Scalar.cmpi .sgt 64#32 0#32)) (Scalar.extui (Scalar.cmpi .slt 64#32 0#32)))))
    (cmpi .ne (remsi t (broadcast ⟨2, ![32, 128]⟩ 64#32)) (broadcast ⟨2, ![32, 128]⟩ 0#32))) (subi d (broadcast ⟨2, ![32, 128]⟩ 1#32)) d

theorem vCur_apply (h1 hw) (T : ℕ) (hT : T < 16) (j : Fin 32) (r : Fin 128) :
    vCur h1 hw (BitVec.ofNat 32 (128 * T)) (ix2 j r) = BitVec.ofNat 32 ((128 * T + r.val) / 64) := by
  unfold vCur
  pointwise
  rw [add_word]
  exact floor_word (by omega)

/-- The value a block is ranked by. -/
def vVal (h0 : (⟨2, ![32, 128]⟩ : Shape).Iotas .tc 32 [0]) (h1 : (⟨2, ![32, 128]⟩ : Shape).Iotas .tc 32 [1]) (hw : (1 : ℕ) < 32)
    (hs : (⟨2, ![128, 128]⟩ : Shape).Slices ![0, 0] ⟨2, ![32, 128]⟩) (v3 : BitVec 32) (blk : FVec Ideal ⟨2, ![128, 128]⟩ .f32) :
    FVec Ideal ⟨2, ![32, 128]⟩ .f32 :=
  let jrow := iota .tc ⟨2, ![32, 128]⟩ 32 [0] h0
  select (ori (ori (cmpi .eq jrow (broadcast ⟨2, ![32, 128]⟩ 0#32)) (cmpi .eq jrow (vCur h1 hw v3)))
      (cmpi .eq jrow (subi (vCur h1 hw v3) (broadcast ⟨2, ![32, 128]⟩ 1#32))))
    (broadcast ⟨2, ![32, 128]⟩ (Scalar.ofBits .f32 0x7F800000#32))
    (select (cmpi .sle (muli jrow (broadcast ⟨2, ![32, 128]⟩ 64#32)) (addi (broadcast ⟨2, ![32, 128]⟩ v3) (iota .tc ⟨2, ![32, 128]⟩ 32 [1] h1)))
      (extractStridedSlice ⟨2, ![32, 128]⟩ ![0, 0] blk hs) (broadcast ⟨2, ![32, 128]⟩ (Scalar.ofBits .f32 0xFF800000#32)))

/-- The value a block `j` is ranked by at the query `t`, from the block's importance. -/
def rankVal (t : ℕ) (blk : Fin 32 → EReal) (j : Fin 32) : EReal :=
  if j.val = 0 ∨ j.val = t / 64 ∨ j.val + 1 = t / 64 then ⊤ else if 64 * j.val ≤ t then blk j else ⊥

theorem pred_word {a j : ℕ} (ha : a < 2 ^ 20) (hj : j < 32) :
    IntOp.cmpi .eq (BitVec.ofNat 32 j) (IntOp.subi (BitVec.ofNat 32 a) 1#32) = BitVec.ofBool (decide (j + 1 = a)) := by
  have : (BitVec.ofNat 32 j = BitVec.ofNat 32 a - 1#32) ↔ j + 1 = a := by
    rw [← BitVec.toNat_inj]
    simp only [BitVec.toNat_sub, BitVec.toNat_ofNat]
    omega
  by_cases h : j + 1 = a
  · have h' := this.mpr h
    simp only [IntOp.cmpi, IntOp.subi, h, decide_true]
    rw [beq_iff_eq.mpr h']
  · have h' : ¬ _ := fun e => h (this.mp e)
    simp only [IntOp.cmpi, IntOp.subi, h, decide_false]
    rw [beq_eq_false_iff_ne.mpr h']

theorem vVal_apply (h0 h1 hw hs) (T : ℕ) (hT : T < 16) (blk : FVec Ideal ⟨2, ![128, 128]⟩ .f32) (j : Fin 32) (r : Fin 128) :
    vVal h0 h1 hw hs (BitVec.ofNat 32 (128 * T)) blk (ix2 j r)
      = rankVal (128 * T + r.val) (fun j => blk (ix2 ⟨j.val, by omega⟩ r)) j := by
  unfold vVal
  pointwise
  rw [vCur_apply h1 hw T hT, add_word, mul_word, eq_word (by omega) (by norm_num), eq_word (by omega) (by omega), pred_word (by omega) (by omega),
    sle_word (by omega) (by omega)]
  simp only [IntOp.ori, or_ofBool, select_ofBool]
  rw [bits_top, bits_bot]
  unfold rankVal
  simp only [or_assoc, mul_comm j.val]

/-- One step of the count: whether block `n` comes before each block. -/
def vAhead (h0 : (⟨2, ![32, 128]⟩ : Shape).Iotas .tc 32 [0]) (hb : (⟨2, ![1, 128]⟩ : Shape).Broadcasts ⟨2, ![32, 128]⟩) (hw : (1 : ℕ) < 32)
    (x : FVec Ideal ⟨2, ![32, 128]⟩ .f32) (n : ℕ) (hs : (⟨2, ![32, 128]⟩ : Shape).Slices ![n, 0] ⟨2, ![1, 128]⟩) : IVec ⟨2, ![32, 128]⟩ 32 :=
  let row := broadcastTo ⟨2, ![32, 128]⟩ (extractStridedSlice ⟨2, ![1, 128]⟩ ![n, 0] x hs) hb
  extui 32 (ori (cmpf .ogt row x) (andi (cmpf .oeq row x)
    (cmpi .sgt (iota .tc ⟨2, ![32, 128]⟩ 32 [0] h0) (broadcast ⟨2, ![32, 128]⟩ (BitVec.ofNat 32 n))))) hw

theorem vAhead_apply (h0 hb hw) (x : FVec Ideal ⟨2, ![32, 128]⟩ .f32) (n : Fin 32) (hs) (j : Fin 32) (r : Fin 128) :
    vAhead h0 hb hw x n.val hs (ix2 j r) = BitVec.ofNat 32 (if ahead (fun i => x (ix2 i r)) n j then 1 else 0) := by
  unfold vAhead
  pointwise
  rw [sgt_word (by omega) (by omega)]
  simp only [IntOp.ori, IntOp.andi, and_ofBool, or_ofBool]
  by_cases h : ahead (fun i => x (ix2 i r)) n j
  · rw [if_pos h, decide_eq_true (show x (ix2 j r) < x (ix2 n r) ∨ (x (ix2 n r) = x (ix2 j r) ∧ n.val < j.val) from h)]; rfl
  · rw [if_neg h, decide_eq_false (show ¬ (x (ix2 j r) < x (ix2 n r) ∨ (x (ix2 n r) = x (ix2 j r) ∧ n.val < j.val)) from h)]; rfl

/-- How many of the first `n` blocks come before each block. -/
def vRank (h0 : (⟨2, ![32, 128]⟩ : Shape).Iotas .tc 32 [0]) (hb : (⟨2, ![1, 128]⟩ : Shape).Broadcasts ⟨2, ![32, 128]⟩) (hw : (1 : ℕ) < 32)
    (hs : ∀ n : ℕ, n < 32 → (⟨2, ![32, 128]⟩ : Shape).Slices ![n, 0] ⟨2, ![1, 128]⟩) (x : FVec Ideal ⟨2, ![32, 128]⟩ .f32) :
    (n : ℕ) → n ≤ 32 → IVec ⟨2, ![32, 128]⟩ 32
  | 0, _ => broadcast ⟨2, ![32, 128]⟩ 0#32
  | n + 1, h => addi (vRank h0 hb hw hs x n (Nat.le_of_succ_le h)) (vAhead h0 hb hw x n (hs n h))

theorem vRank_count (h0 hb hw hs) (x : FVec Ideal ⟨2, ![32, 128]⟩ .f32) (j : Fin 32) (r : Fin 128) : ∀ (n : ℕ) (hn : n ≤ 32),
    vRank h0 hb hw hs x n hn (ix2 j r)
      = BitVec.ofNat 32 (Finset.univ.filter fun i : Fin 32 => i.val < n ∧ ahead (fun i => x (ix2 i r)) i j).card := by
  intro n
  induction n with
  | zero => intro hn; simp [vRank, broadcast]
  | succ n ih =>
    intro hn
    show IntOp.addi (vRank h0 hb hw hs x n (Nat.le_of_succ_le hn) (ix2 j r)) (vAhead h0 hb hw x n (hs n hn) (ix2 j r)) = _
    rw [ih (Nat.le_of_succ_le hn), vAhead_apply h0 hb hw x ⟨n, hn⟩ (hs n hn) j r, add_word]
    congr 1
    by_cases h : ahead (fun i => x (ix2 i r)) ⟨n, hn⟩ j
    · rw [if_pos h, ← Finset.card_insert_of_notMem (a := (⟨n, hn⟩ : Fin 32)) (by simp)]
      congr 1
      ext i
      simp only [Finset.mem_insert, Finset.mem_filter, Finset.mem_univ, true_and, Fin.ext_iff]
      constructor
      · rintro (e | ⟨a, b⟩)
        · obtain rfl : i = ⟨n, hn⟩ := Fin.ext e
          exact ⟨Nat.lt_succ_self n, h⟩
        · exact ⟨by omega, b⟩
      · rintro ⟨a, b⟩
        by_cases e : i.val = n
        · exact Or.inl e
        · exact Or.inr ⟨by omega, b⟩
    · rw [if_neg h, Nat.add_zero]
      congr 1
      ext i
      simp only [Finset.mem_filter, Finset.mem_univ, true_and]
      constructor
      · rintro ⟨a, b⟩; exact ⟨by omega, b⟩
      · rintro ⟨a, b⟩
        refine ⟨?_, b⟩
        by_contra hc
        obtain rfl : i = ⟨n, hn⟩ := Fin.ext (by simp; omega)
        exact h b

theorem vRank_apply (h0 hb hw hs) (x : FVec Ideal ⟨2, ![32, 128]⟩ .f32) (j : Fin 32) (r : Fin 128) (hn : 32 ≤ 32) :
    vRank h0 hb hw hs x 32 hn (ix2 j r) = BitVec.ofNat 32 (rank (fun i => x (ix2 i r)) j) := by
  rw [vRank_count h0 hb hw hs x j r 32 hn]
  unfold rank
  congr 2
  ext i
  simp

/-- The chosen blocks as zeros and ones, one row for each query, filled up with zeros to 128 columns. -/
def vChosen (hw : (1 : ℕ) < 32)
    (hcat : Shape.Concatenates [⟨2, ![32, 128]⟩, ⟨2, ![96, 128]⟩] ⟨2, ![128, 128]⟩ 0) (ht : (⟨2, ![128, 128]⟩ : Shape).Transposes [1, 0] ⟨2, ![128, 128]⟩) (hbf : FTy.bf16.bits < FTy.f32.bits)
    (cnt : IVec ⟨2, ![32, 128]⟩ 32) : FVec Ideal ⟨2, ![128, 128]⟩ .bf16 :=
  truncf .bf16 (transpose ⟨2, ![128, 128]⟩ [1, 0]
    (concatenate ⟨2, ![128, 128]⟩ 0
      [⟨⟨2, ![32, 128]⟩, sitofp .f32 (extui 32 (cmpi .slt cnt (broadcast ⟨2, ![32, 128]⟩ 16#32)) hw)⟩,
       ⟨⟨2, ![96, 128]⟩, broadcast ⟨2, ![96, 128]⟩ (Scalar.ofBits .f32 0x00000000#32)⟩] hcat) ht) hbf

theorem vChosen_apply (hw hcat ht hbf) (cnt : IVec ⟨2, ![32, 128]⟩ 32) (r j : Fin 128) (n : ℕ) (hn : n < 2 ^ 31) (hj : j.val < 32)
    (hc : cnt (ix2 ⟨j.val, hj⟩ r) = BitVec.ofNat 32 n) :
    vChosen hw hcat ht hbf cnt (ix2 r j) = if n < 16 then 1 else 0 := by
  unfold vChosen
  pointwise
  rw [dif_pos hj, hc, slt_word hn (by norm_num)]
  by_cases h : n < 16
  · rw [if_pos h, decide_eq_true h]
    show (((BitVec.setWidth 32 (BitVec.ofBool true)).toInt : ℝ) : EReal) = 1
    rw [show (BitVec.setWidth 32 (BitVec.ofBool true)).toInt = 1 from by decide]
    norm_num
  · rw [if_neg h, decide_eq_false h]
    show (((BitVec.setWidth 32 (BitVec.ofBool false)).toInt : ℝ) : EReal) = 0
    rw [show (BitVec.setWidth 32 (BitVec.ofBool false)).toInt = 0 from by decide]
    norm_num

theorem vChosen_rest (hw hcat ht hbf) (cnt : IVec ⟨2, ![32, 128]⟩ 32) (r j : Fin 128) (hj : ¬ j.val < 32) :
    vChosen hw hcat ht hbf cnt (ix2 r j) = 0 := by
  unfold vChosen
  pointwise
  rw [dif_neg hj]

/-- The additive mask of the chosen blocks, over the first `nk` keys. -/
def vPickBias {nk : ℕ} (h0 : (⟨2, ![128, nk]⟩ : Shape).Iotas .tc 32 [0]) (h1 : (⟨2, ![128, nk]⟩ : Shape).Iotas .tc 32 [1]) (fill : EReal)
    (v3 : BitVec 32) (chosen : FVec Ideal ⟨2, ![128, 128]⟩ .bf16) (e : FVec Ideal ⟨2, ![128, nk]⟩ .bf16) : FVec Ideal ⟨2, ![128, nk]⟩ .f32 :=
  select (andi (cmpf .ogt (matmul (DotDims.plain 128 128 nk) none chosen e (broadcast ⟨2, ![128, nk]⟩ (Scalar.ofBits .f32 0x00000000#32)))
        (broadcast ⟨2, ![128, nk]⟩ (Scalar.ofBits .f32 0x3F000000#32)))
      (cmpi .sle (iota .tc ⟨2, ![128, nk]⟩ 32 [1] h1) (addi (broadcast ⟨2, ![128, nk]⟩ v3) (iota .tc ⟨2, ![128, nk]⟩ 32 [0] h0))))
    (broadcast ⟨2, ![128, nk]⟩ (Scalar.ofBits .f32 0x00000000#32)) (broadcast ⟨2, ![128, nk]⟩ fill)

theorem vPickBias_apply {nk : ℕ} (hnk : nk ≤ 2048) (h0 h1) (T : ℕ) (hT : T < 16) (chosen : FVec Ideal ⟨2, ![128, 128]⟩ .bf16)
    (e : FVec Ideal ⟨2, ![128, nk]⟩ .bf16) (r : Fin 128) (k : Fin nk) (C : Prop) [Decidable C]
    (hC : (∑ j : Fin 128, chosen (ix2 r j) * e (ix2 j k)) = if C then 1 else 0) :
    vPickBias h0 h1 (⊥ : EReal) (BitVec.ofNat 32 (128 * T)) chosen e (ix2 r k) = if C ∧ k.val ≤ 128 * T + r.val then 0 else ⊥ := by
  unfold vPickBias
  pointwise
  rw [add_word, sle_word (by omega) (by omega), hC, bits_half]
  simp only [IntOp.andi, and_ofBool, select_ofBool]
  by_cases h : C
  · have h1 : ((1 / 2 : ℝ) : EReal) < 1 := by exact_mod_cast (by norm_num : (1 / 2 : ℝ) < 1)
    simp only [h, h1, if_true, if_false, true_and, false_and]
  · have h1 : ¬ ((1 / 2 : ℝ) : EReal) < 0 := by rw [not_lt]; exact_mod_cast (by norm_num : (0 : ℝ) ≤ 1 / 2)
    simp only [h, h1, if_true, if_false, true_and, false_and]

/-- The additive mask of the window. -/
def vWinBias (h0 : (⟨2, ![128, 640]⟩ : Shape).Iotas .tc 32 [0]) (h1 : (⟨2, ![128, 640]⟩ : Shape).Iotas .tc 32 [1]) (fill : EReal)
    (v3 ks : BitVec 32) : FVec Ideal ⟨2, ![128, 640]⟩ .f32 :=
  let d := subi (addi (broadcast ⟨2, ![128, 640]⟩ v3) (iota .tc ⟨2, ![128, 640]⟩ 32 [0] h0))
    (addi (broadcast ⟨2, ![128, 640]⟩ ks) (iota .tc ⟨2, ![128, 640]⟩ 32 [1] h1))
  select (andi (cmpi .sge d (broadcast ⟨2, ![128, 640]⟩ 0#32)) (cmpi .slt d (broadcast ⟨2, ![128, 640]⟩ 512#32)))
    (broadcast ⟨2, ![128, 640]⟩ (Scalar.ofBits .f32 0x00000000#32)) (broadcast ⟨2, ![128, 640]⟩ fill)

theorem vWinBias_apply (h0 h1) (T : ℕ) (hT : T < 16) (s : ℕ) (hs : s < 2048) (r : Fin 128) (k : Fin 640) :
    vWinBias h0 h1 (⊥ : EReal) (BitVec.ofNat 32 (128 * T)) (BitVec.ofNat 32 s) (ix2 r k)
      = if s + k.val ≤ 128 * T + r.val ∧ 128 * T + r.val < s + k.val + 512 then 0 else ⊥ := by
  unfold vWinBias
  pointwise
  rw [add_word, add_word, sub_sge_word (by omega) (by omega), sub_slt_word (by omega) (by omega)]
  simp only [IntOp.andi, and_ofBool, select_ofBool]

end Cert.Proof.Nsa
-- ==== Proof.Spec.lean ====
/- What the attention computes, for one batch, as plain sums: the compressed blocks, the importance of the selection blocks,
   the three branches and the gates. -/
module

public import proofs.«01_k».proof.Proof.Body
public import proofs.«01_k».proof.Proof.Pick

@[expose] public section

noncomputable section

namespace Cert.Proof.Nsa

open Idealize.ShloMosaic

/-- The group of keys and values that a query head reads. -/
def grp (h : Fin 8) : Fin 2 := ⟨h.val / 4, by omega⟩

/-- The tanh form of the gelu. -/
def gelu (x : EReal) : EReal :=
  x * (Ideal.ofBits .f32 0x3F000000#32 * (1
    + Ideal.tanh (Ideal.ofBits .f32 0x3F4C422A#32 * (x + Ideal.ofBits .f32 0x3D372713#32 * (x * x * x)))))

/-- The hidden layer of the compression of block `n`: 32 rows from row `16 n` on, each with its position added. -/
def hid (c : Fin 2048 → Fin 2 → Fin 64 → EReal) (pos : Fin 32 → Fin 64 → EReal) (w1 : Fin 32 → Fin 64 → Fin 64 → EReal)
    (n : Fin 127) (g : Fin 2) (e : Fin 64) : EReal :=
  ∑ l : Fin 32, ∑ d : Fin 64, (c ⟨16 * n.val + l.val, by omega⟩ g d + pos l d) * w1 l d e

/-- The compressed block `n`. -/
def cmpr (c : Fin 2048 → Fin 2 → Fin 64 → EReal) (pos : Fin 32 → Fin 64 → EReal) (w1 : Fin 32 → Fin 64 → Fin 64 → EReal)
    (w2 : Fin 64 → Fin 64 → EReal) (n : Fin 127) (g : Fin 2) (f : Fin 64) : EReal :=
  ∑ e : Fin 64, gelu (hid c pos w1 n g e) * w2 e f

/-- The scaled score of a query against a key. -/
def score (q k : Fin 64 → EReal) : EReal := (∑ d, q d * k d) * eighth

/-- The compressed blocks that end at or before the query `t`. -/
def cmpSet (t : ℕ) : Finset (Fin 127) := Finset.univ.filter fun n => 16 * n.val + 31 ≤ t

/-- The compressed branch. -/
def ocmp (q : Fin 2048 → Fin 8 → Fin 64 → EReal) (kc vc : Fin 127 → Fin 2 → Fin 64 → EReal) (t : Fin 2048) (h : Fin 8) (f : Fin 64) : EReal :=
  att eps (cmpSet t.val) (fun n => score (q t h) (kc n (grp h))) fun n => vc n (grp h) f

/-- The importance of compressed block `n` for the heads of group `g`. -/
def imp (q : Fin 2048 → Fin 8 → Fin 64 → EReal) (kc : Fin 127 → Fin 2 → Fin 64 → EReal) (t : Fin 2048) (g : Fin 2) (n : Fin 127) : EReal :=
  ∑ i : Fin 4, prob (cmpSet t.val) (fun n => score (q t ⟨g.val * 4 + i.val, by omega⟩) (kc n g)) n

/-- The importance of the selection block `j`: of each compressed block that overlaps it, as often as it does by half. -/
def blk (q : Fin 2048 → Fin 8 → Fin 64 → EReal) (kc : Fin 127 → Fin 2 → Fin 64 → EReal) (t : Fin 2048) (g : Fin 2) (j : Fin 32) : EReal :=
  ∑ n : Fin 127, ((if n.val / 4 = j.val then imp q kc t g n else 0) + (if (n.val + 1) / 4 = j.val then imp q kc t g n else 0))

/-- Whether the selection block `j` is among the first 16. -/
def chosen (q : Fin 2048 → Fin 8 → Fin 64 → EReal) (kc : Fin 127 → Fin 2 → Fin 64 → EReal) (t : Fin 2048) (g : Fin 2) (j : Fin 32) : Prop :=
  rank (rankVal t.val (blk q kc t g)) j < 16

instance (q kc t g j) : Decidable (chosen q kc t g j) := by unfold chosen; infer_instance

/-- The selected branch. -/
def oslc (q : Fin 2048 → Fin 8 → Fin 64 → EReal) (kc : Fin 127 → Fin 2 → Fin 64 → EReal) (ks vs : Fin 2048 → Fin 2 → Fin 64 → EReal)
    (t : Fin 2048) (h : Fin 8) (f : Fin 64) : EReal :=
  att eps (Finset.univ.filter fun k : Fin 2048 => chosen q kc t (grp h) ⟨k.val / 64, by omega⟩ ∧ k.val ≤ t.val)
    (fun k => score (q t h) (ks k (grp h))) fun k => vs k (grp h) f

/-- The window branch. -/
def owin (q : Fin 2048 → Fin 8 → Fin 64 → EReal) (kw vw : Fin 2048 → Fin 2 → Fin 64 → EReal) (t : Fin 2048) (h : Fin 8) (f : Fin 64) : EReal :=
  att eps (Finset.univ.filter fun k : Fin 2048 => k.val ≤ t.val ∧ t.val < k.val + 512)
    (fun k => score (q t h) (kw k (grp h))) fun k => vw k (grp h) f

/-- The three branches, each times its gate. -/
def gated (g0 g1 g2 a b c : EReal) : EReal := Ideal.logistic g0 * a + Ideal.logistic g1 * b + Ideal.logistic g2 * c

/-- The arrays of the attention, read by their coordinates in one batch. -/
def rd4 {a b d : ℕ} (x : FVec Ideal ⟨4, ![8, a, b, d]⟩ .f32) (B : Fin 8) : Fin a → Fin b → Fin d → EReal := fun i j k => x (ix4 B i j k)

def rd3 {a b d : ℕ} (x : FVec Ideal ⟨3, ![a, b, d]⟩ .f32) : Fin a → Fin b → Fin d → EReal := fun i j k => x (ix3 i j k)

def rd2 {a b : ℕ} (x : FVec Ideal ⟨2, ![a, b]⟩ .f32) : Fin a → Fin b → EReal := fun i j => x (ix2 i j)

/-- The result at batch `B`, query `t`, head `h`, column `f`. -/
def nsa (x0 : FVec Ideal ⟨4, ![8, 2048, 8, 64]⟩ .f32) (x1 x2 x3 x4 x5 x6 : FVec Ideal ⟨4, ![8, 2048, 2, 64]⟩ .f32)
    (x7 : FVec Ideal ⟨4, ![8, 2048, 8, 3]⟩ .f32) (x8 : FVec Ideal ⟨2, ![32, 64]⟩ .f32) (x9 : FVec Ideal ⟨3, ![32, 64, 64]⟩ .f32)
    (x10 : FVec Ideal ⟨2, ![64, 64]⟩ .f32) (x11 : FVec Ideal ⟨3, ![32, 64, 64]⟩ .f32) (x12 : FVec Ideal ⟨2, ![64, 64]⟩ .f32)
    (B : Fin 8) (t : Fin 2048) (h : Fin 8) (f : Fin 64) : EReal :=
  gated (x7 (ix4 B t h 0)) (x7 (ix4 B t h 1)) (x7 (ix4 B t h 2))
    (ocmp (rd4 x0 B) (cmpr (rd4 x1 B) (rd2 x8) (rd3 x9) (rd2 x10)) (cmpr (rd4 x2 B) (rd2 x8) (rd3 x11) (rd2 x12)) t h f)
    (oslc (rd4 x0 B) (cmpr (rd4 x1 B) (rd2 x8) (rd3 x9) (rd2 x10)) (rd4 x3 B) (rd4 x4 B) t h f)
    (owin (rd4 x0 B) (rd4 x5 B) (rd4 x6 B) t h f)

end Cert.Proof.Nsa
-- ==== Proof.RefWin.lean ====
/- The reference's window branch, read at an index. -/
module
public import proofs.«01_k».proof.Proof.Spec
public import proofs.«01_k».proof.Proof.Gen.ReferenceIdeal.Read
@[expose] public section
set_option maxRecDepth 16384
noncomputable section
namespace Cert.Proof.Nsa
open Idealize.ShloMosaic
open Cert.ReferenceIdeal.Read Cert.ReferenceIdeal

/-- The head `i` of group `g`. -/
abbrev hd (g : Fin 2) (i : Fin 4) : Fin 8 := ⟨g.val * 4 + i.val, by omega⟩

theorem grp_hd (g : Fin 2) (i : Fin 4) : grp (hd g i) = g := Fin.ext (by show (g.val * 4 + i.val) / 4 = g.val; omega)

theorem score_comm (q k : Fin 64 → EReal) : (∑ d, k d * q d) * eighth = score q k := by
  unfold score; simp only [mul_comm (k _)]

/-- The plain masked softmax, as a sum of divided weights: attention over the masked keys. -/
theorem ref_head {ι : Type} [Fintype ι] [DecidableEq ι] (M : ι → Prop) [DecidablePred M] (s v : ι → EReal) (p m s' : ι → EReal)
    (hs' : ∀ k, s' k = if M k then s k else ⊥) (hm : ∀ k, m k = Finset.univ.sup s')
    (hp : ∀ k, p k = if M k then Ideal.exp (s' k - m k) else 0) :
    ∑ k, Ideal.div (p k) (max (0 + ∑ k, p k) eps) * v k = att eps (Finset.univ.filter M) s v := by
  have h : ∀ k, p k = if M k then wt (Finset.univ.filter M) s k else 0 := fun k => by
    rw [hp, hm, hs', ← exp_fill_mask]
    have : s' = fun k => if M k then s k else ⊥ := funext hs'
    rw [this]
  simp only [h]
  rw [zero_add, den_ite]
  exact att_first_ite M eps_pos s v

theorem ref_prob {ι : Type} [Fintype ι] [DecidableEq ι] (M : ι → Prop) [DecidablePred M] (s : ι → EReal) (p m s' : ι → EReal)
    (hs' : ∀ k, s' k = if M k then s k else ⊥) (hm : ∀ k, m k = Finset.univ.sup s')
    (hp : ∀ k, p k = if M k then Ideal.exp (s' k - m k) else 0) (k : ι) :
    Ideal.div (p k) (max (0 + ∑ k, p k) eps) = prob (Finset.univ.filter M) s k := by
  have h : ∀ k, p k = if M k then wt (Finset.univ.filter M) s k else 0 := fun k => by
    rw [hp, hm, hs', ← exp_fill_mask]
    have : s' = fun k => if M k then s k else ⊥ := funext hs'
    rw [this]
  simp only [h]
  rw [zero_add, den_ite]
  unfold prob
  by_cases hk : M k
  · rw [if_pos hk, if_pos (by simpa using hk)]
  · rw [if_neg hk, if_neg (by simpa using hk), zero_div_den eps_pos]

theorem ref_win_mask (B : Fin 8) (g : Fin 2) (i : Fin 4) (t k : Fin 2048) :
    val_main_call0_v1 (F := Ideal) (ix5 B g i t k) = BitVec.ofBool (decide (k.val ≤ t.val ∧ t.val < k.val + 512)) := by
  pointwise [val_main_call0_v1, val_main_v11, val_main_v10, val_main_v9, val_main_v8, val_main_v7, val_main_v6, val_main_v5, val_main_v4, val_main_v3, val_main_v2, val_main_v0, val_main_c, val_main_c_0]
  rw [sub_sge_word (by omega) (by omega), sub_slt_word (by omega) (by omega)]
  simp only [IntOp.andi, and_ofBool]

theorem ref_win_score (x0 x5) (B : Fin 8) (g : Fin 2) (i : Fin 4) (t k : Fin 2048) :
    val_main_v15 (F := Ideal) x0 x5 (ix5 B g i t k) = score (rd4 x0 B t (hd g i)) (rd4 x5 B k g) := by
  pointwise [val_main_v15, val_main_v14, val_main_v13, val_main_v12, val_main_v1, val_main_cst]
  rw [bits_eighth32]
  exact score_comm (rd4 x0 B t (hd g i)) (rd4 x5 B k g)

theorem ref_win_fill (x0 x5) (B : Fin 8) (g : Fin 2) (i : Fin 4) (t k : Fin 2048) :
    val_main_v16 (F := Ideal) x0 x5 (ix5 B g i t k)
      = if k.val ≤ t.val ∧ t.val < k.val + 512 then score (rd4 x0 B t (hd g i)) (rd4 x5 B k g) else ⊥ := by
  rw [val_main_v16_apply, ref_win_mask, ref_win_score, select_ofBool]
  congr 1

theorem ref_win_max (x0 x5) (B : Fin 8) (g : Fin 2) (i : Fin 4) (t k : Fin 2048) :
    val_main_v19 (F := Ideal) x0 x5 (ix5 B g i t k) = Finset.univ.sup fun k : Fin 2048 => val_main_v16 (F := Ideal) x0 x5 (ix5 B g i t k) := by
  pointwise [val_main_v19, val_main_v18, val_main_v17, val_main_cst_2]
  rw [bits_bot, fold_max_bot]

theorem ref_win_exp (x0 x5) (B : Fin 8) (g : Fin 2) (i : Fin 4) (t k : Fin 2048) :
    val_main_v22 (F := Ideal) x0 x5 (ix5 B g i t k) = if k.val ≤ t.val ∧ t.val < k.val + 512 then
      Ideal.exp (val_main_v16 (F := Ideal) x0 x5 (ix5 B g i t k) - val_main_v19 (F := Ideal) x0 x5 (ix5 B g i t k)) else 0 := by
  rw [val_main_v22_apply, show val_main_call1_v1 (F := Ideal) = val_main_call0_v1 (F := Ideal) from rfl, ref_win_mask, select_ofBool]
  congr 1
  pointwise [val_main_call1_v2, val_main_call1_v0, val_main_cst_3]
  exact bits_zero

theorem ref_win_den (x0 x5) (B : Fin 8) (g : Fin 2) (i : Fin 4) (t k : Fin 2048) :
    val_main_v28 (F := Ideal) x0 x5 (ix5 B g i t k) = Ideal.div (val_main_v22 (F := Ideal) x0 x5 (ix5 B g i t k))
      (max (0 + ∑ k, val_main_v22 (F := Ideal) x0 x5 (ix5 B g i t k)) eps) := by
  unfold eps
  rw [zero_add]
  pointwise [val_main_v28, val_main_v27, val_main_v26, val_main_v25, val_main_v24, val_main_v23, val_main_cst_5, val_main_cst_4]

theorem ref_win (x0 x5 x6) (B : Fin 8) (g : Fin 2) (i : Fin 4) (t : Fin 2048) (f : Fin 64) :
    val_main_v30 (F := Ideal) x0 x5 x6 (ix5 B t g i f) = owin (rd4 x0 B) (rd4 x5 B) (rd4 x6 B) t (hd g i) f := by
  have h : val_main_v30 (F := Ideal) x0 x5 x6 (ix5 B t g i f) = ∑ k : Fin 2048, x6 (ix4 B k g f) * val_main_v28 (F := Ideal) x0 x5 (ix5 B g i t k) := by
    pointwise [val_main_v30, val_main_v29]
  rw [h]
  unfold owin
  rw [grp_hd]
  simp only [ref_win_den, mul_comm (x6 _)]
  exact ref_head (fun k : Fin 2048 => k.val ≤ t.val ∧ t.val < k.val + 512) _ _ _ _ _ (ref_win_fill x0 x5 B g i t) (ref_win_max x0 x5 B g i t)
    (ref_win_exp x0 x5 B g i t)

end Cert.Proof.Nsa
-- ==== Proof.RefCmp.lean ====
/- The reference's compressed branch and the importance of its blocks, read at an index. -/
module
public import proofs.«01_k».proof.Proof.RefWin
@[expose] public section
set_option maxRecDepth 16384
noncomputable section
namespace Cert.Proof.Nsa
open Idealize.ShloMosaic
open Cert.ReferenceIdeal.Read Cert.ReferenceIdeal

theorem ref_cmp_k_rows (x1 x8) (B : Fin 8) (n : Fin 127) (l : Fin 32) (g : Fin 2) (d : Fin 64) :
    val_main_v38 (F := Ideal) x1 x8 (ix5 B n l g d) = rd4 x1 B ⟨16 * n.val + l.val, by omega⟩ g d + rd2 x8 l d := by
  pointwise [val_main_v38, val_main_v37, val_main_v36, val_main_v35, val_main_v34, val_main_v33, val_main_v32, val_main_v31]
  refine congrArg (· + x8 (ix2 l d)) ?_
  unfold rd4
  split
  · exact congrArg (fun i => x1 (ix4 B i g d)) (Fin.ext (by show n.val * 16 + l.val = 16 * n.val + l.val; omega))
  · exact congrArg (fun i => x1 (ix4 B i g d)) (Fin.ext (by show (1 + n.val) * 16 + (l.val - 16) = 16 * n.val + l.val; omega))

theorem ref_cmp_k_hid (x1 x8 x9) (B : Fin 8) (n : Fin 127) (g : Fin 2) (e : Fin 64) :
    val_main_v39 (F := Ideal) x1 x8 x9 (ix4 B n g e) = hid (rd4 x1 B) (rd2 x8) (rd3 x9) n g e := by
  pointwise [val_main_v39]
  rw [Finset.sum_comm]
  unfold hid
  refine Finset.sum_congr rfl fun l _ => Finset.sum_congr rfl fun d _ => ?_
  rw [ref_cmp_k_rows]; rfl

theorem ref_cmp_k_gelu (x1 x8 x9) (B : Fin 8) (n : Fin 127) (g : Fin 2) (e : Fin 64) :
    val_main_v52 (F := Ideal) x1 x8 x9 (ix4 B n g e) = gelu (val_main_v39 (F := Ideal) x1 x8 x9 (ix4 B n g e)) := by
  unfold gelu
  pointwise [val_main_v52, val_main_v51, val_main_v50, val_main_v49, val_main_v48, val_main_v47, val_main_v46, val_main_v45, val_main_v44, val_main_v43, val_main_v42, val_main_v41, val_main_v40, val_main_cst_6, val_main_cst_7, val_main_cst_8, val_main_cst_9]

theorem ref_cmp_k (x1 x8 x9 x10) (B : Fin 8) (n : Fin 127) (g : Fin 2) (f : Fin 64) :
    val_main_v53 (F := Ideal) x1 x8 x9 x10 (ix4 B n g f) = cmpr (rd4 x1 B) (rd2 x8) (rd3 x9) (rd2 x10) n g f := by
  pointwise [val_main_v53]
  unfold cmpr
  refine Finset.sum_congr rfl fun e _ => ?_
  rw [ref_cmp_k_gelu, ref_cmp_k_hid]; rfl

theorem ref_cmp_v_rows (x2 x8) (B : Fin 8) (n : Fin 127) (l : Fin 32) (g : Fin 2) (d : Fin 64) :
    val_main_v61 (F := Ideal) x2 x8 (ix5 B n l g d) = rd4 x2 B ⟨16 * n.val + l.val, by omega⟩ g d + rd2 x8 l d := by
  pointwise [val_main_v61, val_main_v60, val_main_v59, val_main_v58, val_main_v57, val_main_v56, val_main_v55, val_main_v54]
  refine congrArg (· + x8 (ix2 l d)) ?_
  unfold rd4
  split
  · exact congrArg (fun i => x2 (ix4 B i g d)) (Fin.ext (by show n.val * 16 + l.val = 16 * n.val + l.val; omega))
  · exact congrArg (fun i => x2 (ix4 B i g d)) (Fin.ext (by show (1 + n.val) * 16 + (l.val - 16) = 16 * n.val + l.val; omega))

theorem ref_cmp_v_hid (x2 x8 x11) (B : Fin 8) (n : Fin 127) (g : Fin 2) (e : Fin 64) :
    val_main_v62 (F := Ideal) x2 x8 x11 (ix4 B n g e) = hid (rd4 x2 B) (rd2 x8) (rd3 x11) n g e := by
  pointwise [val_main_v62]
  rw [Finset.sum_comm]
  unfold hid
  refine Finset.sum_congr rfl fun l _ => Finset.sum_congr rfl fun d _ => ?_
  rw [ref_cmp_v_rows]; rfl

theorem ref_cmp_v_gelu (x2 x8 x11) (B : Fin 8) (n : Fin 127) (g : Fin 2) (e : Fin 64) :
    val_main_v75 (F := Ideal) x2 x8 x11 (ix4 B n g e) = gelu (val_main_v62 (F := Ideal) x2 x8 x11 (ix4 B n g e)) := by
  unfold gelu
  pointwise [val_main_v75, val_main_v74, val_main_v73, val_main_v72, val_main_v71, val_main_v70, val_main_v69, val_main_v68, val_main_v67, val_main_v66, val_main_v65, val_main_v64, val_main_v63, val_main_cst_10, val_main_cst_11, val_main_cst_12, val_main_cst_13]

theorem ref_cmp_v (x2 x8 x11 x12) (B : Fin 8) (n : Fin 127) (g : Fin 2) (f : Fin 64) :
    val_main_v76 (F := Ideal) x2 x8 x11 x12 (ix4 B n g f) = cmpr (rd4 x2 B) (rd2 x8) (rd3 x11) (rd2 x12) n g f := by
  pointwise [val_main_v76]
  unfold cmpr
  refine Finset.sum_congr rfl fun e _ => ?_
  rw [ref_cmp_v_gelu, ref_cmp_v_hid]; rfl

/-- The compressed keys of one batch. -/
abbrev kcOf (x1 : FVec Ideal ⟨4, ![8, 2048, 2, 64]⟩ .f32) (x8 : FVec Ideal ⟨2, ![32, 64]⟩ .f32) (x9 : FVec Ideal ⟨3, ![32, 64, 64]⟩ .f32)
    (x10 : FVec Ideal ⟨2, ![64, 64]⟩ .f32) (B : Fin 8) : Fin 127 → Fin 2 → Fin 64 → EReal := cmpr (rd4 x1 B) (rd2 x8) (rd3 x9) (rd2 x10)

theorem ref_cmp_mask (B : Fin 8) (g : Fin 2) (i : Fin 4) (t : Fin 2048) (n : Fin 127) :
    val_main_call2_v1 (F := Ideal) (ix5 B g i t n) = BitVec.ofBool (decide (16 * n.val + 31 ≤ t.val)) := by
  pointwise [val_main_call2_v1, val_main_v88, val_main_v87, val_main_v86, val_main_v85, val_main_v84, val_main_v83, val_main_v82, val_main_v81, val_main_v80, val_main_v79, val_main_v78, val_main_v77, val_main_v0, val_main_c_14, val_main_c_15, val_main_c_16]
  have h : IntOp.subi (IntOp.addi (IntOp.muli (BitVec.ofNat 32 n.val) 16#32) 32#32) 1#32 = BitVec.ofNat 32 (16 * n.val + 31) := by
    rw [mul_word, add_word]
    unfold IntOp.subi
    rw [← BitVec.toNat_inj]
    simp only [BitVec.toNat_sub, BitVec.toNat_ofNat]
    omega
  rw [h, sle_word (by omega) (by omega)]

theorem ref_cmp_score (x0 x1 x8 x9 x10) (B : Fin 8) (g : Fin 2) (i : Fin 4) (t : Fin 2048) (n : Fin 127) :
    val_main_v92 (F := Ideal) x0 x1 x8 x9 x10 (ix5 B g i t n) = score (rd4 x0 B t (hd g i)) (kcOf x1 x8 x9 x10 B n g) := by
  pointwise [val_main_v92, val_main_v91, val_main_v90, val_main_v89, val_main_v1, val_main_cst_17]
  simp only [ref_cmp_k]
  rw [bits_eighth32]
  exact score_comm (rd4 x0 B t (hd g i)) _

theorem ref_cmp_fill (x0 x1 x8 x9 x10) (B : Fin 8) (g : Fin 2) (i : Fin 4) (t : Fin 2048) (n : Fin 127) :
    val_main_v93 (F := Ideal) x0 x1 x8 x9 x10 (ix5 B g i t n)
      = if 16 * n.val + 31 ≤ t.val then score (rd4 x0 B t (hd g i)) (kcOf x1 x8 x9 x10 B n g) else ⊥ := by
  rw [val_main_v93_apply, ref_cmp_mask, ref_cmp_score, select_ofBool]
  congr 1

theorem ref_cmp_max (x0 x1 x8 x9 x10) (B : Fin 8) (g : Fin 2) (i : Fin 4) (t : Fin 2048) (n : Fin 127) :
    val_main_v96 (F := Ideal) x0 x1 x8 x9 x10 (ix5 B g i t n)
      = Finset.univ.sup fun n : Fin 127 => val_main_v93 (F := Ideal) x0 x1 x8 x9 x10 (ix5 B g i t n) := by
  pointwise [val_main_v96, val_main_v95, val_main_v94, val_main_cst_19]
  rw [bits_bot, fold_max_bot]

theorem ref_cmp_exp (x0 x1 x8 x9 x10) (B : Fin 8) (g : Fin 2) (i : Fin 4) (t : Fin 2048) (n : Fin 127) :
    val_main_v99 (F := Ideal) x0 x1 x8 x9 x10 (ix5 B g i t n) = if 16 * n.val + 31 ≤ t.val then
      Ideal.exp (val_main_v93 (F := Ideal) x0 x1 x8 x9 x10 (ix5 B g i t n) - val_main_v96 (F := Ideal) x0 x1 x8 x9 x10 (ix5 B g i t n)) else 0 := by
  rw [val_main_v99_apply, show val_main_call3_v1 (F := Ideal) = val_main_call2_v1 (F := Ideal) from rfl, ref_cmp_mask, select_ofBool]
  congr 1
  pointwise [val_main_call3_v2, val_main_call3_v0, val_main_cst_20]
  exact bits_zero

theorem ref_cmp_den (x0 x1 x8 x9 x10) (B : Fin 8) (g : Fin 2) (i : Fin 4) (t : Fin 2048) (n : Fin 127) :
    val_main_v105 (F := Ideal) x0 x1 x8 x9 x10 (ix5 B g i t n) = Ideal.div (val_main_v99 (F := Ideal) x0 x1 x8 x9 x10 (ix5 B g i t n))
      (max (0 + ∑ n, val_main_v99 (F := Ideal) x0 x1 x8 x9 x10 (ix5 B g i t n)) eps) := by
  unfold eps
  rw [zero_add]
  pointwise [val_main_v105, val_main_v104, val_main_v103, val_main_v102, val_main_v101, val_main_v100, val_main_cst_21, val_main_cst_22]

theorem ref_cmp_prob (x0 x1 x8 x9 x10) (B : Fin 8) (g : Fin 2) (i : Fin 4) (t : Fin 2048) (n : Fin 127) :
    val_main_v105 (F := Ideal) x0 x1 x8 x9 x10 (ix5 B g i t n)
      = prob (cmpSet t.val) (fun n => score (rd4 x0 B t (hd g i)) (kcOf x1 x8 x9 x10 B n g)) n := by
  rw [ref_cmp_den]
  exact ref_prob (fun n : Fin 127 => 16 * n.val + 31 ≤ t.val) _ _ _ _ (ref_cmp_fill x0 x1 x8 x9 x10 B g i t) (ref_cmp_max x0 x1 x8 x9 x10 B g i t)
    (ref_cmp_exp x0 x1 x8 x9 x10 B g i t) n

theorem ref_cmp (x0 x1 x2 x8 x9 x10 x11 x12) (B : Fin 8) (g : Fin 2) (i : Fin 4) (t : Fin 2048) (f : Fin 64) :
    val_main_v107 (F := Ideal) x0 x1 x2 x8 x9 x10 x11 x12 (ix5 B t g i f)
      = ocmp (rd4 x0 B) (kcOf x1 x8 x9 x10 B) (kcOf x2 x8 x11 x12 B) t (hd g i) f := by
  have h : val_main_v107 (F := Ideal) x0 x1 x2 x8 x9 x10 x11 x12 (ix5 B t g i f)
      = ∑ n : Fin 127, val_main_v76 (F := Ideal) x2 x8 x11 x12 (ix4 B n g f) * val_main_v105 (F := Ideal) x0 x1 x8 x9 x10 (ix5 B g i t n) := by
    pointwise [val_main_v107, val_main_v106]
  rw [h]
  unfold ocmp
  rw [grp_hd]
  simp only [ref_cmp_den, mul_comm (val_main_v76 _ _ _ _ _)]
  refine (ref_head (fun n : Fin 127 => 16 * n.val + 31 ≤ t.val) _ _ _ _ _ (ref_cmp_fill x0 x1 x8 x9 x10 B g i t) (ref_cmp_max x0 x1 x8 x9 x10 B g i t)
    (ref_cmp_exp x0 x1 x8 x9 x10 B g i t)).trans ?_
  simp only [ref_cmp_v]
  rfl

theorem ref_imp (x0 x1 x8 x9 x10) (B : Fin 8) (g : Fin 2) (t : Fin 2048) (n : Fin 127) :
    val_main_v108 (F := Ideal) x0 x1 x8 x9 x10 (ix4 B g t n) = imp (rd4 x0 B) (kcOf x1 x8 x9 x10 B) t g n := by
  have h : val_main_v108 (F := Ideal) x0 x1 x8 x9 x10 (ix4 B g t n)
      = ∑ i : Fin 4, val_main_v105 (F := Ideal) x0 x1 x8 x9 x10 (ix5 B g i t n) := by
    pointwise [val_main_v108, val_main_cst_23]
  rw [h]
  simp only [ref_cmp_prob]
  rfl

/-- A sum over the 127 blocks whose quotient by 4 is `j` has four terms, the last block of all being absent. -/
theorem sum_quarter (f : ℕ → EReal) (j : Fin 32) :
    (∑ m ∈ Finset.range 128, if m / 4 = j.val then f m else 0) = ∑ x : Fin 4, f (j.val * 4 + x.val) := by
  rw [← Finset.sum_filter, Finset.sum_fin_eq_sum_range,
    show (Finset.range 128).filter (fun m => m / 4 = j.val) = (Finset.range 4).image (fun x => j.val * 4 + x) from by
      ext m
      simp only [Finset.mem_filter, Finset.mem_range, Finset.mem_image]
      constructor
      · rintro ⟨a, b⟩; exact ⟨m - j.val * 4, by omega, by omega⟩
      · rintro ⟨x, a, rfl⟩; omega,
    Finset.sum_image (fun a _ b _ h => by simpa using h)]
  refine Finset.sum_congr rfl fun x hx => ?_
  rw [dif_pos (Finset.mem_range.mp hx)]

theorem blk_quarter (f : Fin 127 → EReal) (j : Fin 32) :
    (∑ n : Fin 127, ((if n.val / 4 = j.val then f n else 0) + (if (n.val + 1) / 4 = j.val then f n else 0)))
      = ∑ x : Fin 4, ((if h : j.val * 4 + x.val < 127 then f ⟨j.val * 4 + x.val, h⟩ else 0)
        + (if h : 1 ≤ j.val * 4 + x.val ∧ j.val * 4 + x.val - 1 < 127 then f ⟨j.val * 4 + x.val - 1, h.2⟩ else 0)) := by
  rw [Finset.sum_add_distrib, Finset.sum_add_distrib,
    ← sum_quarter (fun m => if h : m < 127 then f ⟨m, h⟩ else 0) j,
    ← sum_quarter (fun m => if h : 1 ≤ m ∧ m - 1 < 127 then f ⟨m - 1, h.2⟩ else 0) j]
  congr 1
  · rw [Finset.sum_range_succ, Finset.sum_fin_eq_sum_range]
    simp only [lt_self_iff_false, dite_false, ite_self, add_zero]
    refine Finset.sum_congr rfl fun m hm => ?_
    rw [dif_pos (Finset.mem_range.mp hm), dif_pos (Finset.mem_range.mp hm)]
  · rw [Finset.sum_range_succ', Finset.sum_fin_eq_sum_range]
    simp only [nonpos_iff_eq_zero, one_ne_zero, false_and, dite_false, ite_self, add_zero]
    refine Finset.sum_congr rfl fun m hm => ?_
    have hm' := Finset.mem_range.mp hm
    rw [dif_pos hm', dif_pos (show 1 ≤ m + 1 ∧ m + 1 - 1 < 127 from ⟨by omega, by omega⟩)]
    rfl

theorem ref_blk (x0 x1 x8 x9 x10) (B : Fin 8) (g : Fin 2) (t : Fin 2048) (j : Fin 32) :
    val_main_v115 (F := Ideal) x0 x1 x8 x9 x10 (ix4 B g t j) = blk (rd4 x0 B) (kcOf x1 x8 x9 x10 B) t g j := by
  have h : val_main_v115 (F := Ideal) x0 x1 x8 x9 x10 (ix4 B g t j)
      = ∑ x : Fin 4, ((if h : j.val * 4 + x.val < 127 then val_main_v108 (F := Ideal) x0 x1 x8 x9 x10 (ix4 B g t ⟨j.val * 4 + x.val, h⟩) else 0)
        + (if h : 1 ≤ j.val * 4 + x.val ∧ j.val * 4 + x.val - 1 < 127 then
          val_main_v108 (F := Ideal) x0 x1 x8 x9 x10 (ix4 B g t ⟨j.val * 4 + x.val - 1, h.2⟩) else 0)) := by
    pointwise [val_main_v115, val_main_v114, val_main_v113, val_main_v112, val_main_v111, val_main_v110, val_main_v109, val_main_cst_25, val_main_cst_27, val_main_call4_v0, val_main_call5_v0, val_main_c_24, val_main_c_26]
    have h0 : FloatOps.sitofp (F := Ideal) FTy.f32 0#32 = (0 : EReal) := by
      show (((0#32 : BitVec 32).toInt : ℝ) : EReal) = 0
      norm_num
    rw [h0]
  rw [h]
  simp only [ref_imp]
  exact (blk_quarter _ j).symm

theorem ref_val (x0 x1 x8 x9 x10) (B : Fin 8) (g : Fin 2) (t : Fin 2048) (j : Fin 32) :
    val_main_v141 (F := Ideal) x0 x1 x8 x9 x10 (ix4 B g t j) = rankVal t.val (blk (rd4 x0 B) (kcOf x1 x8 x9 x10 B) t g) j := by
  rw [val_main_v141_apply, val_main_v140_apply, ref_blk]
  pointwise [val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v0, val_main_c_28, val_main_c_29, val_main_c_30, val_main_c_31, val_main_call7_v1, val_main_call6_v1, val_main_call7_v2, val_main_call6_v2, val_main_call7_v0, val_main_call6_v0, val_main_cst_32, val_main_cst_33]
  rw [Routing.divsi_word .host (by omega) (by norm_num) (by norm_num), mul_word, eq_word (by omega) (by norm_num), eq_word (by omega) (by omega),
    pred_word (by omega) (by omega), sle_word (by omega) (by omega)]
  simp only [IntOp.ori, or_ofBool, select_ofBool, id]
  rw [show constant (F := Ideal) S_ FTy.f32 2139095040#32 ix0 = (⊤ : EReal) from bits_top,
    show constant (F := Ideal) S_ FTy.f32 4286578688#32 ix0 = (⊥ : EReal) from bits_bot]
  unfold rankVal
  simp only [or_assoc, mul_comm j.val]

end Cert.Proof.Nsa
-- ==== Proof.RefSlc.lean ====
/- The reference's choice of blocks and its selected branch, read at an index. -/
module
public import proofs.«01_k».proof.Proof.RefCmp
public import proofs.«01_k».proof.Proof.Rank
@[expose] public section
set_option maxRecDepth 16384
noncomputable section
namespace Cert.Proof.Nsa
open Idealize.ShloMosaic
open Cert.ReferenceIdeal.Read Cert.ReferenceIdeal

/-- The order of the blocks by their values, the greater first. -/
def before (x : Fin 32 → EReal) (i j : Fin 32) : Bool := decide (x j < x i)

theorem along_last (B : Fin 8) (g : Fin 2) (t : Fin 2048) (k j : Fin 32) :
    (ix4 B g t k : S8x2x2048x32.Idx).along 3 j = ix4 B g t j := by
  funext a
  match a with
  | ⟨0, _⟩ => rfl
  | ⟨1, _⟩ => rfl
  | ⟨2, _⟩ => rfl
  | ⟨3, _⟩ => rfl

theorem cmpTotal_gt (a b : EReal) : (FloatOps.cmpfTotal (F := Ideal) (φ := .f32) CmpDirection.gt a b == 1#1) = decide (b < a) := by
  show (BitVec.ofBool (decide (b < a)) == 1#1) = decide (b < a)
  by_cases h : b < a <;> simp [h]

theorem along_fun (y : FVec Ideal S8x2x2048x32 .f32) (B : Fin 8) (g : Fin 2) (t : Fin 2048) (k : Fin 32) :
    (fun i j : Fin 32 => FloatOps.cmpfTotal CmpDirection.gt (y ((ix4 B g t k : S8x2x2048x32.Idx).along 3 i))
      (y ((ix4 B g t k : S8x2x2048x32.Idx).along 3 j)) == 1#1) = before fun j => y (ix4 B g t j) := by
  funext i j
  rw [along_last, along_last, cmpTotal_gt]
  rfl

theorem along_val (B : Fin 8) (g : Fin 2) (t : Fin 2048) (k j : Fin 32) :
    ((ix4 B g t k : S8x2x2048x32.Idx).along 3 j 3).val = j.val := rfl

theorem ref_sel (x0 x1 x8 x9 x10) (B : Fin 8) (g : Fin 2) (t : Fin 2048) (k : Fin 16) :
    val_main_indices (F := Ideal) x0 x1 x8 x9 x10 (ix4 B g t k)
      = BitVec.ofNat 32 (sortedFrom (before fun j => val_main_v141 (F := Ideal) x0 x1 x8 x9 x10 (ix4 B g t j)) ⟨k.val, by omega⟩).val := by
  unfold val_main_indices
  generalize val_main_v141 (F := Ideal) x0 x1 x8 x9 x10 = y
  rw [← along_fun y B g t ⟨k.val, by omega⟩]
  simp only [Host.topK, Host.sort2]
  pointwise
  exact congrArg (BitVec.ofNat 32) (along_val B g t ⟨k.val, by omega⟩ _)

/-- The gather's dimensions. -/
abbrev gd := gather_S8x2x32x64x64_S8x2x2048x16x1_S8x2x2048x16x64x64_45_2_01_01_2_4_1116464

theorem gd_si (B : Fin 8) (g : Fin 2) (t : Fin 2048) (k : Fin 16) (a d : Fin 64) (c) :
    GatherDims.siIdx gd (ix6 B g t k a d) c = ix5 B g t k 0 := by
  funext b
  apply Fin.ext
  match b with
  | ⟨0, _⟩ =>
    unfold GatherDims.siIdx
    split
    · next h => exact absurd h (show ¬ (0 : ℕ) = 4 by decide)
    · rfl
  | ⟨1, _⟩ =>
    unfold GatherDims.siIdx
    split
    · next h => exact absurd h (show ¬ (1 : ℕ) = 4 by decide)
    · rfl
  | ⟨2, _⟩ =>
    unfold GatherDims.siIdx
    split
    · next h => exact absurd h (show ¬ (2 : ℕ) = 4 by decide)
    · rfl
  | ⟨3, _⟩ =>
    unfold GatherDims.siIdx
    split
    · next h => exact absurd h (show ¬ (3 : ℕ) = 4 by decide)
    · rfl
  | ⟨4, _⟩ =>
    unfold GatherDims.siIdx
    split
    · exact Nat.lt_one_iff.mp c.isLt
    · next h => exact absurd (show (4 : ℕ) = 4 from rfl) h

theorem gd_start (idx : IVec S8x2x2048x16x1 32) (B : Fin 8) (g : Fin 2) (t : Fin 2048) (k : Fin 16) (a d : Fin 64) :
    GatherDims.start gd (ix6 B g t k a d) idx 2 = min (idx (ix5 B g t k 0)).toInt.toNat 31 := by
  unfold GatherDims.start
  rw [dif_pos (by decide), gd_si]
  rfl

theorem gd_batch0 (B : Fin 8) (g : Fin 2) (t : Fin 2048) (k : Fin 16) (a d : Fin 64) :
    GatherDims.batchCoord gd (ix6 B g t k a d) 0 = B.val := by
  unfold GatherDims.batchCoord
  rw [dif_pos (by decide)]
  rfl

theorem gd_batch1 (B : Fin 8) (g : Fin 2) (t : Fin 2048) (k : Fin 16) (a d : Fin 64) :
    GatherDims.batchCoord gd (ix6 B g t k a d) 1 = g.val := by
  unfold GatherDims.batchCoord
  rw [dif_pos (by decide)]
  rfl

theorem gather_read (x : FVec Ideal S8x2x32x64x64 .f32) (idx : IVec S8x2x2048x16x1 32) (B : Fin 8) (g : Fin 2) (t : Fin 2048) (k : Fin 16)
    (a d : Fin 64) (s : Fin 32) (hs : idx (ix5 B g t k 0) = BitVec.ofNat 32 s.val) :
    Host.gather gather_S8x2x32x64x64_S8x2x2048x16x1_S8x2x2048x16x64x64_45_2_01_01_2_4_1116464 x idx (ix6 B g t k a d) = x (ix5 B g s a d) := by
  refine congrArg x (funext fun b => Fin.ext ?_)
  match b with
  | ⟨0, _⟩ =>
    show 0 + GatherDims.batchCoord gd (ix6 B g t k a d) 0 + 0 = B.val
    rw [gd_batch0]; omega
  | ⟨1, _⟩ =>
    show 0 + GatherDims.batchCoord gd (ix6 B g t k a d) 1 + 0 = g.val
    rw [gd_batch1]; omega
  | ⟨2, _⟩ =>
    show GatherDims.start gd (ix6 B g t k a d) idx 2 + 0 + 0 = s.val
    rw [gd_start, hs, toInt_small (by omega)]
    simp only [Int.toNat_natCast]
    omega
  | ⟨3, _⟩ => show 0 + 0 + a.val = a.val; omega
  | ⟨4, _⟩ => show 0 + 0 + d.val = d.val; omega
/-- The block at place `k` of the order. -/
def pickAt (q : Fin 2048 → Fin 8 → Fin 64 → EReal) (kc : Fin 127 → Fin 2 → Fin 64 → EReal) (t : Fin 2048) (g : Fin 2) (k : Fin 16) : Fin 32 :=
  sortedFrom (before (rankVal t.val (blk q kc t g))) ⟨k.val, by omega⟩

theorem ref_pick (x0 x1 x8 x9 x10) (B : Fin 8) (g : Fin 2) (t : Fin 2048) (k : Fin 16) :
    val_main_indices (F := Ideal) x0 x1 x8 x9 x10 (ix4 B g t k)
      = BitVec.ofNat 32 (pickAt (rd4 x0 B) (kcOf x1 x8 x9 x10 B) t g k).val := by
  rw [ref_sel]
  simp only [ref_val]
  rfl

/-- The key at place `m` of the gathered ones. -/
def keyAt (q : Fin 2048 → Fin 8 → Fin 64 → EReal) (kc : Fin 127 → Fin 2 → Fin 64 → EReal) (t : Fin 2048) (g : Fin 2) (m : Fin 1024) : Fin 2048 :=
  ⟨(pickAt q kc t g ⟨m.val / 64, by omega⟩).val * 64 + m.val % 64, by
    have := (pickAt q kc t g ⟨m.val / 64, by omega⟩).isLt; omega⟩

theorem nonneg_select (s : Fin 32) (b : BitVec 32) :
    Scalar.select (IntOp.cmpi .slt (BitVec.ofNat 32 s.val) 0#32) b (BitVec.ofNat 32 s.val) = BitVec.ofNat 32 s.val := by
  rw [slt_word (by omega) (by norm_num), select_ofBool]
  exact if_neg (Nat.not_lt_zero _)

theorem ref_key (x0 x1 x3 x8 x9 x10) (B : Fin 8) (g : Fin 2) (t : Fin 2048) (m : Fin 1024) (d : Fin 64) :
    val_main_v153 (F := Ideal) x0 x1 x3 x8 x9 x10 (ix5 B g t m d)
      = rd4 x3 B (keyAt (rd4 x0 B) (kcOf x1 x8 x9 x10 B) t g m) g d := by
  have h : val_main_v151 (F := Ideal) x0 x1 x8 x9 x10 (ix5 B g t ⟨m.val / 64, by omega⟩ 0)
      = BitVec.ofNat 32 (pickAt (rd4 x0 B) (kcOf x1 x8 x9 x10 B) t g ⟨m.val / 64, by omega⟩).val := by
    pointwise [val_main_v151, val_main_v150, val_main_v149, val_main_v148, val_main_v147, val_main_v146, val_main_c_34, val_main_c_35]
    rw [ref_pick, nonneg_select]
  pointwise [val_main_v153]
  unfold val_main_v152
  rw [gather_read _ _ _ _ _ _ _ _ _ h]
  pointwise [val_main_v143, val_main_v142]
  rfl

theorem ref_value (x0 x1 x4 x8 x9 x10) (B : Fin 8) (g : Fin 2) (t : Fin 2048) (m : Fin 1024) (d : Fin 64) :
    val_main_v161 (F := Ideal) x0 x1 x4 x8 x9 x10 (ix5 B g t m d)
      = rd4 x4 B (keyAt (rd4 x0 B) (kcOf x1 x8 x9 x10 B) t g m) g d := by
  have h : val_main_v159 (F := Ideal) x0 x1 x8 x9 x10 (ix5 B g t ⟨m.val / 64, by omega⟩ 0)
      = BitVec.ofNat 32 (pickAt (rd4 x0 B) (kcOf x1 x8 x9 x10 B) t g ⟨m.val / 64, by omega⟩).val := by
    pointwise [val_main_v159, val_main_v158, val_main_v157, val_main_v156, val_main_v155, val_main_v154, val_main_c_36, val_main_c_37]
    rw [ref_pick, nonneg_select]
  pointwise [val_main_v161]
  unfold val_main_v160
  rw [gather_read _ _ _ _ _ _ _ _ _ h]
  pointwise [val_main_v145, val_main_v144]
  rfl

theorem ref_slc_mask (x0 x1 x8 x9 x10) (B : Fin 8) (g : Fin 2) (i : Fin 4) (t : Fin 2048) (m : Fin 1024) :
    val_main_call8_v1 (F := Ideal) x0 x1 x8 x9 x10 (ix5 B g i t m)
      = BitVec.ofBool (decide ((keyAt (rd4 x0 B) (kcOf x1 x8 x9 x10 B) t g m).val ≤ t.val)) := by
  pointwise [val_main_call8_v1, val_main_v174, val_main_v173, val_main_v172, val_main_v171, val_main_v170, val_main_v169, val_main_v168, val_main_v167, val_main_v166, val_main_v165, val_main_v164, val_main_v163, val_main_v162, val_main_v0, val_main_c_38]
  rw [ref_pick, mul_word, add_word]
  have := (pickAt (rd4 x0 B) (kcOf x1 x8 x9 x10 B) t g ⟨m.val / 64, by omega⟩).isLt
  rw [sle_word (by omega) (by omega)]
  rfl

theorem ref_slc_score (x0 x1 x3 x8 x9 x10) (B : Fin 8) (g : Fin 2) (i : Fin 4) (t : Fin 2048) (m : Fin 1024) :
    val_main_v178 (F := Ideal) x0 x1 x3 x8 x9 x10 (ix5 B g i t m)
      = score (rd4 x0 B t (hd g i)) (rd4 x3 B (keyAt (rd4 x0 B) (kcOf x1 x8 x9 x10 B) t g m) g) := by
  pointwise [val_main_v178, val_main_v177, val_main_v176, val_main_v175, val_main_v1, val_main_cst_39]
  simp only [ref_key]
  rw [bits_eighth32]
  exact score_comm (rd4 x0 B t (hd g i)) _

theorem ref_slc_fill (x0 x1 x3 x8 x9 x10) (B : Fin 8) (g : Fin 2) (i : Fin 4) (t : Fin 2048) (m : Fin 1024) :
    val_main_v179 (F := Ideal) x0 x1 x3 x8 x9 x10 (ix5 B g i t m)
      = if (keyAt (rd4 x0 B) (kcOf x1 x8 x9 x10 B) t g m).val ≤ t.val then
        score (rd4 x0 B t (hd g i)) (rd4 x3 B (keyAt (rd4 x0 B) (kcOf x1 x8 x9 x10 B) t g m) g) else ⊥ := by
  rw [val_main_v179_apply, ref_slc_mask, ref_slc_score, select_ofBool]
  congr 1

theorem ref_slc_max (x0 x1 x3 x8 x9 x10) (B : Fin 8) (g : Fin 2) (i : Fin 4) (t : Fin 2048) (m : Fin 1024) :
    val_main_v182 (F := Ideal) x0 x1 x3 x8 x9 x10 (ix5 B g i t m)
      = Finset.univ.sup fun m : Fin 1024 => val_main_v179 (F := Ideal) x0 x1 x3 x8 x9 x10 (ix5 B g i t m) := by
  pointwise [val_main_v182, val_main_v181, val_main_v180, val_main_cst_41]
  rw [bits_bot, fold_max_bot]

theorem ref_slc_exp (x0 x1 x3 x8 x9 x10) (B : Fin 8) (g : Fin 2) (i : Fin 4) (t : Fin 2048) (m : Fin 1024) :
    val_main_v185 (F := Ideal) x0 x1 x3 x8 x9 x10 (ix5 B g i t m) = if (keyAt (rd4 x0 B) (kcOf x1 x8 x9 x10 B) t g m).val ≤ t.val then
      Ideal.exp (val_main_v179 (F := Ideal) x0 x1 x3 x8 x9 x10 (ix5 B g i t m) - val_main_v182 (F := Ideal) x0 x1 x3 x8 x9 x10 (ix5 B g i t m)) else 0 := by
  rw [val_main_v185_apply, show val_main_call9_v1 (F := Ideal) x0 x1 x8 x9 x10 = val_main_call8_v1 (F := Ideal) x0 x1 x8 x9 x10 from rfl, ref_slc_mask, select_ofBool]
  congr 1
  pointwise [val_main_call9_v2, val_main_call9_v0, val_main_cst_42]
  exact bits_zero

theorem ref_slc_den (x0 x1 x3 x8 x9 x10) (B : Fin 8) (g : Fin 2) (i : Fin 4) (t : Fin 2048) (m : Fin 1024) :
    val_main_v191 (F := Ideal) x0 x1 x3 x8 x9 x10 (ix5 B g i t m) = Ideal.div (val_main_v185 (F := Ideal) x0 x1 x3 x8 x9 x10 (ix5 B g i t m))
      (max (0 + ∑ m, val_main_v185 (F := Ideal) x0 x1 x3 x8 x9 x10 (ix5 B g i t m)) eps) := by
  unfold eps
  rw [zero_add]
  pointwise [val_main_v191, val_main_v190, val_main_v189, val_main_v188, val_main_v187, val_main_v186, val_main_cst_43, val_main_cst_44]

/-- The gathered keys are the keys of the chosen blocks, each once. -/
theorem att_pick (q : Fin 2048 → Fin 8 → Fin 64 → EReal) (kc : Fin 127 → Fin 2 → Fin 64 → EReal) (t : Fin 2048) (g : Fin 2) (s v : Fin 2048 → EReal) :
    att eps (Finset.univ.filter fun m : Fin 1024 => (keyAt q kc t g m).val ≤ t.val) (fun m => s (keyAt q kc t g m)) (fun m => v (keyAt q kc t g m))
      = att eps (Finset.univ.filter fun k : Fin 2048 => chosen q kc t g ⟨k.val / 64, by omega⟩ ∧ k.val ≤ t.val) s v := by
  have hb : ∀ i j, before (rankVal t.val (blk q kc t g)) i j = true ↔ rankVal t.val (blk q kc t g) j < rankVal t.val (blk q kc t g) i :=
    fun i j => decide_eq_true_iff
  refine att_rename _ _ (keyAt q kc t g) ?_ ?_ ?_ _ _ _ _ (fun _ _ => rfl) (fun _ _ => rfl)
  · intro m hm
    have hm' : (keyAt q kc t g m).val ≤ t.val := by simpa using hm
    refine Finset.mem_filter.mpr ⟨Finset.mem_univ _, ?_, hm'⟩
    refine (rank_lt_iff _ _ hb 16 _).mpr ⟨⟨m.val / 64, by omega⟩, by show m.val / 64 < 16; omega, ?_⟩
    refine Fin.ext ?_
    show (pickAt q kc t g ⟨m.val / 64, by omega⟩).val = ((pickAt q kc t g ⟨m.val / 64, by omega⟩).val * 64 + m.val % 64) / 64
    omega
  · intro a _ b _ h
    have h' : (pickAt q kc t g ⟨a.val / 64, by omega⟩).val * 64 + a.val % 64 = (pickAt q kc t g ⟨b.val / 64, by omega⟩).val * 64 + b.val % 64 :=
      congrArg Fin.val h
    have h1 : pickAt q kc t g ⟨a.val / 64, by omega⟩ = pickAt q kc t g ⟨b.val / 64, by omega⟩ := Fin.ext (by omega)
    have h2 := congrArg Fin.val (sortedFrom_injective _ _ hb h1)
    have h3 : a.val / 64 = b.val / 64 := h2
    exact Fin.ext (by omega)
  · intro k hk
    obtain ⟨-, hc, hk'⟩ := Finset.mem_filter.mp hk
    obtain ⟨p, hp, hpe⟩ := (rank_lt_iff _ _ hb 16 _).mp hc
    have e : keyAt q kc t g ⟨p.val * 64 + k.val % 64, by omega⟩ = k := by
      refine Fin.ext ?_
      show (pickAt q kc t g ⟨(p.val * 64 + k.val % 64) / 64, by omega⟩).val * 64 + (p.val * 64 + k.val % 64) % 64 = k.val
      have hq : (⟨(p.val * 64 + k.val % 64) / 64, by omega⟩ : Fin 16) = ⟨p.val, hp⟩ := Fin.ext (by show (p.val * 64 + k.val % 64) / 64 = p.val; omega)
      have hv : (pickAt q kc t g ⟨p.val, hp⟩).val = k.val / 64 := congrArg Fin.val hpe
      rw [hq, hv]
      omega
    exact ⟨⟨p.val * 64 + k.val % 64, by omega⟩, Finset.mem_filter.mpr ⟨Finset.mem_univ _, by rw [e]; exact hk'⟩, e⟩

theorem ref_slc (x0 x1 x3 x4 x8 x9 x10) (B : Fin 8) (g : Fin 2) (i : Fin 4) (t : Fin 2048) (f : Fin 64) :
    val_main_v192 (F := Ideal) x0 x1 x3 x4 x8 x9 x10 (ix5 B t g i f)
      = oslc (rd4 x0 B) (kcOf x1 x8 x9 x10 B) (rd4 x3 B) (rd4 x4 B) t (hd g i) f := by
  have h : val_main_v192 (F := Ideal) x0 x1 x3 x4 x8 x9 x10 (ix5 B t g i f)
      = ∑ m : Fin 1024, val_main_v191 (F := Ideal) x0 x1 x3 x8 x9 x10 (ix5 B g i t m) * val_main_v161 (F := Ideal) x0 x1 x4 x8 x9 x10 (ix5 B g t m f) := by
    pointwise [val_main_v192]
  rw [h]
  unfold oslc
  rw [grp_hd]
  simp only [ref_slc_den, ref_value]
  refine (ref_head (fun m : Fin 1024 => (keyAt (rd4 x0 B) (kcOf x1 x8 x9 x10 B) t g m).val ≤ t.val) _ _ _ _ _
    (ref_slc_fill x0 x1 x3 x8 x9 x10 B g i t) (ref_slc_max x0 x1 x3 x8 x9 x10 B g i t) (ref_slc_exp x0 x1 x3 x8 x9 x10 B g i t)).trans ?_
  exact att_pick (rd4 x0 B) (kcOf x1 x8 x9 x10 B) t g (fun k => score (rd4 x0 B t (hd g i)) (rd4 x3 B k g)) (fun k => rd4 x4 B k g f)

/-- The reference's result at batch `B`, query `t`, column `h * 64 + f`. -/
theorem ref_out (x0 x1 x2 x3 x4 x5 x6 x7 x8 x9 x10 x11 x12) (B : Fin 8) (t : Fin 2048) (c : Fin 512) :
    val_main_v214 (F := Ideal) x0 x1 x2 x3 x4 x5 x6 x7 x8 x9 x10 x11 x12 (ix3 B t c)
      = nsa x0 x1 x2 x3 x4 x5 x6 x7 x8 x9 x10 x11 x12 B t ⟨c.val / 64, by omega⟩ ⟨c.val % 64, by omega⟩ := by
  pointwise [val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_cst_45, val_main_cst_46]
  have e : (⟨c.val / 64, by omega⟩ : Fin 8) = hd ⟨c.val / 64 / 4, by omega⟩ ⟨c.val / 64 % 4, by omega⟩ :=
    Fin.ext (by show c.val / 64 = c.val / 64 / 4 * 4 + c.val / 64 % 4; omega)
  rw [ref_cmp, ref_slc, ref_win, ← e]
  rfl

end Cert.Proof.Nsa
-- ==== Proof.KText.lean ====
/- The kernel's grid point as a few vector expressions: the compressed branch, the chosen blocks, the window branch, the selected
   branch over any number of keys, and the gated sum of a head. -/
module

public import proofs.«01_k».proof.Proof.Gen.KernelIdeal.Value
public import proofs.«01_k».proof.Proof.Pick

@[expose] public section

set_option maxRecDepth 16384

noncomputable section

namespace Cert.Proof.Nsa

open Cert.KernelIdeal Cert.KernelIdeal.Gen Idealize.ShloMosaic Idealize.ShloMosaic.TcCoe

/-- The value that stands for the mask. -/
def fillK : Ideal .f32 := Named.named κ "mask" 0xF149F2CA#32

theorem fillK_eq : fillK = (⊥ : EReal) := rfl

/-- The first query of the point. -/
def v3K (i : grid0.Coords) : BitVec 32 := Scalar.muli (BitVec.ofNat 32 (i 1).val) 128#32

/-- The first key of the point's window. -/
def ksK (i : grid0.Coords) : BitVec 32 := Scalar.maxsi (Scalar.subi (v3K i) 512#32) 0#32

/-- The even head's queries of a pair, scaled, the odd head's lanes cleared. -/
def qEven (x : Vec Ideal S1x128x128 .bf16) : FVec Ideal S128x128 .bf16 := k0_pay200 x

/-- The odd head's queries of a pair. -/
def qOdd (x : Vec Ideal S1x128x128 .bf16) : FVec Ideal S128x128 .bf16 := k0_pay201 x

/-- The gates. -/
def sigK (x : Vec Ideal S1x128x128 .f32) : FVec Ideal S128x128 .f32 := k0_pay199 x

/-- The weights of the compressed branch. -/
def wK (i : grid0.Coords) (q kc : FVec Ideal S128x128 .bf16) : FVec Ideal S128x128 .f32 :=
  vMask reduces_S128x128_S128 broadcasts_S128x1_S128x128 shapeCasts_S128_S128x1 fillK
    (vCmpMask iota_S128x128_d0_w32 iota_S128x128_d1_w32 (v3K i)) q kc

/-- The compressed branch. -/
def cmpK (i : grid0.Coords) (q kc vc : FVec Ideal S128x128 .bf16) : FVec Ideal S128x128 .f32 :=
  vOut broadcasts_S128x1_S128x128 bitsLt_bf16_f32 (wK i q kc) vc (vDen reduces_S128x128_S128 shapeCasts_S128_S128x1 (wK i q kc))

/-- The compressed branch's weights, divided by their sum. -/
def probK (i : grid0.Coords) (q kc : FVec Ideal S128x128 .bf16) : FVec Ideal S128x128 .f32 :=
  vProb reduces_S128x128_S128 broadcasts_S128x1_S128x128 shapeCasts_S128_S128x1 (wK i q kc)

/-- The sum of these over a group's four heads. -/
def psumK (i : grid0.Coords) (q0 q1 q2 q3 kc : FVec Ideal S128x128 .bf16) : FVec Ideal S128x128 .f32 :=
  addf (addf (addf (probK i q0 kc) (probK i q1 kc)) (probK i q2 kc)) (probK i q3 kc)

theorem rows_slice : ∀ n : ℕ, n < 32 → (⟨2, ![32, 128]⟩ : Shape).Slices ![n, 0] ⟨2, ![1, 128]⟩ := by
  intro n hn
  exact ⟨rfl, fun a => by
    fin_cases a
    · exact hn
    · exact Nat.le_refl 128⟩

/-- What the blocks are ranked by. -/
def valK (i : grid0.Coords) (mimp : Vec Ideal S128x128 .bf16) (p : FVec Ideal S128x128 .f32) : FVec Ideal S32x128 .f32 :=
  vVal iota_S32x128_d0_w32 iota_S32x128_d1_w32 natLt_1_32 slices_S128x128_o0_0_S32x128 (v3K i) (vBlk shapeCasts_S128x128_S128x128 bitsLt_bf16_f32 mimp p)

/-- The chosen blocks, one where chosen. -/
def chosenK (x : FVec Ideal S32x128 .f32) : FVec Ideal S128x128 .bf16 :=
  vChosen natLt_1_32 concatenates_S32x128_S96x128_S128x128_d0 transposes_S128x128_p1_0_S128x128 bitsLt_bf16_f32
    (vRank iota_S32x128_d0_w32 broadcasts_S1x128_S32x128 natLt_1_32 rows_slice x 32 (Nat.le_refl 32))

/-- The scores of the window branch. -/
def winS (i : grid0.Coords) (q : FVec Ideal S128x128 .bf16) (k : Vec Ideal S1x640x128 .bf16) : FVec Ideal S128x640 .f32 :=
  vScore q (shapeCast S640x128 k shapeCasts_S1x640x128_S640x128) (vWinBias iota_S128x640_d0_w32 iota_S128x640_d1_w32 fillK (v3K i) (ksK i))

/-- The window branch. -/
def winK (i : grid0.Coords) (q : FVec Ideal S128x128 .bf16) (k v : Vec Ideal S1x640x128 .bf16) : FVec Ideal S128x128 .f32 :=
  vOut broadcasts_S128x1_S128x128 bitsLt_bf16_f32 (vExp reduces_S128x640_S128 broadcasts_S128x1_S128x640 shapeCasts_S128_S128x1 (winS i q k))
    (shapeCast S640x128 v shapeCasts_S1x640x128_S640x128)
    (vDen reduces_S128x640_S128 shapeCasts_S128_S128x1 (vExp reduces_S128x640_S128 broadcasts_S128x1_S128x640 shapeCasts_S128_S128x1 (winS i q k)))

/-- What the selected branch needs of its number of keys. -/
structure Keys (nk : ℕ) : Prop where
  red : (⟨2, ![128, nk]⟩ : Shape).Reduces [1] ⟨1, ![128]⟩
  bc : (⟨2, ![128, 1]⟩ : Shape).Broadcasts ⟨2, ![128, nk]⟩
  i0 : (⟨2, ![128, nk]⟩ : Shape).Iotas .tc 32 [0]
  i1 : (⟨2, ![128, nk]⟩ : Shape).Iotas .tc 32 [1]
  ck : (⟨3, ![1, nk, 128]⟩ : Shape).ShapeCasts ⟨2, ![nk, 128]⟩
  ce : (⟨2, ![128, nk]⟩ : Shape).ShapeCasts ⟨2, ![128, nk]⟩
  l0 : ∀ a, (![0, 0, 0] : Fin 3 → Nat) a + (![1, nk, 128] : Fin 3 → Nat) a ≤ S1x2048x256.size a
  l1 : ∀ a, (![0, 0, 128] : Fin 3 → Nat) a + (![1, nk, 128] : Fin 3 → Nat) a ≤ S1x2048x256.size a
  le : ∀ a, (![0, 0] : Fin 2 → Nat) a + (![128, nk] : Fin 2 → Nat) a ≤ S128x2048.size a

variable {nk : ℕ}

/-- The scores of the selected branch. -/
def slcS (K : Keys nk) (i : grid0.Coords) (ch : FVec Ideal S128x128 .bf16) (e : FVec Ideal ⟨2, ![128, nk]⟩ .bf16) (q : FVec Ideal S128x128 .bf16)
    (k : FVec Ideal ⟨3, ![1, nk, 128]⟩ .bf16) : FVec Ideal ⟨2, ![128, nk]⟩ .f32 :=
  vScore q (shapeCast ⟨2, ![nk, 128]⟩ k K.ck) (vPickBias K.i0 K.i1 fillK (v3K i) ch (shapeCast ⟨2, ![128, nk]⟩ e K.ce))

/-- The selected branch. -/
def slcK (K : Keys nk) (i : grid0.Coords) (ch : FVec Ideal S128x128 .bf16) (e : FVec Ideal ⟨2, ![128, nk]⟩ .bf16) (q : FVec Ideal S128x128 .bf16)
    (k v : FVec Ideal ⟨3, ![1, nk, 128]⟩ .bf16) : FVec Ideal S128x128 .f32 :=
  vOut broadcasts_S128x1_S128x128 bitsLt_bf16_f32 (vExp K.red K.bc shapeCasts_S128_S128x1 (slcS K i ch e q k))
    (shapeCast ⟨2, ![nk, 128]⟩ v K.ck)
    (vDen K.red shapeCasts_S128_S128x1 (vExp K.red K.bc shapeCasts_S128_S128x1 (slcS K i ch e q k)))

/-- The three columns of a head's gates. -/
structure Gates (a b c : ℕ) : Prop where
  ga : (⟨2, ![128, 128]⟩ : Shape).Slices ![0, a] ⟨2, ![128, 1]⟩
  gb : (⟨2, ![128, 128]⟩ : Shape).Slices ![0, b] ⟨2, ![128, 1]⟩
  gc : (⟨2, ![128, 128]⟩ : Shape).Slices ![0, c] ⟨2, ![128, 1]⟩

/-- The gated sum of the three branches of a head. -/
def headK {a b c : ℕ} (G : Gates a b c) (sig x y z : FVec Ideal S128x128 .f32) : FVec Ideal S128x128 .f32 :=
  addf (shapeCast S128x128 (shapeCast S1x128x128 (addf (vGate a G.ga broadcasts_S128x1_S128x128 sig x) (vGate c G.gc broadcasts_S128x1_S128x128 sig z)) shapeCasts_S128x128_S1x128x128) shapeCasts_S1x128x128_S128x128)
    (vGate b G.gb broadcasts_S128x1_S128x128 sig y)

/-- Two heads beside each other. -/
def pairK (x y : FVec Ideal S128x128 .f32) : FVec Ideal S1x128x128 .bf16 :=
  shapeCast S1x128x128 (vPair bitsLt_bf16_f32 iota_S128x128_d1_w32 x y) shapeCasts_S128x128_S1x128x128

theorem gates0 : Gates 0 1 2 := ⟨slices_S128x128_o0_0_S128x1, slices_S128x128_o0_1_S128x1, slices_S128x128_o0_2_S128x1⟩
theorem gates1 : Gates 3 4 5 := ⟨slices_S128x128_o0_3_S128x1, slices_S128x128_o0_4_S128x1, slices_S128x128_o0_5_S128x1⟩
theorem gates2 : Gates 6 7 8 := ⟨slices_S128x128_o0_6_S128x1, slices_S128x128_o0_7_S128x1, slices_S128x128_o0_8_S128x1⟩
theorem gates3 : Gates 9 10 11 := ⟨slices_S128x128_o0_9_S128x1, slices_S128x128_o0_10_S128x1, slices_S128x128_o0_11_S128x1⟩
theorem gates4 : Gates 12 13 14 := ⟨slices_S128x128_o0_12_S128x1, slices_S128x128_o0_13_S128x1, slices_S128x128_o0_14_S128x1⟩
theorem gates5 : Gates 15 16 17 := ⟨slices_S128x128_o0_15_S128x1, slices_S128x128_o0_16_S128x1, slices_S128x128_o0_17_S128x1⟩
theorem gates6 : Gates 18 19 20 := ⟨slices_S128x128_o0_18_S128x1, slices_S128x128_o0_19_S128x1, slices_S128x128_o0_20_S128x1⟩
theorem gates7 : Gates 21 22 23 := ⟨slices_S128x128_o0_21_S128x1, slices_S128x128_o0_22_S128x1, slices_S128x128_o0_23_S128x1⟩
theorem keys256 : Keys 256 := ⟨reduces_S128x256_S128, broadcasts_S128x1_S128x256, iota_S128x256_d0_w32, iota_S128x256_d1_w32, shapeCasts_S1x256x128_S256x128, shapeCasts_S128x256_S128x256, inb_S1x2048x256_S1x256x128_0_0_0, inb_S1x2048x256_S1x256x128_0_0_128, inb_S128x2048_S128x256_0_0⟩
theorem keys512 : Keys 512 := ⟨reduces_S128x512_S128, broadcasts_S128x1_S128x512, iota_S128x512_d0_w32, iota_S128x512_d1_w32, shapeCasts_S1x512x128_S512x128, shapeCasts_S128x512_S128x512, inb_S1x2048x256_S1x512x128_0_0_0, inb_S1x2048x256_S1x512x128_0_0_128, inb_S128x2048_S128x512_0_0⟩
theorem keys768 : Keys 768 := ⟨reduces_S128x768_S128, broadcasts_S128x1_S128x768, iota_S128x768_d0_w32, iota_S128x768_d1_w32, shapeCasts_S1x768x128_S768x128, shapeCasts_S128x768_S128x768, inb_S1x2048x256_S1x768x128_0_0_0, inb_S1x2048x256_S1x768x128_0_0_128, inb_S128x2048_S128x768_0_0⟩
theorem keys1024 : Keys 1024 := ⟨reduces_S128x1024_S128, broadcasts_S128x1_S128x1024, iota_S128x1024_d0_w32, iota_S128x1024_d1_w32, shapeCasts_S1x1024x128_S1024x128, shapeCasts_S128x1024_S128x1024, inb_S1x2048x256_S1x1024x128_0_0_0, inb_S1x2048x256_S1x1024x128_0_0_128, inb_S128x2048_S128x1024_0_0⟩
theorem keys1280 : Keys 1280 := ⟨reduces_S128x1280_S128, broadcasts_S128x1_S128x1280, iota_S128x1280_d0_w32, iota_S128x1280_d1_w32, shapeCasts_S1x1280x128_S1280x128, shapeCasts_S128x1280_S128x1280, inb_S1x2048x256_S1x1280x128_0_0_0, inb_S1x2048x256_S1x1280x128_0_0_128, inb_S128x2048_S128x1280_0_0⟩
theorem keys1536 : Keys 1536 := ⟨reduces_S128x1536_S128, broadcasts_S128x1_S128x1536, iota_S128x1536_d0_w32, iota_S128x1536_d1_w32, shapeCasts_S1x1536x128_S1536x128, shapeCasts_S128x1536_S128x1536, inb_S1x2048x256_S1x1536x128_0_0_0, inb_S1x2048x256_S1x1536x128_0_0_128, inb_S128x2048_S128x1536_0_0⟩
theorem keys1792 : Keys 1792 := ⟨reduces_S128x1792_S128, broadcasts_S128x1_S128x1792, iota_S128x1792_d0_w32, iota_S128x1792_d1_w32, shapeCasts_S1x1792x128_S1792x128, shapeCasts_S128x1792_S128x1792, inb_S1x2048x256_S1x1792x128_0_0_0, inb_S1x2048x256_S1x1792x128_0_0_128, inb_S128x2048_S128x1792_0_0⟩
theorem keys2048 : Keys 2048 := ⟨reduces_S128x2048_S128, broadcasts_S128x1_S128x2048, iota_S128x2048_d0_w32, iota_S128x2048_d1_w32, shapeCasts_S1x2048x128_S2048x128, shapeCasts_S128x2048_S128x2048, inb_S1x2048x256_S1x2048x128_0_0_0, inb_S1x2048x256_S1x2048x128_0_0_128, inb_S128x2048_S128x2048_0_0⟩

/-- The even head of the pair `p` of a group. -/
def outK {a b c : ℕ} (G : Gates a b c) (K : Keys nk) (i : grid0.Coords) (sig : FVec Ideal S128x128 .f32) (q kc vc ch : FVec Ideal S128x128 .bf16)
    (e : FVec Ideal ⟨2, ![128, nk]⟩ .bf16) (k v : FVec Ideal ⟨3, ![1, nk, 128]⟩ .bf16) (kw vw : Vec Ideal S1x640x128 .bf16) : FVec Ideal S128x128 .f32 :=
  headK G sig (cmpK i q kc vc) (slcK K i ch e q k v) (winK i q kw vw)

/-- The four pairs of heads of a point. -/
def pieceK {a b c a' b' c' : ℕ} (G : Gates a b c) (G' : Gates a' b' c') (K : Keys nk) (i : grid0.Coords) (x7 : Vec Ideal S1x128x128 .f32) (q : Vec Ideal S1x128x128 .bf16)
    (kc vc ch : FVec Ideal S128x128 .bf16) (e : FVec Ideal ⟨2, ![128, nk]⟩ .bf16) (k v : FVec Ideal ⟨3, ![1, nk, 128]⟩ .bf16) (kw vw : Vec Ideal S1x640x128 .bf16) :
    FVec Ideal S1x128x128 .bf16 :=
  pairK (outK G K i (sigK x7) (qEven q) kc vc ch e k v kw vw) (outK G' K i (sigK x7) (qOdd q) kc vc ch e k v kw vw)

/-- A group's chosen blocks, of the queries of its two pairs. -/
def pickK (i : grid0.Coords) (mimp : Vec Ideal S128x128 .bf16) (q q' : Vec Ideal S1x128x128 .bf16) (kc : FVec Ideal S128x128 .bf16) : FVec Ideal S128x128 .bf16 :=
  chosenK (valK i mimp (psumK i (qEven q) (qOdd q) (qEven q') (qOdd q') kc))

/-- What a point leaves in its output block, of the blocks it reads and the compressed keys and values. -/
def outVec (K : Keys nk) (i : grid0.Coords) (x0 : Vec Ideal S1x128x512 .bf16) (x1 x2 x3 x4 : Vec Ideal S1x2048x256 .bf16) (x7 : Vec Ideal S1x128x128 .f32)
    (x16 : Vec Ideal S128x128 .bf16) (x17 : Vec Ideal S128x2048 .bf16) (kc vc : Vec Ideal S128x256 .bf16) : Vec Ideal S1x128x512 .bf16 :=
  View.canon (Val := Elt Ideal) (s := S1x128x512) (e := .bf16) [
    ⟨Rect.unit ![0, 0, 384] ![1, 128, 128] inb_S1x128x512_S1x128x128_0_0_384,
      pieceK gates6 gates7 K i x7 (View.ld x0 (Rect.unit ![0, 0, 384] ![1, 128, 128] inb_S1x128x512_S1x128x128_0_0_384))
        (View.ld kc (Rect.unit ![0, 128] ![128, 128] inb_S128x256_S128x128_0_128)) (View.ld vc (Rect.unit ![0, 128] ![128, 128] inb_S128x256_S128x128_0_128))
        (pickK i x16 (View.ld x0 (Rect.unit ![0, 0, 256] ![1, 128, 128] inb_S1x128x512_S1x128x128_0_0_256))
          (View.ld x0 (Rect.unit ![0, 0, 384] ![1, 128, 128] inb_S1x128x512_S1x128x128_0_0_384)) (View.ld kc (Rect.unit ![0, 128] ![128, 128] inb_S128x256_S128x128_0_128)))
        (View.ld x17 (Rect.unit ![0, 0] ![128, nk] K.le)) (View.ld x1 (Rect.unit ![0, 0, 128] ![1, nk, 128] K.l1)) (View.ld x3 (Rect.unit ![0, 0, 128] ![1, nk, 128] K.l1))
        (View.ld x2 (Rect.unit (k0_off2 i) ![1, 640, 128] (k0_off2_inb i))) (View.ld x4 (Rect.unit (k0_off2 i) ![1, 640, 128] (k0_off2_inb i)))⟩,
    ⟨Rect.unit ![0, 0, 256] ![1, 128, 128] inb_S1x128x512_S1x128x128_0_0_256,
      pieceK gates4 gates5 K i x7 (View.ld x0 (Rect.unit ![0, 0, 256] ![1, 128, 128] inb_S1x128x512_S1x128x128_0_0_256))
        (View.ld kc (Rect.unit ![0, 128] ![128, 128] inb_S128x256_S128x128_0_128)) (View.ld vc (Rect.unit ![0, 128] ![128, 128] inb_S128x256_S128x128_0_128))
        (pickK i x16 (View.ld x0 (Rect.unit ![0, 0, 256] ![1, 128, 128] inb_S1x128x512_S1x128x128_0_0_256))
          (View.ld x0 (Rect.unit ![0, 0, 384] ![1, 128, 128] inb_S1x128x512_S1x128x128_0_0_384)) (View.ld kc (Rect.unit ![0, 128] ![128, 128] inb_S128x256_S128x128_0_128)))
        (View.ld x17 (Rect.unit ![0, 0] ![128, nk] K.le)) (View.ld x1 (Rect.unit ![0, 0, 128] ![1, nk, 128] K.l1)) (View.ld x3 (Rect.unit ![0, 0, 128] ![1, nk, 128] K.l1))
        (View.ld x2 (Rect.unit (k0_off2 i) ![1, 640, 128] (k0_off2_inb i))) (View.ld x4 (Rect.unit (k0_off2 i) ![1, 640, 128] (k0_off2_inb i)))⟩,
    ⟨Rect.unit ![0, 0, 128] ![1, 128, 128] inb_S1x128x512_S1x128x128_0_0_128,
      pieceK gates2 gates3 K i x7 (View.ld x0 (Rect.unit ![0, 0, 128] ![1, 128, 128] inb_S1x128x512_S1x128x128_0_0_128))
        (View.ld kc (Rect.unit ![0, 0] ![128, 128] inb_S128x256_S128x128_0_0)) (View.ld vc (Rect.unit ![0, 0] ![128, 128] inb_S128x256_S128x128_0_0))
        (pickK i x16 (View.ld x0 (Rect.unit ![0, 0, 0] ![1, 128, 128] inb_S1x128x512_S1x128x128_0_0_0))
          (View.ld x0 (Rect.unit ![0, 0, 128] ![1, 128, 128] inb_S1x128x512_S1x128x128_0_0_128)) (View.ld kc (Rect.unit ![0, 0] ![128, 128] inb_S128x256_S128x128_0_0)))
        (View.ld x17 (Rect.unit ![0, 0] ![128, nk] K.le)) (View.ld x1 (Rect.unit ![0, 0, 0] ![1, nk, 128] K.l0)) (View.ld x3 (Rect.unit ![0, 0, 0] ![1, nk, 128] K.l0))
        (View.ld x2 (Rect.unit (k0_off1 i) ![1, 640, 128] (k0_off1_inb i))) (View.ld x4 (Rect.unit (k0_off1 i) ![1, 640, 128] (k0_off1_inb i)))⟩,
    ⟨Rect.unit ![0, 0, 0] ![1, 128, 128] inb_S1x128x512_S1x128x128_0_0_0,
      pieceK gates0 gates1 K i x7 (View.ld x0 (Rect.unit ![0, 0, 0] ![1, 128, 128] inb_S1x128x512_S1x128x128_0_0_0))
        (View.ld kc (Rect.unit ![0, 0] ![128, 128] inb_S128x256_S128x128_0_0)) (View.ld vc (Rect.unit ![0, 0] ![128, 128] inb_S128x256_S128x128_0_0))
        (pickK i x16 (View.ld x0 (Rect.unit ![0, 0, 0] ![1, 128, 128] inb_S1x128x512_S1x128x128_0_0_0))
          (View.ld x0 (Rect.unit ![0, 0, 128] ![1, 128, 128] inb_S1x128x512_S1x128x128_0_0_128)) (View.ld kc (Rect.unit ![0, 0] ![128, 128] inb_S128x256_S128x128_0_0)))
        (View.ld x17 (Rect.unit ![0, 0] ![128, nk] K.le)) (View.ld x1 (Rect.unit ![0, 0, 0] ![1, nk, 128] K.l0)) (View.ld x3 (Rect.unit ![0, 0, 0] ![1, nk, 128] K.l0))
        (View.ld x2 (Rect.unit (k0_off1 i) ![1, 640, 128] (k0_off1_inb i))) (View.ld x4 (Rect.unit (k0_off1 i) ![1, 640, 128] (k0_off1_inb i)))⟩]

/-- The compressed keys of the blocks the first point of a sweep reads. -/
def kcT (x5 : Vec Ideal S1x128x2048 .f32) (x14 : Vec Ideal S1x2048 .f32) (x8 : Vec Ideal S2048x128 .bf16) (x15 : Vec Ideal S1x2048 .f32) (x9 : Vec Ideal S2048x128 .bf16)
    (x10 : Vec Ideal S128x256 .bf16) : Vec Ideal S128x256 .bf16 := k0_pay3 (k0_pay2 x5 x14 x8 x15 x9 x10)

/-- The compressed values. -/
def vcT (x6 : Vec Ideal S1x128x2048 .f32) (x14 : Vec Ideal S1x2048 .f32) (x11 : Vec Ideal S2048x128 .bf16) (x15 : Vec Ideal S1x2048 .f32) (x12 : Vec Ideal S2048x128 .bf16)
    (x13 : Vec Ideal S128x256 .bf16) : Vec Ideal S128x256 .bf16 := k0_pay197 (k0_pay4 x6 x14 x11 x15 x12) x13

end Cert.Proof.Nsa
-- ==== Proof.KCase.lean ====
/- What each grid point leaves: its output block, and the compressed keys and values it carries to the next point. -/
module

public import proofs.«01_k».proof.Proof.KText
public import Idealize.ShloMosaic.Lib.Pipeline.ReadBack
public import Idealize.ShloMosaic.Lib.Pipeline.ValueKit

@[expose] public section

set_option maxRecDepth 16384

noncomputable section

namespace Cert.Proof.Nsa

open Cert.KernelIdeal Cert.KernelIdeal.Gen Idealize.ShloMosaic Idealize.ShloMosaic.TcCoe

variable (m : (ℓ : Loc nD τ sig) → Buf (Elt Ideal) ℓ)

/-- The compressed keys of the point's batch. -/
def kcAt (c : Dev nD) (t : Fin cfg0.N) : Vec Ideal S128x256 .bf16 :=
  kcT (iblk m c 5 t) (iblk m c 14 t) (iblk m c 8 t) (iblk m c 15 t) (iblk m c 9 t) (iblk m c 10 t)

/-- The compressed values of the point's batch. -/
def vcAt (c : Dev nD) (t : Fin cfg0.N) : Vec Ideal S128x256 .bf16 :=
  vcT (iblk m c 6 t) (iblk m c 14 t) (iblk m c 11 t) (iblk m c 15 t) (iblk m c 12 t) (iblk m c 13 t)

/-- The output block of the point, of the compressed keys and values it finds. -/
def outAt {nk : ℕ} (K : Keys nk) (c : Dev nD) (t : Fin cfg0.N) (kc vc : Vec Ideal S128x256 .bf16) : Vec Ideal S1x128x512 .bf16 :=
  outVec K (grid0.coords t) (X0_0 m c t) (X0_1 m c t) (X0_2 m c t) (iblk m c 3 t) (iblk m c 4 t) (iblk m c 7 t) (iblk m c 16 t) (iblk m c 17 t) kc vc

theorem ld_all (x : Vec Ideal S128x2048 .bf16) : View.ld x (Rect.unit ![0, 0] ![128, 2048] keys2048.le) = x :=
  View.ld_unit_zero (by funext a; fin_cases a <;> rfl) _ _

theorem out_A (c : Dev nD) (t : Fin cfg0.N) (h : t.val % 16 = 0) :
    (outsAt0 (F := Ideal) m c t.val t.isLt).1 = outAt m keys256 c t (kcAt m c t) (vcAt m c t) := by
  rw [Gen.outsAt0_A m c t (by omega) (by omega) (by omega) (by omega) (by omega) (by omega) (by omega) (by omega) (by omega)]
  dsimp only
  frame_open
  simp (disch := decide) only [↓ View.readCov_skip, ↓ View.readCov_cons_toLoadRect, ↓ View.readCov_fill]
  frame_out
  rfl

theorem kc_A (c : Dev nD) (t : Fin cfg0.N) (h : t.val % 16 = 0) : (outsAt0 (F := Ideal) m c t.val t.isLt).2.1 = kcAt m c t := by
  rw [Gen.outsAt0_A m c t (by omega) (by omega) (by omega) (by omega) (by omega) (by omega) (by omega) (by omega) (by omega)]
  dsimp only
  frame_out
  rfl

theorem vc_A (c : Dev nD) (t : Fin cfg0.N) (h : t.val % 16 = 0) : (outsAt0 (F := Ideal) m c t.val t.isLt).2.2 = vcAt m c t := by
  rw [Gen.outsAt0_A m c t (by omega) (by omega) (by omega) (by omega) (by omega) (by omega) (by omega) (by omega) (by omega)]
  dsimp only
  frame_out
  rfl

theorem out_B (c : Dev nD) (t : Fin cfg0.N) (h : t.val % 16 = 1) :
    (outsAt0 (F := Ideal) m c t.val t.isLt).1 = outAt m keys256 c t (outsAt0 (F := Ideal) m c (t.val - 1) (by omega)).2.1 (outsAt0 (F := Ideal) m c (t.val - 1) (by omega)).2.2 := by
  rw [Gen.outsAt0_B m c t (by omega) (by omega) (by omega) (by omega) (by omega) (by omega) (by omega) (by omega) (by omega)]
  generalize (outsAt0 m c (t.val - 1) _) = prev
  dsimp only
  frame_open
  simp (disch := decide) only [↓ View.readCov_skip, ↓ View.readCov_cons_toLoadRect, ↓ View.readCov_fill]
  frame_out
  simp only [read_unread_whole]
  rfl

theorem keep_B (c : Dev nD) (t : Fin cfg0.N) (h : t.val % 16 = 1) :
    (outsAt0 (F := Ideal) m c t.val t.isLt).2 = (outsAt0 (F := Ideal) m c (t.val - 1) (by omega)).2 := by
  rw [Gen.outsAt0_B m c t (by omega) (by omega) (by omega) (by omega) (by omega) (by omega) (by omega) (by omega) (by omega)]
  rfl

theorem out_C (c : Dev nD) (t : Fin cfg0.N) (h : (2 * 1 ≤ t.val % 16 ∧ t.val % 16 ≤ 2 * 1 + 1)) :
    (outsAt0 (F := Ideal) m c t.val t.isLt).1 = outAt m keys512 c t (outsAt0 (F := Ideal) m c (t.val - 1) (by omega)).2.1 (outsAt0 (F := Ideal) m c (t.val - 1) (by omega)).2.2 := by
  rw [Gen.outsAt0_C m c t (by omega) (by omega) (by omega) (by omega) (by omega) (by omega) (by omega) (by omega) (by omega)]
  generalize (outsAt0 m c (t.val - 1) _) = prev
  dsimp only
  frame_open
  simp (disch := decide) only [↓ View.readCov_skip, ↓ View.readCov_cons_toLoadRect, ↓ View.readCov_fill]
  frame_out
  simp only [read_unread_whole]
  rfl

theorem keep_C (c : Dev nD) (t : Fin cfg0.N) (h : (2 * 1 ≤ t.val % 16 ∧ t.val % 16 ≤ 2 * 1 + 1)) :
    (outsAt0 (F := Ideal) m c t.val t.isLt).2 = (outsAt0 (F := Ideal) m c (t.val - 1) (by omega)).2 := by
  rw [Gen.outsAt0_C m c t (by omega) (by omega) (by omega) (by omega) (by omega) (by omega) (by omega) (by omega) (by omega)]
  rfl

theorem out_D (c : Dev nD) (t : Fin cfg0.N) (h : (2 * 2 ≤ t.val % 16 ∧ t.val % 16 ≤ 2 * 2 + 1)) :
    (outsAt0 (F := Ideal) m c t.val t.isLt).1 = outAt m keys768 c t (outsAt0 (F := Ideal) m c (t.val - 1) (by omega)).2.1 (outsAt0 (F := Ideal) m c (t.val - 1) (by omega)).2.2 := by
  rw [Gen.outsAt0_D m c t (by omega) (by omega) (by omega) (by omega) (by omega) (by omega) (by omega) (by omega) (by omega)]
  generalize (outsAt0 m c (t.val - 1) _) = prev
  dsimp only
  frame_open
  simp (disch := decide) only [↓ View.readCov_skip, ↓ View.readCov_cons_toLoadRect, ↓ View.readCov_fill]
  frame_out
  simp only [read_unread_whole]
  rfl

theorem keep_D (c : Dev nD) (t : Fin cfg0.N) (h : (2 * 2 ≤ t.val % 16 ∧ t.val % 16 ≤ 2 * 2 + 1)) :
    (outsAt0 (F := Ideal) m c t.val t.isLt).2 = (outsAt0 (F := Ideal) m c (t.val - 1) (by omega)).2 := by
  rw [Gen.outsAt0_D m c t (by omega) (by omega) (by omega) (by omega) (by omega) (by omega) (by omega) (by omega) (by omega)]
  rfl

theorem out_E (c : Dev nD) (t : Fin cfg0.N) (h : (2 * 3 ≤ t.val % 16 ∧ t.val % 16 ≤ 2 * 3 + 1)) :
    (outsAt0 (F := Ideal) m c t.val t.isLt).1 = outAt m keys1024 c t (outsAt0 (F := Ideal) m c (t.val - 1) (by omega)).2.1 (outsAt0 (F := Ideal) m c (t.val - 1) (by omega)).2.2 := by
  rw [Gen.outsAt0_E m c t (by omega) (by omega) (by omega) (by omega) (by omega) (by omega) (by omega) (by omega) (by omega)]
  generalize (outsAt0 m c (t.val - 1) _) = prev
  dsimp only
  frame_open
  simp (disch := decide) only [↓ View.readCov_skip, ↓ View.readCov_cons_toLoadRect, ↓ View.readCov_fill]
  frame_out
  simp only [read_unread_whole]
  rfl

theorem keep_E (c : Dev nD) (t : Fin cfg0.N) (h : (2 * 3 ≤ t.val % 16 ∧ t.val % 16 ≤ 2 * 3 + 1)) :
    (outsAt0 (F := Ideal) m c t.val t.isLt).2 = (outsAt0 (F := Ideal) m c (t.val - 1) (by omega)).2 := by
  rw [Gen.outsAt0_E m c t (by omega) (by omega) (by omega) (by omega) (by omega) (by omega) (by omega) (by omega) (by omega)]
  rfl

theorem out_F (c : Dev nD) (t : Fin cfg0.N) (h : (2 * 4 ≤ t.val % 16 ∧ t.val % 16 ≤ 2 * 4 + 1)) :
    (outsAt0 (F := Ideal) m c t.val t.isLt).1 = outAt m keys1280 c t (outsAt0 (F := Ideal) m c (t.val - 1) (by omega)).2.1 (outsAt0 (F := Ideal) m c (t.val - 1) (by omega)).2.2 := by
  rw [Gen.outsAt0_F m c t (by omega) (by omega) (by omega) (by omega) (by omega) (by omega) (by omega) (by omega) (by omega)]
  generalize (outsAt0 m c (t.val - 1) _) = prev
  dsimp only
  frame_open
  simp (disch := decide) only [↓ View.readCov_skip, ↓ View.readCov_cons_toLoadRect, ↓ View.readCov_fill]
  frame_out
  simp only [read_unread_whole]
  rfl

theorem keep_F (c : Dev nD) (t : Fin cfg0.N) (h : (2 * 4 ≤ t.val % 16 ∧ t.val % 16 ≤ 2 * 4 + 1)) :
    (outsAt0 (F := Ideal) m c t.val t.isLt).2 = (outsAt0 (F := Ideal) m c (t.val - 1) (by omega)).2 := by
  rw [Gen.outsAt0_F m c t (by omega) (by omega) (by omega) (by omega) (by omega) (by omega) (by omega) (by omega) (by omega)]
  rfl

theorem out_G (c : Dev nD) (t : Fin cfg0.N) (h : (2 * 5 ≤ t.val % 16 ∧ t.val % 16 ≤ 2 * 5 + 1)) :
    (outsAt0 (F := Ideal) m c t.val t.isLt).1 = outAt m keys1536 c t (outsAt0 (F := Ideal) m c (t.val - 1) (by omega)).2.1 (outsAt0 (F := Ideal) m c (t.val - 1) (by omega)).2.2 := by
  rw [Gen.outsAt0_G m c t (by omega) (by omega) (by omega) (by omega) (by omega) (by omega) (by omega) (by omega) (by omega)]
  generalize (outsAt0 m c (t.val - 1) _) = prev
  dsimp only
  frame_open
  simp (disch := decide) only [↓ View.readCov_skip, ↓ View.readCov_cons_toLoadRect, ↓ View.readCov_fill]
  frame_out
  simp only [read_unread_whole]
  rfl

theorem keep_G (c : Dev nD) (t : Fin cfg0.N) (h : (2 * 5 ≤ t.val % 16 ∧ t.val % 16 ≤ 2 * 5 + 1)) :
    (outsAt0 (F := Ideal) m c t.val t.isLt).2 = (outsAt0 (F := Ideal) m c (t.val - 1) (by omega)).2 := by
  rw [Gen.outsAt0_G m c t (by omega) (by omega) (by omega) (by omega) (by omega) (by omega) (by omega) (by omega) (by omega)]
  rfl

theorem out_H (c : Dev nD) (t : Fin cfg0.N) (h : (2 * 6 ≤ t.val % 16 ∧ t.val % 16 ≤ 2 * 6 + 1)) :
    (outsAt0 (F := Ideal) m c t.val t.isLt).1 = outAt m keys1792 c t (outsAt0 (F := Ideal) m c (t.val - 1) (by omega)).2.1 (outsAt0 (F := Ideal) m c (t.val - 1) (by omega)).2.2 := by
  rw [Gen.outsAt0_H m c t (by omega) (by omega) (by omega) (by omega) (by omega) (by omega) (by omega) (by omega) (by omega)]
  generalize (outsAt0 m c (t.val - 1) _) = prev
  dsimp only
  frame_open
  simp (disch := decide) only [↓ View.readCov_skip, ↓ View.readCov_cons_toLoadRect, ↓ View.readCov_fill]
  frame_out
  simp only [read_unread_whole]
  rfl

theorem keep_H (c : Dev nD) (t : Fin cfg0.N) (h : (2 * 6 ≤ t.val % 16 ∧ t.val % 16 ≤ 2 * 6 + 1)) :
    (outsAt0 (F := Ideal) m c t.val t.isLt).2 = (outsAt0 (F := Ideal) m c (t.val - 1) (by omega)).2 := by
  rw [Gen.outsAt0_H m c t (by omega) (by omega) (by omega) (by omega) (by omega) (by omega) (by omega) (by omega) (by omega)]
  rfl

theorem out_I (c : Dev nD) (t : Fin cfg0.N) (h : (2 * 7 ≤ t.val % 16 ∧ t.val % 16 ≤ 2 * 7 + 1)) :
    (outsAt0 (F := Ideal) m c t.val t.isLt).1 = outAt m keys2048 c t (outsAt0 (F := Ideal) m c (t.val - 1) (by omega)).2.1 (outsAt0 (F := Ideal) m c (t.val - 1) (by omega)).2.2 := by
  rw [Gen.outsAt0_I m c t (by omega) (by omega) (by omega) (by omega) (by omega) (by omega) (by omega) (by omega) (by omega)]
  generalize (outsAt0 m c (t.val - 1) _) = prev
  dsimp only
  frame_open
  simp (disch := decide) only [↓ View.readCov_skip, ↓ View.readCov_cons_toLoadRect, ↓ View.readCov_fill]
  frame_out
  simp only [read_unread_whole]
  unfold outAt
  generalize (iblk m c 17 t : Vec Ideal S128x2048 .bf16) = E
  unfold outVec
  simp only [ld_all]
  rfl

theorem keep_I (c : Dev nD) (t : Fin cfg0.N) (h : (2 * 7 ≤ t.val % 16 ∧ t.val % 16 ≤ 2 * 7 + 1)) :
    (outsAt0 (F := Ideal) m c t.val t.isLt).2 = (outsAt0 (F := Ideal) m c (t.val - 1) (by omega)).2 := by
  rw [Gen.outsAt0_I m c t (by omega) (by omega) (by omega) (by omega) (by omega) (by omega) (by omega) (by omega) (by omega)]
  rfl

end Cert.Proof.Nsa
-- ==== Proof.KBlk.lean ====
/- The blocks that the kernel's body reads at a grid point, as parts of the arrays that the host code makes. -/
module

public import proofs.«01_k».proof.Proof.KCase

@[expose] public section

set_option maxRecDepth 16384

noncomputable section

namespace Cert.Proof.Nsa

open Cert.KernelIdeal Cert.KernelIdeal.Gen Idealize.ShloMosaic Idealize.ShloMosaic.TcCoe

variable (m : (ℓ : Loc nD τ sig) → Buf (Elt Ideal) ℓ)

theorem co_0 : ∀ t : Fin cfg0.N, (grid0.coords t 0).val = t.val / 16 :=
  (by decide +kernel : ∀ t : Fin grid0.N, (grid0.coords t 0).val = t.val / 16)
theorem co_1 : ∀ t : Fin cfg0.N, (grid0.coords t 1).val = t.val % 16 :=
  (by decide +kernel : ∀ t : Fin grid0.N, (grid0.coords t 1).val = t.val % 16)

/-- The batch of a grid point. -/
def bt (t : Fin cfg0.N) : Fin 8 := ⟨t.val / 16, by have : t.val < 128 := t.isLt; omega⟩

/-- The query time of a row of a grid point. -/
def tt (t : Fin cfg0.N) (r : Fin 128) : Fin 2048 := ⟨128 * (t.val % 16) + r.val, by omega⟩

theorem v3K_eq (t : Fin cfg0.N) : v3K (grid0.coords t) = BitVec.ofNat 32 (128 * (t.val % 16)) := by
  unfold v3K
  rw [co_1]
  show BitVec.ofNat 32 (t.val % 16) * BitVec.ofNat 32 128 = _
  rw [← BitVec.ofNat_mul, Nat.mul_comm]

theorem ix_0 : ∀ t : Fin cfg0.N, win0_0.index t = ![t.val / 16, t.val % 16, 0] :=
  (by decide +kernel : ∀ t : Fin grid0.N, win0_0.index t = ![t.val / 16, t.val % 16, 0])

theorem blk_0 (c : Dev nD) (t : Fin cfg0.N) (r : Fin 128) (k : Fin 512) :
    (X0_0 m c t : Vec Ideal S1x128x512 .bf16) (ix3 0 r k) = V m c main_v54 (ix3 (bt t) (tt t r) ⟨k.val, by omega⟩) := by
  unfold X0_0 Pipeline.Window.fill
  rw [dif_pos (moved0_0 t _)]
  unfold iblk
  refine congrArg (V m c main_v54) ?_
  funext a
  apply Fin.ext
  fin_cases a <;> blk_simp [ix_0] <;> first | rfl | exact Nat.add_comm _ _ | exact Nat.add_zero _ | (show _ * _ + _ = _; exact congrArg (· + _) (Nat.mul_comm _ _))

theorem ix_1 : ∀ t : Fin cfg0.N, win0_1.index t = ![t.val / 16, 0, 2] :=
  (by decide +kernel : ∀ t : Fin grid0.N, win0_1.index t = ![t.val / 16, 0, 2])

theorem blk_1 (c : Dev nD) (t : Fin cfg0.N) (r : Fin 2048) (k : Fin 256) :
    (X0_1 m c t : Vec Ideal S1x2048x256 .bf16) (ix3 0 r k) = V m c main_v54 (ix3 (bt t) r ⟨512 + k.val, by omega⟩) := by
  unfold X0_1 Pipeline.Window.fill
  rw [dif_pos (moved0_1 t _)]
  unfold iblk
  refine congrArg (V m c main_v54) ?_
  funext a
  apply Fin.ext
  fin_cases a <;> blk_simp [ix_1] <;> first | rfl | exact Nat.add_comm _ _ | exact Nat.add_zero _ | (show _ * _ + _ = _; exact congrArg (· + _) (Nat.mul_comm _ _))

theorem ix_2 : ∀ t : Fin cfg0.N, win0_2.index t = ![t.val / 16, 0, 3] :=
  (by decide +kernel : ∀ t : Fin grid0.N, win0_2.index t = ![t.val / 16, 0, 3])

theorem blk_2 (c : Dev nD) (t : Fin cfg0.N) (r : Fin 2048) (k : Fin 256) :
    (X0_2 m c t : Vec Ideal S1x2048x256 .bf16) (ix3 0 r k) = V m c main_v54 (ix3 (bt t) r ⟨768 + k.val, by omega⟩) := by
  unfold X0_2 Pipeline.Window.fill
  rw [dif_pos (moved0_2 t _)]
  unfold iblk
  refine congrArg (V m c main_v54) ?_
  funext a
  apply Fin.ext
  fin_cases a <;> blk_simp [ix_2] <;> first | rfl | exact Nat.add_comm _ _ | exact Nat.add_zero _ | (show _ * _ + _ = _; exact congrArg (· + _) (Nat.mul_comm _ _))

theorem ix_3 : ∀ t : Fin cfg0.N, win0_3.index t = ![t.val / 16, 0, 0] :=
  (by decide +kernel : ∀ t : Fin grid0.N, win0_3.index t = ![t.val / 16, 0, 0])

theorem blk_3 (c : Dev nD) (t : Fin cfg0.N) (r : Fin 2048) (k : Fin 256) :
    (iblk m c 3 t : Vec Ideal S1x2048x256 .bf16) (ix3 0 r k) = V m c main_v68 (ix3 (bt t) r ⟨0 + k.val, by omega⟩) := by
  unfold iblk
  refine congrArg (V m c main_v68) ?_
  funext a
  apply Fin.ext
  fin_cases a <;> blk_simp [ix_3] <;> first | rfl | exact Nat.add_comm _ _ | exact Nat.add_zero _ | (show _ * _ + _ = _; exact congrArg (· + _) (Nat.mul_comm _ _))

theorem ix_4 : ∀ t : Fin cfg0.N, win0_4.index t = ![t.val / 16, 0, 1] :=
  (by decide +kernel : ∀ t : Fin grid0.N, win0_4.index t = ![t.val / 16, 0, 1])

theorem blk_4 (c : Dev nD) (t : Fin cfg0.N) (r : Fin 2048) (k : Fin 256) :
    (iblk m c 4 t : Vec Ideal S1x2048x256 .bf16) (ix3 0 r k) = V m c main_v68 (ix3 (bt t) r ⟨256 + k.val, by omega⟩) := by
  unfold iblk
  refine congrArg (V m c main_v68) ?_
  funext a
  apply Fin.ext
  fin_cases a <;> blk_simp [ix_4] <;> first | rfl | exact Nat.add_comm _ _ | exact Nat.add_zero _ | (show _ * _ + _ = _; exact congrArg (· + _) (Nat.mul_comm _ _))

theorem ix_5 : ∀ t : Fin cfg0.N, win0_5.index t = ![t.val / 16, 0, 0] :=
  (by decide +kernel : ∀ t : Fin grid0.N, win0_5.index t = ![t.val / 16, 0, 0])

theorem blk_5 (c : Dev nD) (t : Fin cfg0.N) (r : Fin 128) (k : Fin 2048) :
    (iblk m c 5 t : Vec Ideal S1x128x2048 .f32) (ix3 0 r k) = V m c main_v131 (ix3 (bt t) r k) := by
  unfold iblk
  refine congrArg (V m c main_v131) ?_
  funext a
  apply Fin.ext
  fin_cases a <;> blk_simp [ix_5] <;> first | rfl | exact Nat.add_comm _ _ | exact Nat.add_zero _ | (show _ * _ + _ = _; exact congrArg (· + _) (Nat.mul_comm _ _))

theorem ix_6 : ∀ t : Fin cfg0.N, win0_6.index t = ![t.val / 16, 0, 0] :=
  (by decide +kernel : ∀ t : Fin grid0.N, win0_6.index t = ![t.val / 16, 0, 0])

theorem blk_6 (c : Dev nD) (t : Fin cfg0.N) (r : Fin 128) (k : Fin 2048) :
    (iblk m c 6 t : Vec Ideal S1x128x2048 .f32) (ix3 0 r k) = V m c main_v132 (ix3 (bt t) r k) := by
  unfold iblk
  refine congrArg (V m c main_v132) ?_
  funext a
  apply Fin.ext
  fin_cases a <;> blk_simp [ix_6] <;> first | rfl | exact Nat.add_comm _ _ | exact Nat.add_zero _ | (show _ * _ + _ = _; exact congrArg (· + _) (Nat.mul_comm _ _))

theorem ix_7 : ∀ t : Fin cfg0.N, win0_7.index t = ![t.val / 16, t.val % 16, 1] :=
  (by decide +kernel : ∀ t : Fin grid0.N, win0_7.index t = ![t.val / 16, t.val % 16, 1])

theorem blk_7 (c : Dev nD) (t : Fin cfg0.N) (r : Fin 128) (k : Fin 128) :
    (iblk m c 7 t : Vec Ideal S1x128x128 .f32) (ix3 0 r k) = V m c main_v72 (ix3 (bt t) (tt t r) ⟨128 + k.val, by omega⟩) := by
  unfold iblk
  refine congrArg (V m c main_v72) ?_
  funext a
  apply Fin.ext
  fin_cases a <;> blk_simp [ix_7] <;> first | rfl | exact Nat.add_comm _ _ | exact Nat.add_zero _ | (show _ * _ + _ = _; exact congrArg (· + _) (Nat.mul_comm _ _))

theorem ix_8 : ∀ t : Fin cfg0.N, win0_8.index t = ![0, 0] :=
  (by decide +kernel : ∀ t : Fin grid0.N, win0_8.index t = ![0, 0])

theorem blk_8 (c : Dev nD) (t : Fin cfg0.N) : (iblk m c 8 t : Vec Ideal S2048x128 .bf16) = V m c main_v99 := by
  funext j
  unfold iblk
  refine congrArg (V m c main_v99) ?_
  funext a
  apply Fin.ext
  fin_cases a <;> blk_simp [ix_8] <;> first | rfl | exact Nat.add_comm _ _ | exact Nat.add_zero _ | (show _ * _ + _ = _; exact congrArg (· + _) (Nat.mul_comm _ _))

theorem ix_9 : ∀ t : Fin cfg0.N, win0_9.index t = ![0, 0] :=
  (by decide +kernel : ∀ t : Fin grid0.N, win0_9.index t = ![0, 0])

theorem blk_9 (c : Dev nD) (t : Fin cfg0.N) : (iblk m c 9 t : Vec Ideal S2048x128 .bf16) = V m c main_v100 := by
  funext j
  unfold iblk
  refine congrArg (V m c main_v100) ?_
  funext a
  apply Fin.ext
  fin_cases a <;> blk_simp [ix_9] <;> first | rfl | exact Nat.add_comm _ _ | exact Nat.add_zero _ | (show _ * _ + _ = _; exact congrArg (· + _) (Nat.mul_comm _ _))

theorem ix_10 : ∀ t : Fin cfg0.N, win0_10.index t = ![0, 0] :=
  (by decide +kernel : ∀ t : Fin grid0.N, win0_10.index t = ![0, 0])

theorem blk_10 (c : Dev nD) (t : Fin cfg0.N) : (iblk m c 10 t : Vec Ideal S128x256 .bf16) = V m c main_v101 := by
  funext j
  unfold iblk
  refine congrArg (V m c main_v101) ?_
  funext a
  apply Fin.ext
  fin_cases a <;> blk_simp [ix_10] <;> first | rfl | exact Nat.add_comm _ _ | exact Nat.add_zero _ | (show _ * _ + _ = _; exact congrArg (· + _) (Nat.mul_comm _ _))

theorem ix_11 : ∀ t : Fin cfg0.N, win0_11.index t = ![0, 0] :=
  (by decide +kernel : ∀ t : Fin grid0.N, win0_11.index t = ![0, 0])

theorem blk_11 (c : Dev nD) (t : Fin cfg0.N) : (iblk m c 11 t : Vec Ideal S2048x128 .bf16) = V m c main_v128 := by
  funext j
  unfold iblk
  refine congrArg (V m c main_v128) ?_
  funext a
  apply Fin.ext
  fin_cases a <;> blk_simp [ix_11] <;> first | rfl | exact Nat.add_comm _ _ | exact Nat.add_zero _ | (show _ * _ + _ = _; exact congrArg (· + _) (Nat.mul_comm _ _))

theorem ix_12 : ∀ t : Fin cfg0.N, win0_12.index t = ![0, 0] :=
  (by decide +kernel : ∀ t : Fin grid0.N, win0_12.index t = ![0, 0])

theorem blk_12 (c : Dev nD) (t : Fin cfg0.N) : (iblk m c 12 t : Vec Ideal S2048x128 .bf16) = V m c main_v129 := by
  funext j
  unfold iblk
  refine congrArg (V m c main_v129) ?_
  funext a
  apply Fin.ext
  fin_cases a <;> blk_simp [ix_12] <;> first | rfl | exact Nat.add_comm _ _ | exact Nat.add_zero _ | (show _ * _ + _ = _; exact congrArg (· + _) (Nat.mul_comm _ _))

theorem ix_13 : ∀ t : Fin cfg0.N, win0_13.index t = ![0, 0] :=
  (by decide +kernel : ∀ t : Fin grid0.N, win0_13.index t = ![0, 0])

theorem blk_13 (c : Dev nD) (t : Fin cfg0.N) : (iblk m c 13 t : Vec Ideal S128x256 .bf16) = V m c main_v130 := by
  funext j
  unfold iblk
  refine congrArg (V m c main_v130) ?_
  funext a
  apply Fin.ext
  fin_cases a <;> blk_simp [ix_13] <;> first | rfl | exact Nat.add_comm _ _ | exact Nat.add_zero _ | (show _ * _ + _ = _; exact congrArg (· + _) (Nat.mul_comm _ _))

theorem ix_14 : ∀ t : Fin cfg0.N, win0_14.index t = ![0, 0] :=
  (by decide +kernel : ∀ t : Fin grid0.N, win0_14.index t = ![0, 0])

theorem blk_14 (c : Dev nD) (t : Fin cfg0.N) : (iblk m c 14 t : Vec Ideal S1x2048 .f32) = V m c main_v96 := by
  funext j
  unfold iblk
  refine congrArg (V m c main_v96) ?_
  funext a
  apply Fin.ext
  fin_cases a <;> blk_simp [ix_14] <;> first | rfl | exact Nat.add_comm _ _ | exact Nat.add_zero _ | (show _ * _ + _ = _; exact congrArg (· + _) (Nat.mul_comm _ _))

theorem ix_15 : ∀ t : Fin cfg0.N, win0_15.index t = ![0, 0] :=
  (by decide +kernel : ∀ t : Fin grid0.N, win0_15.index t = ![0, 0])

theorem blk_15 (c : Dev nD) (t : Fin cfg0.N) : (iblk m c 15 t : Vec Ideal S1x2048 .f32) = V m c main_v98 := by
  funext j
  unfold iblk
  refine congrArg (V m c main_v98) ?_
  funext a
  apply Fin.ext
  fin_cases a <;> blk_simp [ix_15] <;> first | rfl | exact Nat.add_comm _ _ | exact Nat.add_zero _ | (show _ * _ + _ = _; exact congrArg (· + _) (Nat.mul_comm _ _))

theorem ix_16 : ∀ t : Fin cfg0.N, win0_16.index t = ![0, 0] :=
  (by decide +kernel : ∀ t : Fin grid0.N, win0_16.index t = ![0, 0])

theorem blk_16 (c : Dev nD) (t : Fin cfg0.N) : (iblk m c 16 t : Vec Ideal S128x128 .bf16) = V m c main_v37 := by
  funext j
  unfold iblk
  refine congrArg (V m c main_v37) ?_
  funext a
  apply Fin.ext
  fin_cases a <;> blk_simp [ix_16] <;> first | rfl | exact Nat.add_comm _ _ | exact Nat.add_zero _ | (show _ * _ + _ = _; exact congrArg (· + _) (Nat.mul_comm _ _))

theorem ix_17 : ∀ t : Fin cfg0.N, win0_17.index t = ![0, 0] :=
  (by decide +kernel : ∀ t : Fin grid0.N, win0_17.index t = ![0, 0])

theorem blk_17 (c : Dev nD) (t : Fin cfg0.N) : (iblk m c 17 t : Vec Ideal S128x2048 .bf16) = V m c main_v38 := by
  funext j
  unfold iblk
  refine congrArg (V m c main_v38) ?_
  funext a
  apply Fin.ext
  fin_cases a <;> blk_simp [ix_17] <;> first | rfl | exact Nat.add_comm _ _ | exact Nat.add_zero _ | (show _ * _ + _ = _; exact congrArg (· + _) (Nat.mul_comm _ _))

end Cert.Proof.Nsa
-- ==== Proof.KHostA.lean ====
/- The arrays that the host code makes of the arguments, element by element. -/
module

public import proofs.«01_k».proof.Proof.KText
public import Idealize.ShloMosaic.Lib.Pipeline.ReadBack
public import Idealize.ShloMosaic.Lib.Pipeline.ValueKit
public import Idealize.ShloMosaic.Lib.Claim
public import Idealize.ShloMosaic.Lib.StableHlo.RunRead
public import Idealize.ShloMosaic.Lib.Tactic.CleanTypes

@[expose] public section

set_option maxRecDepth 16384

noncomputable section

namespace Cert.Proof.Nsa

open Cert.KernelIdeal Cert.KernelIdeal.Gen Idealize.ShloMosaic Idealize.ShloMosaic.TcCoe

variable (m : (ℓ : Loc nD τ sig) → Buf (Elt Ideal) ℓ)

/-- The arguments of a device. -/
abbrev A0 (c : Dev nD) : FVec Ideal S8x2048x8x64 .f32 := m ((c : Thread nD τ).loc main_arg0)
abbrev A1 (c : Dev nD) : FVec Ideal S8x2048x2x64 .f32 := m ((c : Thread nD τ).loc main_arg1)
abbrev A2 (c : Dev nD) : FVec Ideal S8x2048x2x64 .f32 := m ((c : Thread nD τ).loc main_arg2)
abbrev A3 (c : Dev nD) : FVec Ideal S8x2048x2x64 .f32 := m ((c : Thread nD τ).loc main_arg3)
abbrev A4 (c : Dev nD) : FVec Ideal S8x2048x2x64 .f32 := m ((c : Thread nD τ).loc main_arg4)
abbrev A5 (c : Dev nD) : FVec Ideal S8x2048x2x64 .f32 := m ((c : Thread nD τ).loc main_arg5)
abbrev A6 (c : Dev nD) : FVec Ideal S8x2048x2x64 .f32 := m ((c : Thread nD τ).loc main_arg6)
abbrev A7 (c : Dev nD) : FVec Ideal S8x2048x8x3 .f32 := m ((c : Thread nD τ).loc main_arg7)
abbrev A8 (c : Dev nD) : FVec Ideal S32x64 .f32 := m ((c : Thread nD τ).loc main_arg8)
abbrev A9 (c : Dev nD) : FVec Ideal S32x64x64 .f32 := m ((c : Thread nD τ).loc main_arg9)
abbrev A10 (c : Dev nD) : FVec Ideal S64x64 .f32 := m ((c : Thread nD τ).loc main_arg10)
abbrev A11 (c : Dev nD) : FVec Ideal S32x64x64 .f32 := m ((c : Thread nD τ).loc main_arg11)
abbrev A12 (c : Dev nD) : FVec Ideal S64x64 .f32 := m ((c : Thread nD τ).loc main_arg12)

theorem kv_slice0 (x : FVec Ideal S8x2048x2x64 .f32) (h1 : S8x2048x2x64.ShapeCasts S8x2048x128) (h2 : S8x2048x128.Slices ![0, 0, 0] S8x2048x64)
    (B : Fin 8) (t : Fin 2048) (j : Fin 64) :
    extractStridedSlice S8x2048x64 ![0, 0, 0] (fun i => shapeCast S8x2048x128 x h1 i) h2 (ix3 B t j) = x (ix4 B t 0 j) := by
  pointwise
  refine congrArg x ?_
  congr 1 <;> apply Fin.ext <;> simp <;> omega

theorem kv_slice1 (x : FVec Ideal S8x2048x2x64 .f32) (h1 : S8x2048x2x64.ShapeCasts S8x2048x128) (h2 : S8x2048x128.Slices ![0, 0, 64] S8x2048x64)
    (B : Fin 8) (t : Fin 2048) (j : Fin 64) :
    extractStridedSlice S8x2048x64 ![0, 0, 64] (fun i => shapeCast S8x2048x128 x h1 i) h2 (ix3 B t j) = x (ix4 B t 1 j) := by
  pointwise
  refine congrArg x ?_
  congr 1 <;> apply Fin.ext <;> simp <;> omega

theorem a3_q (c : Dev nD) (B : Fin 8) (t : Fin 2048) (h : Fin 8) (d : Fin 64) :
    (V m c main_v54 : FVec Ideal S8x2048x2176 .bf16) (ix3 B t ⟨h.val * 64 + d.val, by omega⟩) = A0 m c (ix4 B t h d) := by
  unfold V
  simp only [hostOps0, hostOps0_1, hostOps0_2, hostOps0_3, hostOps0_4, hostOps0_5, hostOps0_6, List.flatten_cons, List.flatten_nil, List.append_nil, List.cons_append, List.nil_append]
  after_reads_simp
  pointwise
  split_ifs <;> try (exfalso; omega)
  after_reads_simp
  pointwise

set_option maxHeartbeats 1000000 in
theorem a3_ks (c : Dev nD) (B : Fin 8) (t : Fin 2048) (g : Fin 2) (l : Fin 128) :
    (V m c main_v54 : FVec Ideal S8x2048x2176 .bf16) (ix3 B t ⟨512 + (g.val * 128 + l.val), by omega⟩) = A3 m c (ix4 B t g ⟨l.val % 64, by omega⟩) := by
  unfold V
  simp only [hostOps0, hostOps0_1, hostOps0_2, hostOps0_3, hostOps0_4, hostOps0_5, hostOps0_6, List.flatten_cons, List.flatten_nil, List.append_nil, List.cons_append, List.nil_append]
  after_reads_simp
  pointwise
  split_ifs <;> try (exfalso; omega)
  after_reads_simp
  pointwise
  obtain ⟨g, hg⟩ := g
  obtain ⟨l, hl⟩ := l
  dsimp only at *
  split_ifs
  all_goals try (exfalso; omega)
  all_goals after_reads_simp
  · obtain rfl : g = 0 := by omega
    refine (kv_slice0 _ _ _ _ _ _).trans (congrArg (A3 m c) ?_)
    congr 1; apply Fin.ext; dsimp only; omega
  · obtain rfl : g = 0 := by omega
    refine (kv_slice0 _ _ _ _ _ _).trans (congrArg (A3 m c) ?_)
    congr 1; apply Fin.ext; dsimp only; omega
  · obtain rfl : g = 1 := by omega
    refine (kv_slice1 _ _ _ _ _ _).trans (congrArg (A3 m c) ?_)
    congr 1; apply Fin.ext; dsimp only; omega
  · obtain rfl : g = 1 := by omega
    refine (kv_slice1 _ _ _ _ _ _).trans (congrArg (A3 m c) ?_)
    congr 1; apply Fin.ext; dsimp only; omega

set_option maxHeartbeats 1000000 in
theorem a3_kw (c : Dev nD) (B : Fin 8) (t : Fin 2048) (g : Fin 2) (l : Fin 128) :
    (V m c main_v54 : FVec Ideal S8x2048x2176 .bf16) (ix3 B t ⟨768 + (g.val * 128 + l.val), by omega⟩) = A5 m c (ix4 B t g ⟨l.val % 64, by omega⟩) := by
  unfold V
  simp only [hostOps0, hostOps0_1, hostOps0_2, hostOps0_3, hostOps0_4, hostOps0_5, hostOps0_6, List.flatten_cons, List.flatten_nil, List.append_nil, List.cons_append, List.nil_append]
  after_reads_simp
  pointwise
  split_ifs <;> try (exfalso; omega)
  after_reads_simp
  pointwise
  obtain ⟨g, hg⟩ := g
  obtain ⟨l, hl⟩ := l
  dsimp only at *
  split_ifs
  all_goals try (exfalso; omega)
  all_goals after_reads_simp
  · obtain rfl : g = 0 := by omega
    refine (kv_slice0 _ _ _ _ _ _).trans (congrArg (A5 m c) ?_)
    congr 1; apply Fin.ext; dsimp only; omega
  · obtain rfl : g = 0 := by omega
    refine (kv_slice0 _ _ _ _ _ _).trans (congrArg (A5 m c) ?_)
    congr 1; apply Fin.ext; dsimp only; omega
  · obtain rfl : g = 1 := by omega
    refine (kv_slice1 _ _ _ _ _ _).trans (congrArg (A5 m c) ?_)
    congr 1; apply Fin.ext; dsimp only; omega
  · obtain rfl : g = 1 := by omega
    refine (kv_slice1 _ _ _ _ _ _).trans (congrArg (A5 m c) ?_)
    congr 1; apply Fin.ext; dsimp only; omega

set_option maxHeartbeats 1000000 in
theorem v3_vs (c : Dev nD) (B : Fin 8) (t : Fin 2048) (g : Fin 2) (l : Fin 128) :
    (V m c main_v68 : FVec Ideal S8x2048x512 .bf16) (ix3 B t ⟨0 + (g.val * 128 + l.val), by omega⟩) = A4 m c (ix4 B t g ⟨l.val % 64, by omega⟩) := by
  unfold V
  simp only [hostOps0, hostOps0_1, hostOps0_2, hostOps0_3, hostOps0_4, hostOps0_5, hostOps0_6, List.flatten_cons, List.flatten_nil, List.append_nil, List.cons_append, List.nil_append]
  after_reads_simp
  pointwise
  split_ifs <;> try (exfalso; omega)
  after_reads_simp
  pointwise
  obtain ⟨g, hg⟩ := g
  obtain ⟨l, hl⟩ := l
  dsimp only at *
  split_ifs
  all_goals try (exfalso; omega)
  all_goals after_reads_simp
  · obtain rfl : g = 0 := by omega
    refine (kv_slice0 _ _ _ _ _ _).trans (congrArg (A4 m c) ?_)
    congr 1; apply Fin.ext; dsimp only; omega
  · obtain rfl : g = 0 := by omega
    refine (kv_slice0 _ _ _ _ _ _).trans (congrArg (A4 m c) ?_)
    congr 1; apply Fin.ext; dsimp only; omega
  · obtain rfl : g = 1 := by omega
    refine (kv_slice1 _ _ _ _ _ _).trans (congrArg (A4 m c) ?_)
    congr 1; apply Fin.ext; dsimp only; omega
  · obtain rfl : g = 1 := by omega
    refine (kv_slice1 _ _ _ _ _ _).trans (congrArg (A4 m c) ?_)
    congr 1; apply Fin.ext; dsimp only; omega

set_option maxHeartbeats 1000000 in
theorem v3_vw (c : Dev nD) (B : Fin 8) (t : Fin 2048) (g : Fin 2) (l : Fin 128) :
    (V m c main_v68 : FVec Ideal S8x2048x512 .bf16) (ix3 B t ⟨256 + (g.val * 128 + l.val), by omega⟩) = A6 m c (ix4 B t g ⟨l.val % 64, by omega⟩) := by
  unfold V
  simp only [hostOps0, hostOps0_1, hostOps0_2, hostOps0_3, hostOps0_4, hostOps0_5, hostOps0_6, List.flatten_cons, List.flatten_nil, List.append_nil, List.cons_append, List.nil_append]
  after_reads_simp
  pointwise
  split_ifs <;> try (exfalso; omega)
  after_reads_simp
  pointwise
  obtain ⟨g, hg⟩ := g
  obtain ⟨l, hl⟩ := l
  dsimp only at *
  split_ifs
  all_goals try (exfalso; omega)
  all_goals after_reads_simp
  · obtain rfl : g = 0 := by omega
    refine (kv_slice0 _ _ _ _ _ _).trans (congrArg (A6 m c) ?_)
    congr 1; apply Fin.ext; dsimp only; omega
  · obtain rfl : g = 0 := by omega
    refine (kv_slice0 _ _ _ _ _ _).trans (congrArg (A6 m c) ?_)
    congr 1; apply Fin.ext; dsimp only; omega
  · obtain rfl : g = 1 := by omega
    refine (kv_slice1 _ _ _ _ _ _).trans (congrArg (A6 m c) ?_)
    congr 1; apply Fin.ext; dsimp only; omega
  · obtain rfl : g = 1 := by omega
    refine (kv_slice1 _ _ _ _ _ _).trans (congrArg (A6 m c) ?_)
    congr 1; apply Fin.ext; dsimp only; omega

theorem m3_g (c : Dev nD) (B : Fin 8) (t : Fin 2048) (h : Fin 8) (d : Fin 3) :
    (V m c main_v72 : FVec Ideal S8x2048x256 .f32) (ix3 B t ⟨128 + (3 * h.val + d.val), by omega⟩) = A7 m c (ix4 B t h d) := by
  unfold V
  simp only [hostOps0, hostOps0_1, hostOps0_2, hostOps0_3, hostOps0_4, hostOps0_5, hostOps0_6, List.flatten_cons, List.flatten_nil, List.append_nil, List.cons_append, List.nil_append]
  after_reads_simp
  pointwise
  after_reads_simp
  rw [dif_pos (by omega)]
  pointwise

theorem kcr (c : Dev nD) (B : Fin 8) (n : Fin 128) (l : Fin 16) (g : Fin 2) (d : Fin 64) :
    (V m c main_v131 : FVec Ideal S8x128x2048 .f32) (ix3 B n ⟨l.val * 128 + g.val * 64 + d.val, by omega⟩) = A1 m c (ix4 B ⟨16 * n.val + l.val, by omega⟩ g d) := by
  unfold V
  simp only [hostOps0, hostOps0_1, hostOps0_2, hostOps0_3, hostOps0_4, hostOps0_5, hostOps0_6, List.flatten_cons, List.flatten_nil, List.append_nil, List.cons_append, List.nil_append]
  after_reads_simp
  pointwise
  refine congrArg (A1 m c) ?_
  congr 1; apply Fin.ext; dsimp only; omega

theorem vcr (c : Dev nD) (B : Fin 8) (n : Fin 128) (l : Fin 16) (g : Fin 2) (d : Fin 64) :
    (V m c main_v132 : FVec Ideal S8x128x2048 .f32) (ix3 B n ⟨l.val * 128 + g.val * 64 + d.val, by omega⟩) = A2 m c (ix4 B ⟨16 * n.val + l.val, by omega⟩ g d) := by
  unfold V
  simp only [hostOps0, hostOps0_1, hostOps0_2, hostOps0_3, hostOps0_4, hostOps0_5, hostOps0_6, List.flatten_cons, List.flatten_nil, List.append_nil, List.cons_append, List.nil_append]
  after_reads_simp
  pointwise
  refine congrArg (A2 m c) ?_
  congr 1; apply Fin.ext; dsimp only; omega

end Cert.Proof.Nsa
-- ==== Proof.KHostB.lean ====
/- The block-diagonal first weights of the compression, element by element. -/
module

public import proofs.«01_k».proof.Proof.KHostA
public import proofs.«01_k».proof.Proof.Words

@[expose] public section

set_option maxRecDepth 16384

noncomputable section

namespace Cert.Proof.Nsa

open Cert.KernelIdeal Cert.KernelIdeal.Gen Idealize.ShloMosaic Idealize.ShloMosaic.TcCoe

variable (m : (ℓ : Loc nD τ sig) → Buf (Elt Ideal) ℓ)

theorem eye2 (a b : ℕ) (ha : a < 2) (hb : b < 2) :
    (FloatOps.uitofp FTy.f32 (IntOp.cmpi CmpIPredicate.eq (IntOp.addi (BitVec.ofNat 32 a) 0#32) (BitVec.ofNat 32 b)) : Ideal .f32) = if a = b then (1 : EReal) else 0 := by
  rw [show (0#32 : BitVec 32) = BitVec.ofNat 32 0 from rfl, add_word, eq_word (by omega) (by omega)]
  show (((BitVec.ofBool (decide (a + 0 = b))).toNat : ℝ) : EReal) = _
  by_cases h : a = b <;> simp [h]

theorem blk_eye (x u : EReal) (a b : ℕ) (p : Prop) [Decidable p] (y : EReal) (hu : u = if a = b then 1 else 0)
    (hp : p ↔ a = b) (hx : p → x = y) : x * u = if p then y else 0 := by
  by_cases h : p
  · rw [if_pos h, hu, if_pos (hp.1 h), mul_one, hx h]
  · rw [if_neg h, hu, if_neg (fun e => h (hp.2 e)), mul_zero]

theorem wak (c : Dev nD) (l : Fin 16) (g : Fin 2) (d : Fin 64) (g' : Fin 2) (e : Fin 64) :
    (V m c main_v99 : FVec Ideal S2048x128 .bf16) (ix2 ⟨l.val * 128 + g.val * 64 + d.val, by omega⟩ ⟨g'.val * 64 + e.val, by omega⟩)
      = if g = g' then A9 m c (ix3 ⟨0 + l.val, by omega⟩ d e) else 0 := by
  unfold V
  simp only [hostOps0, hostOps0_1, hostOps0_2, hostOps0_3, hostOps0_4, hostOps0_5, hostOps0_6, List.flatten_cons, List.flatten_nil, List.append_nil, List.cons_append, List.nil_append]
  after_reads_simp
  pointwise
  refine blk_eye _ _ ((l.val * 128 + g.val * 64 + d.val) % 128 / 64) ((g'.val * 64 + e.val) / 64) (g = g') _
    (eye2 ((l.val * 128 + g.val * 64 + d.val) % 128 / 64) ((g'.val * 64 + e.val) / 64) (by omega) (by omega))
    (by rw [Fin.ext_iff]; omega) fun h => ?_
  have h' := Fin.ext_iff.1 h
  refine congrArg (A9 m c) ?_
  congr 1 <;> apply Fin.ext <;> dsimp only <;> omega

theorem wbk (c : Dev nD) (l : Fin 16) (g : Fin 2) (d : Fin 64) (g' : Fin 2) (e : Fin 64) :
    (V m c main_v100 : FVec Ideal S2048x128 .bf16) (ix2 ⟨l.val * 128 + g.val * 64 + d.val, by omega⟩ ⟨g'.val * 64 + e.val, by omega⟩)
      = if g = g' then A9 m c (ix3 ⟨16 + l.val, by omega⟩ d e) else 0 := by
  unfold V
  simp only [hostOps0, hostOps0_1, hostOps0_2, hostOps0_3, hostOps0_4, hostOps0_5, hostOps0_6, List.flatten_cons, List.flatten_nil, List.append_nil, List.cons_append, List.nil_append]
  after_reads_simp
  pointwise
  refine blk_eye _ _ ((l.val * 128 + g.val * 64 + d.val) % 128 / 64) ((g'.val * 64 + e.val) / 64) (g = g') _
    (eye2 ((l.val * 128 + g.val * 64 + d.val) % 128 / 64) ((g'.val * 64 + e.val) / 64) (by omega) (by omega))
    (by rw [Fin.ext_iff]; omega) fun h => ?_
  have h' := Fin.ext_iff.1 h
  refine congrArg (A9 m c) ?_
  congr 1 <;> apply Fin.ext <;> dsimp only <;> omega

theorem wav (c : Dev nD) (l : Fin 16) (g : Fin 2) (d : Fin 64) (g' : Fin 2) (e : Fin 64) :
    (V m c main_v128 : FVec Ideal S2048x128 .bf16) (ix2 ⟨l.val * 128 + g.val * 64 + d.val, by omega⟩ ⟨g'.val * 64 + e.val, by omega⟩)
      = if g = g' then A11 m c (ix3 ⟨0 + l.val, by omega⟩ d e) else 0 := by
  unfold V
  simp only [hostOps0, hostOps0_1, hostOps0_2, hostOps0_3, hostOps0_4, hostOps0_5, hostOps0_6, List.flatten_cons, List.flatten_nil, List.append_nil, List.cons_append, List.nil_append]
  after_reads_simp
  pointwise
  refine blk_eye _ _ ((l.val * 128 + g.val * 64 + d.val) % 128 / 64) ((g'.val * 64 + e.val) / 64) (g = g') _
    (eye2 ((l.val * 128 + g.val * 64 + d.val) % 128 / 64) ((g'.val * 64 + e.val) / 64) (by omega) (by omega))
    (by rw [Fin.ext_iff]; omega) fun h => ?_
  have h' := Fin.ext_iff.1 h
  refine congrArg (A11 m c) ?_
  congr 1 <;> apply Fin.ext <;> dsimp only <;> omega

theorem wbv (c : Dev nD) (l : Fin 16) (g : Fin 2) (d : Fin 64) (g' : Fin 2) (e : Fin 64) :
    (V m c main_v129 : FVec Ideal S2048x128 .bf16) (ix2 ⟨l.val * 128 + g.val * 64 + d.val, by omega⟩ ⟨g'.val * 64 + e.val, by omega⟩)
      = if g = g' then A11 m c (ix3 ⟨16 + l.val, by omega⟩ d e) else 0 := by
  unfold V
  simp only [hostOps0, hostOps0_1, hostOps0_2, hostOps0_3, hostOps0_4, hostOps0_5, hostOps0_6, List.flatten_cons, List.flatten_nil, List.append_nil, List.cons_append, List.nil_append]
  after_reads_simp
  pointwise
  refine blk_eye _ _ ((l.val * 128 + g.val * 64 + d.val) % 128 / 64) ((g'.val * 64 + e.val) / 64) (g = g') _
    (eye2 ((l.val * 128 + g.val * 64 + d.val) % 128 / 64) ((g'.val * 64 + e.val) / 64) (by omega) (by omega))
    (by rw [Fin.ext_iff]; omega) fun h => ?_
  have h' := Fin.ext_iff.1 h
  refine congrArg (A11 m c) ?_
  congr 1 <;> apply Fin.ext <;> dsimp only <;> omega

end Cert.Proof.Nsa
-- ==== Proof.KHostC.lean ====
/- The fixed matrices and the positions that the host code makes, element by element. -/
module

public import proofs.«01_k».proof.Proof.KHostA
public import proofs.«01_k».proof.Proof.Words

@[expose] public section

set_option maxRecDepth 16384

noncomputable section

namespace Cert.Proof.Nsa

open Cert.KernelIdeal Cert.KernelIdeal.Gen Idealize.ShloMosaic Idealize.ShloMosaic.TcCoe

variable (m : (ℓ : Loc nD τ sig) → Buf (Elt Ideal) ℓ)

noncomputable abbrev flr (x : BitVec 32) (w : BitVec 32) : BitVec 32 :=
  Scalar.select
    (IntOp.andi
      (IntOp.cmpi CmpIPredicate.ne
        (if w = 0 then 0 else if w.msb = true then -1 else 1 : BitVec 32)
        (if id (constantI S_ 32 x) ix0 = 0 then 0 else if BitVec.msb (id (constantI S_ 32 x) ix0) = true then -1 else 1 : BitVec 32))
      (IntOp.cmpi CmpIPredicate.ne (IntOp.remsi ArithUnit.host w (id (constantI S_ 32 x) ix0)) 0#32))
    (IntOp.subi (IntOp.divsi ArithUnit.host w (id (constantI S_ 32 x) ix0)) 1#32)
    (IntOp.divsi ArithUnit.host w (id (constantI S_ 32 x) ix0))

theorem flr4 : ∀ n : Fin 129, flr 4#32 (BitVec.ofNat 32 n.val) = BitVec.ofNat 32 (n.val / 4) := by decide +kernel
theorem flr64 : ∀ n : Fin 2048, flr 64#32 (BitVec.ofNat 32 n.val) = BitVec.ofNat 32 (n.val / 64) := by decide +kernel

theorem ind (p : Prop) [Decidable p] : (FloatOps.uitofp FTy.f32 (BitVec.ofBool (decide p)) : Ideal .f32) = if p then (1 : EReal) else 0 := by
  show (((BitVec.ofBool (decide p)).toNat : ℝ) : EReal) = _
  by_cases h : p <;> simp [h]

theorem mimp_val (j n : ℕ) (hj : j < 128) (hn : n < 128) :
    ((FloatOps.uitofp FTy.f32 (IntOp.cmpi CmpIPredicate.eq (flr 4#32 (BitVec.ofNat 32 n)) (BitVec.ofNat 32 j)) : Ideal .f32)
      + (FloatOps.uitofp FTy.f32 (IntOp.cmpi CmpIPredicate.eq (flr 4#32 (IntOp.addi (BitVec.ofNat 32 n) 1#32)) (BitVec.ofNat 32 j)) : Ideal .f32))
      * (FloatOps.uitofp FTy.f32 (IntOp.cmpi CmpIPredicate.slt (BitVec.ofNat 32 j) 32#32) : Ideal .f32)
      * (FloatOps.uitofp FTy.f32 (IntOp.cmpi CmpIPredicate.slt (BitVec.ofNat 32 n) 127#32) : Ideal .f32)
    = if j < 32 ∧ n < 127 then ((if n / 4 = j then (1 : EReal) else 0) + (if (n + 1) / 4 = j then 1 else 0)) else 0 := by
  have e1 : IntOp.addi (BitVec.ofNat 32 n) 1#32 = BitVec.ofNat 32 (n + 1) := by
    rw [show (1#32 : BitVec 32) = BitVec.ofNat 32 1 from rfl, add_word]
  rw [e1, flr4 ⟨n, by omega⟩, flr4 ⟨n + 1, by omega⟩, eq_word (by omega) (by omega), eq_word (by omega) (by omega),
    show (32#32 : BitVec 32) = BitVec.ofNat 32 32 from rfl, show (127#32 : BitVec 32) = BitVec.ofNat 32 127 from rfl,
    slt_word (by omega) (by omega), slt_word (by omega) (by omega), ind, ind, ind, ind]
  by_cases h1 : j < 32
  · by_cases h2 : n < 127
    · rw [if_pos h1, if_pos h2, if_pos (show j < 32 ∧ n < 127 from ⟨h1, h2⟩)]; exact (mul_one _).trans (mul_one _)
    · rw [if_neg h2, if_neg (show ¬(j < 32 ∧ n < 127) from fun h => h2 h.2)]; exact mul_zero _
  · rw [if_neg h1, if_neg (show ¬(j < 32 ∧ n < 127) from fun h => h1 h.1)]; exact (congrArg (· * _) (mul_zero _)).trans (zero_mul _)

theorem mimpV (c : Dev nD) (j n : Fin 128) :
    (V m c main_v37 : FVec Ideal S128x128 .bf16) (ix2 j n)
      = if j.val < 32 ∧ n.val < 127 then ((if n.val / 4 = j.val then (1 : EReal) else 0) + (if (n.val + 1) / 4 = j.val then 1 else 0)) else 0 := by
  unfold V
  simp only [hostOps0, hostOps0_1, hostOps0_2, hostOps0_3, hostOps0_4, hostOps0_5, hostOps0_6, List.flatten_cons, List.flatten_nil, List.append_nil, List.cons_append, List.nil_append]
  after_reads_simp
  simp -implicitDefEqProofs only [StableHlo.TRef.toBuf, StableHlo.TRef.ofBuf, cast_cast, cast_eq]
  clean_types
  pointwise
  exact mimp_val j.val n.val j.isLt n.isLt

theorem eexpV (c : Dev nD) (j : Fin 128) (k : Fin 2048) :
    (V m c main_v38 : FVec Ideal S128x2048 .bf16) (ix2 j k) = if k.val / 64 = j.val then (1 : EReal) else 0 := by
  unfold V
  simp only [hostOps0, hostOps0_1, hostOps0_2, hostOps0_3, hostOps0_4, hostOps0_5, hostOps0_6, List.flatten_cons, List.flatten_nil, List.append_nil, List.cons_append, List.nil_append]
  after_reads_simp
  simp -implicitDefEqProofs only [StableHlo.TRef.toBuf, StableHlo.TRef.ofBuf, cast_cast, cast_eq]
  clean_types
  pointwise
  refine (congrArg (fun w => (FloatOps.uitofp FTy.f32 (IntOp.cmpi CmpIPredicate.eq w (BitVec.ofNat 32 j.val)) : Ideal .f32)) (flr64 k)).trans ?_
  rw [eq_word (by omega) (by omega), ind]

theorem pa (c : Dev nD) (l : Fin 16) (g : Fin 2) (d : Fin 64) :
    (V m c main_v96 : FVec Ideal S1x2048 .f32) (ix2 0 ⟨l.val * 128 + g.val * 64 + d.val, by omega⟩) = A8 m c (ix2 ⟨0 + l.val, by omega⟩ d) := by
  unfold V
  simp only [hostOps0, hostOps0_1, hostOps0_2, hostOps0_3, hostOps0_4, hostOps0_5, hostOps0_6, List.flatten_cons, List.flatten_nil, List.append_nil, List.cons_append, List.nil_append]
  after_reads_simp
  pointwise

theorem pb (c : Dev nD) (l : Fin 16) (g : Fin 2) (d : Fin 64) :
    (V m c main_v98 : FVec Ideal S1x2048 .f32) (ix2 0 ⟨l.val * 128 + g.val * 64 + d.val, by omega⟩) = A8 m c (ix2 ⟨16 + l.val, by omega⟩ d) := by
  unfold V
  simp only [hostOps0, hostOps0_1, hostOps0_2, hostOps0_3, hostOps0_4, hostOps0_5, hostOps0_6, List.flatten_cons, List.flatten_nil, List.append_nil, List.cons_append, List.nil_append]
  after_reads_simp
  pointwise

end Cert.Proof.Nsa
-- ==== Proof.KHostD.lean ====
/- The block-diagonal second weights of the compression, each column doubled. -/
module

public import proofs.«01_k».proof.Proof.KHostA
public import proofs.«01_k».proof.Proof.Words

@[expose] public section

set_option maxRecDepth 16384

noncomputable section

namespace Cert.Proof.Nsa

open Cert.KernelIdeal Cert.KernelIdeal.Gen Idealize.ShloMosaic Idealize.ShloMosaic.TcCoe

variable (m : (ℓ : Loc nD τ sig) → Buf (Elt Ideal) ℓ)

set_option maxHeartbeats 1000000 in
theorem w2k (c : Dev nD) (g : Fin 2) (e : Fin 64) (g' : Fin 2) (f : Fin 128) :
    (V m c main_v101 : FVec Ideal S128x256 .bf16) (ix2 ⟨g.val * 64 + e.val, by omega⟩ ⟨g'.val * 128 + f.val, by omega⟩)
      = if g.val = g'.val then A10 m c (ix2 e ⟨f.val % 64, by omega⟩) else 0 := by
  unfold V
  simp only [hostOps0, hostOps0_1, hostOps0_2, hostOps0_3, hostOps0_4, hostOps0_5, hostOps0_6, List.flatten_cons, List.flatten_nil, List.append_nil, List.cons_append, List.nil_append]
  after_reads_simp
  pointwise
  obtain ⟨g, hg⟩ := g
  obtain ⟨g', hg'⟩ := g'
  obtain ⟨f, hf⟩ := f
  dsimp only at *
  rcases (by omega : g = 0 ∨ g = 1) with h | h
  · rw [dif_pos (by omega)]
    after_reads_simp
    pointwise
    split_ifs
    all_goals try (exfalso; omega)
    all_goals try after_reads_simp
    all_goals first
      | (refine Eq.trans ?_ (if_pos (by omega)).symm; refine congrArg (A10 m c) ?_; congr 1 <;> apply Fin.ext <;> dsimp only <;> omega)
      | (refine Eq.trans ?_ (if_neg (by omega)).symm; pointwise; exact bits_zero)
      | (refine Eq.trans ?_ (if_neg (by omega)).symm; exact bits_zero)
  · rw [dif_neg (by omega)]
    after_reads_simp
    pointwise
    split_ifs
    all_goals try (exfalso; omega)
    all_goals try after_reads_simp
    all_goals first
      | (refine Eq.trans ?_ (if_pos (by omega)).symm; refine congrArg (A10 m c) ?_; congr 1 <;> apply Fin.ext <;> dsimp only <;> omega)
      | (refine Eq.trans ?_ (if_neg (by omega)).symm; pointwise; exact bits_zero)
      | (refine Eq.trans ?_ (if_neg (by omega)).symm; exact bits_zero)

set_option maxHeartbeats 1000000 in
theorem w2v (c : Dev nD) (g : Fin 2) (e : Fin 64) (g' : Fin 2) (f : Fin 128) :
    (V m c main_v130 : FVec Ideal S128x256 .bf16) (ix2 ⟨g.val * 64 + e.val, by omega⟩ ⟨g'.val * 128 + f.val, by omega⟩)
      = if g.val = g'.val then A12 m c (ix2 e ⟨f.val % 64, by omega⟩) else 0 := by
  unfold V
  simp only [hostOps0, hostOps0_1, hostOps0_2, hostOps0_3, hostOps0_4, hostOps0_5, hostOps0_6, List.flatten_cons, List.flatten_nil, List.append_nil, List.cons_append, List.nil_append]
  after_reads_simp
  pointwise
  obtain ⟨g, hg⟩ := g
  obtain ⟨g', hg'⟩ := g'
  obtain ⟨f, hf⟩ := f
  dsimp only at *
  rcases (by omega : g = 0 ∨ g = 1) with h | h
  · rw [dif_pos (by omega)]
    after_reads_simp
    pointwise
    split_ifs
    all_goals try (exfalso; omega)
    all_goals try after_reads_simp
    all_goals first
      | (refine Eq.trans ?_ (if_pos (by omega)).symm; refine congrArg (A12 m c) ?_; congr 1 <;> apply Fin.ext <;> dsimp only <;> omega)
      | (refine Eq.trans ?_ (if_neg (by omega)).symm; pointwise; exact bits_zero)
      | (refine Eq.trans ?_ (if_neg (by omega)).symm; exact bits_zero)
  · rw [dif_neg (by omega)]
    after_reads_simp
    pointwise
    split_ifs
    all_goals try (exfalso; omega)
    all_goals try after_reads_simp
    all_goals first
      | (refine Eq.trans ?_ (if_pos (by omega)).symm; refine congrArg (A12 m c) ?_; congr 1 <;> apply Fin.ext <;> dsimp only <;> omega)
      | (refine Eq.trans ?_ (if_neg (by omega)).symm; pointwise; exact bits_zero)
      | (refine Eq.trans ?_ (if_neg (by omega)).symm; exact bits_zero)

end Cert.Proof.Nsa
-- ==== Proof.KHost.lean ====
/- The arrays that the kernel's windows read, element by element. -/
module

public import proofs.«01_k».proof.Proof.KHostA
public import proofs.«01_k».proof.Proof.KHostB
public import proofs.«01_k».proof.Proof.KHostC
public import proofs.«01_k».proof.Proof.KHostD
-- ==== Proof.KHead.lean ====
/- What the kernel's body computes for a head at a row: the three branches as attention over plain sets of keys, and the gates. -/
module

public import proofs.«01_k».proof.Proof.KText
public import proofs.«01_k».proof.Proof.Spec

@[expose] public section

set_option maxRecDepth 16384

noncomputable section

namespace Cert.Proof.Nsa

open Cert.KernelIdeal Cert.KernelIdeal.Gen Idealize.ShloMosaic Idealize.ShloMosaic.TcCoe

theorem att_one {ι : Type} [Fintype ι] [DecidableEq ι] (S : Finset ι) (s : ι → EReal) (j : ι) :
    att eps S s (fun k => if k = j then 1 else 0) = prob S s j := by
  unfold att prob
  simp only [mul_ite, mul_one, mul_zero, Finset.sum_ite_eq']

/-- Masked weights do not depend on how the keys are named. -/
theorem prob_rename {ι κ : Type} [Fintype ι] [DecidableEq ι] [Fintype κ] [DecidableEq κ] (S : Finset ι) (T : Finset κ) (f : ι → κ) (hf : ∀ k ∈ S, f k ∈ T)
    (hinj : ∀ a ∈ S, ∀ b ∈ S, f a = f b → a = b) (hsur : ∀ t ∈ T, ∃ k ∈ S, f k = t)
    (s : ι → EReal) (s' : κ → EReal) (hs : ∀ k ∈ S, s k = s' (f k)) (j : ι) (hj : j ∈ S) : prob S s j = prob T s' (f j) := by
  rw [← att_one, ← att_one]
  refine att_rename S T f hf hinj hsur s _ s' _ hs fun k hk => ?_
  by_cases h : k = j
  · rw [if_pos h, if_pos (congrArg f h)]
  · rw [if_neg h, if_neg fun e => h (hinj k hk j hj e)]

theorem sum128 (f : Fin 128 → EReal) : ∑ l, f l = ∑ d : Fin 64, f ⟨d.val, by omega⟩ + ∑ d : Fin 64, f ⟨64 + d.val, by omega⟩ :=
  Fin.sum_univ_add (a := 64) (b := 64) f

/-- A row of scaled queries, read against keys that stand twice in their 128 lanes, gives the score. -/
def Reads (q : FVec Ideal S128x128 .bf16) (r : Fin 128) (Q : Fin 64 → EReal) : Prop :=
  ∀ (k : Fin 64 → EReal) (K : Fin 128 → EReal), (∀ l : Fin 128, K l = k ⟨l.val % 64, Nat.mod_lt _ (by norm_num)⟩) →
    (∑ l : Fin 128, (q (ix2 r l) : EReal) * K l) = score Q k

theorem bits_zero16 : Ideal.ofBits .bf16 0x0000#16 = 0 := by simp [Ideal.ofBits, Ideal.ieee]

theorem qEven_apply (x : Vec Ideal S1x128x128 .bf16) (r l : Fin 128) :
    qEven x (ix2 r l) = (if l.val < 64 then (x (ix3 0 r l) : EReal) else 0) * eighth := by
  unfold qEven k0_pay200
  pointwise
  rw [slt_word (by omega) (by norm_num), select_ofBool]
  by_cases h : l.val < 64
  · rw [if_pos h, if_pos h]; exact congrArg (fun y : EReal => (x (ix3 0 r l) : EReal) * y) bits_eighth16
  · rw [if_neg h, if_neg h, zero_mul]

theorem qOdd_apply (x : Vec Ideal S1x128x128 .bf16) (r l : Fin 128) :
    qOdd x (ix2 r l) = (if 64 ≤ l.val then (x (ix3 0 r l) : EReal) else 0) * eighth := by
  unfold qOdd k0_pay201
  pointwise
  rw [sge_word (by omega) (by norm_num), select_ofBool]
  by_cases h : 64 ≤ l.val
  · rw [if_pos h, if_pos h]; exact congrArg (fun y : EReal => (x (ix3 0 r l) : EReal) * y) bits_eighth16
  · rw [if_neg h, if_neg h, zero_mul]

theorem reads_even (x : Vec Ideal S1x128x128 .bf16) (r : Fin 128) (Q : Fin 64 → EReal) (h : ∀ d : Fin 64, x (ix3 0 r ⟨d.val, by omega⟩) = Q d) :
    Reads (qEven x) r Q := by
  intro k K hK
  rw [sum128]
  unfold score
  rw [sum_mul_of_finite _ _ eighth_nonneg eighth_ne_top]
  have h2 : ∑ d : Fin 64, (qEven x (ix2 r ⟨64 + d.val, by omega⟩) : EReal) * K ⟨64 + d.val, by omega⟩ = 0 :=
    Finset.sum_eq_zero fun d _ => by
      rw [qEven_apply, if_neg (by dsimp only; omega), zero_mul, zero_mul]
  refine (congrArg _ h2).trans ((add_zero _).trans ?_)
  refine Finset.sum_congr rfl fun d _ => ?_
  rw [qEven_apply, if_pos d.isLt, h d, hK, mul_right_comm]
  congr 3
  apply Fin.ext
  exact Nat.mod_eq_of_lt d.isLt

theorem reads_odd (x : Vec Ideal S1x128x128 .bf16) (r : Fin 128) (Q : Fin 64 → EReal) (h : ∀ d : Fin 64, x (ix3 0 r ⟨64 + d.val, by omega⟩) = Q d) :
    Reads (qOdd x) r Q := by
  intro k K hK
  rw [sum128]
  unfold score
  rw [sum_mul_of_finite _ _ eighth_nonneg eighth_ne_top]
  have h2 : ∑ d : Fin 64, (qOdd x (ix2 r ⟨d.val, by omega⟩) : EReal) * K ⟨d.val, by omega⟩ = 0 :=
    Finset.sum_eq_zero fun d _ => by
      rw [qOdd_apply, if_neg (by dsimp only; omega), zero_mul, zero_mul]
  refine (congrArg (· + _) h2).trans ((zero_add _).trans ?_)
  refine Finset.sum_congr rfl fun d _ => ?_
  rw [qOdd_apply, if_pos (by dsimp only; omega), h d, hK, mul_right_comm]
  congr 3
  apply Fin.ext
  dsimp only
  omega

section Branches

variable (T : ℕ) (hT : T < 16) (i : grid0.Coords) (hi : v3K i = BitVec.ofNat 32 (128 * T)) (r : Fin 128)

include hT hi

theorem cmp_val (c : Fin 128) (q kc vc : FVec Ideal S128x128 .bf16) (Q : Fin 64 → EReal) (hq : Reads q r Q) (KC VC : Fin 127 → Fin 64 → EReal)
    (hk : ∀ (n : Fin 127) (l : Fin 128), kc (ix2 ⟨n.val, by omega⟩ l) = KC n ⟨l.val % 64, Nat.mod_lt _ (by norm_num)⟩)
    (hv : ∀ (n : Fin 127) (l : Fin 128), vc (ix2 ⟨n.val, by omega⟩ l) = VC n ⟨l.val % 64, Nat.mod_lt _ (by norm_num)⟩) :
    cmpK i q kc vc (ix2 r c)
      = att eps (cmpSet (128 * T + r.val)) (fun n => score Q (KC n)) fun n => VC n ⟨c.val % 64, Nat.mod_lt _ (by norm_num)⟩ := by
  unfold cmpK wK
  rw [hi, mask_head _ _ _ _ _ fillK fillK_eq _ q kc vc r c (fun n => 16 * n.val + 31 ≤ 128 * T + r.val) (fun j => vCmpMask_apply _ _ T hT r j)]
  refine att_rename _ _ (fun n => ⟨min n.val 126, by omega⟩) ?_ ?_ ?_ _ _ _ _ ?_ ?_
  · intro n hn
    have hn := (Finset.mem_filter.1 hn).2
    exact Finset.mem_filter.2 ⟨Finset.mem_univ _, by dsimp only; omega⟩
  · intro a ha b hb h
    have ha := (Finset.mem_filter.1 ha).2
    have hb := (Finset.mem_filter.1 hb).2
    have h := Fin.ext_iff.1 h
    dsimp only at h
    apply Fin.ext; omega
  · intro n hn
    have hn := (Finset.mem_filter.1 hn).2
    exact ⟨⟨n.val, by omega⟩, Finset.mem_filter.2 ⟨Finset.mem_univ _, hn⟩, by apply Fin.ext; dsimp only; omega⟩
  · intro n hn
    have hn := (Finset.mem_filter.1 hn).2
    refine hq _ _ fun l => ?_
    rw [← hk]; congr 2; apply Fin.ext; dsimp only; omega
  · intro n hn
    have hn := (Finset.mem_filter.1 hn).2
    rw [← hv]; congr 2; apply Fin.ext; dsimp only; omega

theorem prob_val (q kc : FVec Ideal S128x128 .bf16) (Q : Fin 64 → EReal) (hq : Reads q r Q) (KC : Fin 127 → Fin 64 → EReal)
    (hk : ∀ (n : Fin 127) (l : Fin 128), kc (ix2 ⟨n.val, by omega⟩ l) = KC n ⟨l.val % 64, Nat.mod_lt _ (by norm_num)⟩) (n : Fin 128) :
    probK i q kc (ix2 r n) = if h : n.val < 127 then prob (cmpSet (128 * T + r.val)) (fun n => score Q (KC n)) ⟨n.val, h⟩ else 0 := by
  unfold probK wK
  rw [hi, prob_head _ _ _ fillK fillK_eq _ q kc r (fun n => 16 * n.val + 31 ≤ 128 * T + r.val) (fun j => vCmpMask_apply _ _ T hT r j)]
  by_cases hm : 16 * n.val + 31 ≤ 128 * T + r.val
  · rw [dif_pos (by omega)]
    refine (prob_rename _ (cmpSet (128 * T + r.val)) (fun n => ⟨min n.val 126, by omega⟩) ?_ ?_ ?_ _ (fun n => score Q (KC n)) ?_ n (Finset.mem_filter.2 ⟨Finset.mem_univ _, hm⟩)).trans ?_
    · intro n hn
      have hn := (Finset.mem_filter.1 hn).2
      exact Finset.mem_filter.2 ⟨Finset.mem_univ _, by dsimp only; omega⟩
    · intro a ha b hb h
      have ha := (Finset.mem_filter.1 ha).2
      have hb := (Finset.mem_filter.1 hb).2
      have h := Fin.ext_iff.1 h
      dsimp only at h
      apply Fin.ext; omega
    · intro n hn
      have hn := (Finset.mem_filter.1 hn).2
      exact ⟨⟨n.val, by omega⟩, Finset.mem_filter.2 ⟨Finset.mem_univ _, hn⟩, by apply Fin.ext; dsimp only; omega⟩
    · intro n hn
      have hn := (Finset.mem_filter.1 hn).2
      refine hq _ _ fun l => ?_
      rw [← hk]; congr 2; apply Fin.ext; dsimp only; omega
    · congr 1; apply Fin.ext; dsimp only; omega
  · unfold prob
    have h1 : n ∉ Finset.univ.filter (fun n : Fin 128 => 16 * n.val + 31 ≤ 128 * T + r.val) := fun h => hm (Finset.mem_filter.1 h).2
    rw [if_neg h1]
    by_cases h : n.val < 127
    · have h2 : (⟨n.val, h⟩ : Fin 127) ∉ cmpSet (128 * T + r.val) := fun h => hm (Finset.mem_filter.1 h).2
      rw [dif_pos h, if_neg h2]
    · rw [dif_neg h]

omit hT hi in
/-- The importance of compressed block `n` for four heads. -/
def impG (t : ℕ) (Q : Fin 4 → Fin 64 → EReal) (KC : Fin 127 → Fin 64 → EReal) (n : Fin 127) : EReal :=
  ∑ i : Fin 4, prob (cmpSet t) (fun n => score (Q i) (KC n)) n

omit hT hi in
/-- The importance of the selection block `j` for four heads. -/
def blkG (t : ℕ) (Q : Fin 4 → Fin 64 → EReal) (KC : Fin 127 → Fin 64 → EReal) (j : Fin 32) : EReal :=
  ∑ n : Fin 127, ((if n.val / 4 = j.val then impG t Q KC n else 0) + (if (n.val + 1) / 4 = j.val then impG t Q KC n else 0))

theorem psum_val (q0 q1 q2 q3 kc : FVec Ideal S128x128 .bf16) (Q : Fin 4 → Fin 64 → EReal) (h0 : Reads q0 r (Q 0)) (h1 : Reads q1 r (Q 1))
    (h2 : Reads q2 r (Q 2)) (h3 : Reads q3 r (Q 3)) (KC : Fin 127 → Fin 64 → EReal)
    (hk : ∀ (n : Fin 127) (l : Fin 128), kc (ix2 ⟨n.val, by omega⟩ l) = KC n ⟨l.val % 64, Nat.mod_lt _ (by norm_num)⟩) (n : Fin 128) :
    psumK i q0 q1 q2 q3 kc (ix2 r n) = if h : n.val < 127 then impG (128 * T + r.val) Q KC ⟨n.val, h⟩ else 0 := by
  have e : psumK i q0 q1 q2 q3 kc (ix2 r n)
      = (probK i q0 kc (ix2 r n) + probK i q1 kc (ix2 r n) + probK i q2 kc (ix2 r n) + probK i q3 kc (ix2 r n) : EReal) := rfl
  rw [e, prob_val T hT i hi r q0 kc _ h0 KC hk, prob_val T hT i hi r q1 kc _ h1 KC hk, prob_val T hT i hi r q2 kc _ h2 KC hk, prob_val T hT i hi r q3 kc _ h3 KC hk]
  by_cases h : n.val < 127
  · simp only [dif_pos h]
    unfold impG
    rw [Fin.sum_univ_four]
  · simp only [dif_neg h, add_zero]

omit hT hi in
theorem impG_nonneg (t : ℕ) (Q : Fin 4 → Fin 64 → EReal) (KC : Fin 127 → Fin 64 → EReal) (n : Fin 127) : 0 ≤ impG t Q KC n :=
  Finset.sum_nonneg fun _ _ => prob_nonneg' _ _ _

omit hT hi in
theorem impG_ne_top (t : ℕ) (Q : Fin 4 → Fin 64 → EReal) (KC : Fin 127 → Fin 64 → EReal) (n : Fin 127) : impG t Q KC n ≠ ⊤ := by
  unfold impG
  rw [Fin.sum_univ_four]
  exact EReal.add_ne_top (EReal.add_ne_top (EReal.add_ne_top (prob_ne_top' _ _ _) (prob_ne_top' _ _ _)) (prob_ne_top' _ _ _)) (prob_ne_top' _ _ _)

omit hT hi in
theorem twice_mul (a b : Prop) [Decidable a] [Decidable b] (x : EReal) :
    ((if a then (1 : EReal) else 0) + (if b then 1 else 0)) * x = (if a then x else 0) + (if b then x else 0) := by
  rw [EReal.right_distrib_of_nonneg (by split_ifs <;> simp) (by split_ifs <;> simp), ite_mul, ite_mul, one_mul, zero_mul]

theorem pick_val (mimp : Vec Ideal S128x128 .bf16)
    (hm : ∀ j n : Fin 128, mimp (ix2 j n) = if j.val < 32 ∧ n.val < 127 then ((if n.val / 4 = j.val then (1 : EReal) else 0) + (if (n.val + 1) / 4 = j.val then 1 else 0)) else 0)
    (q0 q1 q2 q3 kc : FVec Ideal S128x128 .bf16) (Q : Fin 4 → Fin 64 → EReal) (h0 : Reads q0 r (Q 0)) (h1 : Reads q1 r (Q 1))
    (h2 : Reads q2 r (Q 2)) (h3 : Reads q3 r (Q 3)) (KC : Fin 127 → Fin 64 → EReal)
    (hk : ∀ (n : Fin 127) (l : Fin 128), kc (ix2 ⟨n.val, by omega⟩ l) = KC n ⟨l.val % 64, Nat.mod_lt _ (by norm_num)⟩) (j : Fin 128) :
    chosenK (valK i mimp (psumK i q0 q1 q2 q3 kc)) (ix2 r j)
      = if h : j.val < 32 then (if rank (rankVal (128 * T + r.val) (blkG (128 * T + r.val) Q KC)) ⟨j.val, h⟩ < 16 then (1 : EReal) else 0) else 0 := by
  have hp := psum_val T hT i hi r q0 q1 q2 q3 kc Q h0 h1 h2 h3 KC hk
  have hb : ∀ j : Fin 32, vBlk shapeCasts_S128x128_S128x128 bitsLt_bf16_f32 mimp (psumK i q0 q1 q2 q3 kc) (ix2 ⟨j.val, by omega⟩ r)
      = blkG (128 * T + r.val) Q KC j := by
    intro j
    rw [vBlk_apply]
    · rw [Fin.sum_univ_castSucc (n := 127)]
      unfold blkG
      refine (congrArg₂ (· + ·) (Finset.sum_congr rfl fun n _ => ?_) ?_).trans (add_zero _)
      · rw [hp, dif_pos (show (Fin.castSucc n).val < 127 from n.isLt), hm, if_pos ⟨j.isLt, n.isLt⟩]
        exact twice_mul _ _ _
      · rw [hp, dif_neg (by decide), mul_zero]
    · intro n
      rw [hp]
      split
      · exact impG_nonneg _ _ _ _
      · exact le_refl _
    · intro n
      rw [hp]
      split
      · exact impG_ne_top _ _ _ _
      · exact EReal.zero_ne_top
  have hv : ∀ j : Fin 32, valK i mimp (psumK i q0 q1 q2 q3 kc) (ix2 j r) = rankVal (128 * T + r.val) (blkG (128 * T + r.val) Q KC) j := by
    intro j
    unfold valK
    rw [hi, vVal_apply _ _ _ _ T hT]
    exact congrArg (fun f => rankVal (128 * T + r.val) f j) (funext hb)
  unfold chosenK
  by_cases h : j.val < 32
  · rw [dif_pos h]
    refine vChosen_apply _ _ _ _ _ r j _ ?_ h ((vRank_apply _ _ _ _ _ _ r _).trans ?_)
    · exact lt_of_le_of_lt (Finset.card_le_univ _) (by simp)
    · exact congrArg (fun f => BitVec.ofNat 32 (rank f ⟨j.val, h⟩)) (funext hv)
  · rw [dif_neg h]
    exact vChosen_rest _ _ _ _ _ r j h

theorem slc_val {nk : ℕ} (K : Keys nk) (hnk : nk ≤ 2048) (hlast : 128 * T + 128 ≤ nk) (c : Fin 128) (ch q : FVec Ideal S128x128 .bf16)
    (C : Fin 32 → Prop) [DecidablePred C] (hch : ∀ j : Fin 128, ch (ix2 r j) = if h : j.val < 32 then (if C ⟨j.val, h⟩ then (1 : EReal) else 0) else 0)
    (e : FVec Ideal ⟨2, ![128, nk]⟩ .bf16) (he : ∀ (j : Fin 128) (k : Fin nk), e (ix2 j k) = if k.val / 64 = j.val then (1 : EReal) else 0)
    (Q : Fin 64 → EReal) (hq : Reads q r Q) (KS VS : Fin 2048 → Fin 64 → EReal) (k v : FVec Ideal ⟨3, ![1, nk, 128]⟩ .bf16)
    (hk : ∀ (n : Fin nk) (l : Fin 128), k (ix3 0 n l) = KS ⟨n.val, by omega⟩ ⟨l.val % 64, Nat.mod_lt _ (by norm_num)⟩)
    (hv : ∀ (n : Fin nk) (l : Fin 128), v (ix3 0 n l) = VS ⟨n.val, by omega⟩ ⟨l.val % 64, Nat.mod_lt _ (by norm_num)⟩) :
    slcK K i ch e q k v (ix2 r c)
      = att eps (Finset.univ.filter fun n : Fin 2048 => C ⟨n.val / 64, by omega⟩ ∧ n.val ≤ 128 * T + r.val)
        (fun n => score Q (KS n)) fun n => VS n ⟨c.val % 64, Nat.mod_lt _ (by norm_num)⟩ := by
  have cast3 : ∀ (x : FVec Ideal ⟨3, ![1, nk, 128]⟩ .bf16) (n : Fin nk) (l : Fin 128), shapeCast ⟨2, ![nk, 128]⟩ x K.ck (ix2 n l) = x (ix3 0 n l) := by
    intro x n l
    refine congrArg x (Shape.reshapeEquiv_eq_of_rowMajor _ ?_)
    rw [Shape.rowMajor_val_three, Shape.rowMajor_val_two]
    show (0 * nk + n.val) * 128 + l.val = n.val * 128 + l.val
    rw [zero_mul, zero_add]
  have cast2 : shapeCast ⟨2, ![128, nk]⟩ e K.ce = e := by
    exact shapeCast_self e K.ce
  unfold slcK slcS
  rw [hi, cast2, bias_head _ _ _ _ _ q _ _ _ r c (fun n : Fin nk => C ⟨n.val / 64, by omega⟩ ∧ n.val ≤ 128 * T + r.val)]
  · refine att_rename _ _ (fun n => ⟨n.val, by omega⟩) ?_ ?_ ?_ _ _ _ _ ?_ ?_
    · intro n hn
      exact Finset.mem_filter.2 ⟨Finset.mem_univ _, (Finset.mem_filter.1 hn).2⟩
    · intro a _ b _ h
      have h := Fin.ext_iff.1 h
      exact Fin.ext h
    · intro n hn
      have hn := (Finset.mem_filter.1 hn).2
      exact ⟨⟨n.val, by have := hn.2; omega⟩, Finset.mem_filter.2 ⟨Finset.mem_univ _, hn⟩, rfl⟩
    · intro n _
      refine hq _ _ fun l => ?_
      rw [cast3, hk]
    · intro n _
      rw [cast3, hv]
  · intro n
    refine vPickBias_apply hnk _ _ T hT ch e r n (C ⟨n.val / 64, by omega⟩) ?_
    rw [Finset.sum_eq_single (⟨n.val / 64, by omega⟩ : Fin 128)]
    · rw [he, if_pos rfl, mul_one, hch, dif_pos (by dsimp only; omega)]
    · intro j _ hj
      rw [he, if_neg (fun h => hj (Fin.ext h.symm)), mul_zero]
    · intro h; exact absurd (Finset.mem_univ _) h

theorem win_val (s : ℕ) (hs : s = 128 * T - 512) (hks : ksK i = BitVec.ofNat 32 s) (c : Fin 128) (q : FVec Ideal S128x128 .bf16)
    (Q : Fin 64 → EReal) (hq : Reads q r Q) (KW VW : Fin 2048 → Fin 64 → EReal) (k v : Vec Ideal S1x640x128 .bf16)
    (hk : ∀ (n : Fin 640) (l : Fin 128), k (ix3 0 n l) = KW ⟨s + n.val, by omega⟩ ⟨l.val % 64, Nat.mod_lt _ (by norm_num)⟩)
    (hv : ∀ (n : Fin 640) (l : Fin 128), v (ix3 0 n l) = VW ⟨s + n.val, by omega⟩ ⟨l.val % 64, Nat.mod_lt _ (by norm_num)⟩) :
    winK i q k v (ix2 r c)
      = att eps (Finset.univ.filter fun n : Fin 2048 => n.val ≤ 128 * T + r.val ∧ 128 * T + r.val < n.val + 512)
        (fun n => score Q (KW n)) fun n => VW n ⟨c.val % 64, Nat.mod_lt _ (by norm_num)⟩ := by
  have cast3 : ∀ (x : FVec Ideal S1x640x128 .bf16) (n : Fin 640) (l : Fin 128), shapeCast S640x128 x shapeCasts_S1x640x128_S640x128 (ix2 n l) = x (ix3 0 n l) := by
    intro x n l
    pointwise
  unfold winK winS
  rw [hi, hks, bias_head _ _ _ _ _ q _ _ _ r c (fun n : Fin 640 => s + n.val ≤ 128 * T + r.val ∧ 128 * T + r.val < s + n.val + 512)]
  · refine att_rename _ _ (fun n => ⟨s + n.val, by omega⟩) ?_ ?_ ?_ _ _ _ _ ?_ ?_
    · intro n hn
      exact Finset.mem_filter.2 ⟨Finset.mem_univ _, (Finset.mem_filter.1 hn).2⟩
    · intro a _ b _ h
      have h := Fin.ext_iff.1 h
      apply Fin.ext; dsimp only at h; omega
    · intro n hn
      have hn := (Finset.mem_filter.1 hn).2
      exact ⟨⟨n.val - s, by omega⟩, Finset.mem_filter.2 ⟨Finset.mem_univ _, by dsimp only; omega⟩, by apply Fin.ext; dsimp only; omega⟩
    · intro n _
      refine hq _ _ fun l => ?_
      rw [cast3, hk]
    · intro n _
      rw [cast3, hv]
  · intro n
    exact vWinBias_apply _ _ T hT s (by omega) r n

end Branches

theorem sig_val (x : Vec Ideal S1x128x128 .f32) (r l : Fin 128) : sigK x (ix2 r l) = Ideal.logistic (x (ix3 0 r l)) := by
  unfold sigK k0_pay199
  pointwise

theorem head_val {a b c : ℕ} (G : Gates a b c) (ha : a < 128) (hb : b < 128) (hc : c < 128) (x7 : Vec Ideal S1x128x128 .f32) (x y z : FVec Ideal S128x128 .f32) (r l : Fin 128) :
    headK G (sigK x7) x y z (ix2 r l)
      = gated (x7 (ix3 0 r ⟨a, ha⟩)) (x7 (ix3 0 r ⟨b, hb⟩)) (x7 (ix3 0 r ⟨c, hc⟩)) (x (ix2 r l)) (y (ix2 r l)) (z (ix2 r l)) := by
  unfold headK gated
  pointwise
  rw [vGate_apply a ha, vGate_apply b hb, vGate_apply c hc, sig_val, sig_val, sig_val]
  exact add_right_comm _ _ _

theorem pair_val (x y : FVec Ideal S128x128 .f32) (r l : Fin 128) : pairK x y (ix3 0 r l) = if l.val < 64 then x (ix2 r l) else y (ix2 r l) := by
  unfold pairK
  pointwise
  exact vPair_apply _ _ _ _ _ _

end Cert.Proof.Nsa
-- ==== Proof.KCmp.lean ====
/- The compressed keys and values that the first point of a batch leaves, as plain sums over the arguments. -/
module

public import proofs.«01_k».proof.Proof.KBlk
public import proofs.«01_k».proof.Proof.KHost
public import proofs.«01_k».proof.Proof.KHead

@[expose] public section

set_option maxRecDepth 16384

noncomputable section

namespace Cert.Proof.Nsa

open Cert.KernelIdeal Cert.KernelIdeal.Gen Idealize.ShloMosaic Idealize.ShloMosaic.TcCoe

variable (m : (ℓ : Loc nD τ sig) → Buf (Elt Ideal) ℓ)

/-- The hidden layer: the rows of a block of 16 and of the next one, each times its weights. -/
def hidK (x : Vec Ideal S1x128x2048 .f32) (p : Vec Ideal S1x2048 .f32) (w : Vec Ideal S2048x128 .bf16) (p' : Vec Ideal S1x2048 .f32) (w' : Vec Ideal S2048x128 .bf16)
    (n e : Fin 128) : EReal :=
  (∑ k : Fin 2048, ((x (ix3 0 n k) : EReal) + p (ix2 0 k)) * w (ix2 k e))
    + ∑ k : Fin 2048, ((x (ix3 0 ⟨(n.val + 128 - 127) % 128, Nat.mod_lt _ (by norm_num)⟩ k) : EReal) + p' (ix2 0 k)) * w' (ix2 k e)

theorem gelu_form (x : EReal) :
    x * (Ideal.ofBits .f32 0x3F000000#32 * (1 + Ideal.tanh (Ideal.ofBits .f32 0x3F4C422A#32 * (x + Ideal.ofBits .f32 0x3D372713#32 * (x * (x * x))))))
      = gelu x := by
  unfold gelu
  rw [mul_assoc x x x]

theorem kcT_val (x : Vec Ideal S1x128x2048 .f32) (p : Vec Ideal S1x2048 .f32) (w : Vec Ideal S2048x128 .bf16) (p' : Vec Ideal S1x2048 .f32) (w' : Vec Ideal S2048x128 .bf16)
    (w2 : Vec Ideal S128x256 .bf16) (n : Fin 128) (c : Fin 256) :
    kcT x p w p' w' w2 (ix2 n c) = ∑ e : Fin 128, gelu (hidK x p w p' w' n e) * w2 (ix2 e c) := by
  unfold kcT k0_pay3 k0_pay2
  pointwise
  refine Finset.sum_congr rfl fun e _ => ?_
  exact congrArg (fun y : EReal => y * w2 (ix2 e c)) (gelu_form (hidK x p w p' w' n e))

theorem vcT_val (x : Vec Ideal S1x128x2048 .f32) (p : Vec Ideal S1x2048 .f32) (w : Vec Ideal S2048x128 .bf16) (p' : Vec Ideal S1x2048 .f32) (w' : Vec Ideal S2048x128 .bf16)
    (w2 : Vec Ideal S128x256 .bf16) (n : Fin 128) (c : Fin 256) :
    vcT x p w p' w' w2 (ix2 n c) = ∑ e : Fin 128, gelu (hidK x p w p' w' n e) * w2 (ix2 e c) := by
  unfold vcT k0_pay197 k0_pay4
  pointwise
  refine Finset.sum_congr rfl fun e _ => ?_
  exact congrArg (fun y : EReal => y * w2 (ix2 e c)) (gelu_form (hidK x p w p' w' n e))

theorem sum2048 (f : Fin 2048 → EReal) : ∑ k, f k = ∑ l : Fin 16, ∑ g : Fin 2, ∑ d : Fin 64, f ⟨l.val * 128 + g.val * 64 + d.val, by omega⟩ := by
  have h : ∑ k, f k = ∑ p : Fin 16 × Fin 128, f ⟨p.1.val * 128 + p.2.val, by omega⟩ := by
    refine (Equiv.sum_comp (finProdFinEquiv (m := 16) (n := 128)) (f : Fin (16 * 128) → EReal)).symm.trans ?_
    refine Finset.sum_congr rfl fun p _ => congrArg f (Fin.ext ?_)
    show p.2.val + 128 * p.1.val = _
    dsimp only; omega
  rw [h, Fintype.sum_prod_type]
  refine Finset.sum_congr rfl fun l _ => ?_
  rw [sum128, Fin.sum_univ_two]
  refine congrArg₂ (· + ·) (Finset.sum_congr rfl fun d _ => congrArg f (Fin.ext ?_)) (Finset.sum_congr rfl fun d _ => congrArg f (Fin.ext ?_)) <;>
    dsimp only [Fin.val_zero, Fin.val_one] <;> omega

/-- Half of the hidden layer of a group: block-diagonal weights leave the group's own part. -/
theorem half_sum (X P : Fin 2048 → EReal) (W : Fin 2048 → EReal) (g : Fin 2) (x : Fin 16 → Fin 2 → Fin 64 → EReal) (p : Fin 16 → Fin 64 → EReal) (w : Fin 16 → Fin 64 → EReal)
    (hX : ∀ (l : Fin 16) (g' : Fin 2) (d : Fin 64), X ⟨l.val * 128 + g'.val * 64 + d.val, by omega⟩ = x l g' d) (hP : ∀ (l : Fin 16) (g' : Fin 2) (d : Fin 64), P ⟨l.val * 128 + g'.val * 64 + d.val, by omega⟩ = p l d)
    (hW : ∀ (l : Fin 16) (g' : Fin 2) (d : Fin 64), W ⟨l.val * 128 + g'.val * 64 + d.val, by omega⟩ = if g' = g then w l d else 0) :
    ∑ k, (X k + P k) * W k = ∑ l : Fin 16, ∑ d : Fin 64, (x l g d + p l d) * w l d := by
  rw [sum2048]
  refine Finset.sum_congr rfl fun l _ => ?_
  rw [Finset.sum_eq_single g]
  · refine Finset.sum_congr rfl fun d _ => ?_
    rw [hX, hP, hW, if_pos rfl]
  · intro g' _ h
    refine Finset.sum_eq_zero fun d _ => ?_
    rw [hW, if_neg h, mul_zero]
  · intro h; exact absurd (Finset.mem_univ _) h

/-- The compressed rows in lanes of 128, of block-diagonal weights. -/
theorem cmpr_sum (cc : Fin 2048 → Fin 2 → Fin 64 → EReal) (pos : Fin 32 → Fin 64 → EReal) (w1 : Fin 32 → Fin 64 → Fin 64 → EReal) (w2 : Fin 64 → Fin 64 → EReal)
    (x : Vec Ideal S1x128x2048 .f32) (p : Vec Ideal S1x2048 .f32) (w : Vec Ideal S2048x128 .bf16) (p' : Vec Ideal S1x2048 .f32) (w' : Vec Ideal S2048x128 .bf16) (v : Vec Ideal S128x256 .bf16)
    (hx : ∀ (n : Fin 128) (l : Fin 16) (g : Fin 2) (d : Fin 64), x (ix3 0 n ⟨l.val * 128 + g.val * 64 + d.val, by omega⟩) = cc ⟨16 * n.val + l.val, by omega⟩ g d)
    (hp : ∀ (l : Fin 16) (g : Fin 2) (d : Fin 64), p (ix2 0 ⟨l.val * 128 + g.val * 64 + d.val, by omega⟩) = pos ⟨0 + l.val, by omega⟩ d)
    (hp' : ∀ (l : Fin 16) (g : Fin 2) (d : Fin 64), p' (ix2 0 ⟨l.val * 128 + g.val * 64 + d.val, by omega⟩) = pos ⟨16 + l.val, by omega⟩ d)
    (hw : ∀ (l : Fin 16) (g : Fin 2) (d : Fin 64) (g' : Fin 2) (e : Fin 64), w (ix2 ⟨l.val * 128 + g.val * 64 + d.val, by omega⟩ ⟨g'.val * 64 + e.val, by omega⟩) = if g = g' then w1 ⟨0 + l.val, by omega⟩ d e else 0)
    (hw' : ∀ (l : Fin 16) (g : Fin 2) (d : Fin 64) (g' : Fin 2) (e : Fin 64), w' (ix2 ⟨l.val * 128 + g.val * 64 + d.val, by omega⟩ ⟨g'.val * 64 + e.val, by omega⟩) = if g = g' then w1 ⟨16 + l.val, by omega⟩ d e else 0)
    (hv : ∀ (g : Fin 2) (e : Fin 64) (g' : Fin 2) (f : Fin 128), v (ix2 ⟨g.val * 64 + e.val, by omega⟩ ⟨g'.val * 128 + f.val, by omega⟩) = if g.val = g'.val then w2 e ⟨f.val % 64, by omega⟩ else 0)
    (n : Fin 127) (g : Fin 2) (f : Fin 128) :
    (∑ e : Fin 128, gelu (hidK x p w p' w' ⟨n.val, by omega⟩ e) * v (ix2 e ⟨g.val * 128 + f.val, by omega⟩)) = cmpr cc pos w1 w2 n g ⟨f.val % 64, by omega⟩ := by
  have hH : ∀ e : Fin 64, hidK x p w p' w' ⟨n.val, by omega⟩ ⟨g.val * 64 + e.val, by omega⟩ = hid cc pos w1 n g e := by
    intro e
    unfold hidK hid
    rw [half_sum (fun k => x (ix3 0 ⟨n.val, by omega⟩ k)) (fun k => p (ix2 0 k)) (fun k => w (ix2 k ⟨g.val * 64 + e.val, by omega⟩)) g
        (fun l g d => cc ⟨16 * n.val + l.val, by omega⟩ g d) (fun l d => pos ⟨0 + l.val, by omega⟩ d) (fun l d => w1 ⟨0 + l.val, by omega⟩ d e)
        (fun l g d => hx _ l g d) (fun l g d => hp l g d) (fun l g' d => hw l g' d g e),
      half_sum (fun k => x (ix3 0 ⟨(n.val + 128 - 127) % 128, Nat.mod_lt _ (by norm_num)⟩ k)) (fun k => p' (ix2 0 k)) (fun k => w' (ix2 k ⟨g.val * 64 + e.val, by omega⟩)) g
        (fun l g d => cc ⟨16 * ((n.val + 128 - 127) % 128) + l.val, by omega⟩ g d) (fun l d => pos ⟨16 + l.val, by omega⟩ d) (fun l d => w1 ⟨16 + l.val, by omega⟩ d e)
        (fun l g d => hx ⟨(n.val + 128 - 127) % 128, Nat.mod_lt _ (by norm_num)⟩ l g d) (fun l g d => hp' l g d) (fun l g' d => hw' l g' d g e)]
    refine Eq.trans ?_ (Fin.sum_univ_add (a := 16) (b := 16) (fun l : Fin 32 => ∑ d : Fin 64, (cc ⟨16 * n.val + l.val, by omega⟩ g d + pos l d) * w1 l d e)).symm
    refine congrArg₂ (· + ·) (Finset.sum_congr rfl fun l _ => Finset.sum_congr rfl fun d _ => ?_) (Finset.sum_congr rfl fun l _ => Finset.sum_congr rfl fun d _ => ?_)
    · have h1 : (⟨0 + l.val, by omega⟩ : Fin 32) = Fin.castAdd 16 l := Fin.ext (Nat.zero_add _)
      rw [h1]; rfl
    · have h1 : (⟨16 * ((n.val + 128 - 127) % 128) + l.val, by omega⟩ : Fin 2048) = ⟨16 * n.val + (Fin.natAdd 16 l).val, by have : (Fin.natAdd 16 l).val = 16 + l.val := rfl; omega⟩ := by
        apply Fin.ext
        show 16 * ((n.val + 128 - 127) % 128) + l.val = 16 * n.val + (16 + l.val)
        omega
      rw [h1]; rfl
  unfold cmpr
  rw [sum128]
  have hg : ∀ g' : Fin 2, (∑ e : Fin 64, gelu (hidK x p w p' w' ⟨n.val, by omega⟩ ⟨g'.val * 64 + e.val, by omega⟩) * v (ix2 ⟨g'.val * 64 + e.val, by omega⟩ ⟨g.val * 128 + f.val, by omega⟩))
      = if g' = g then ∑ e : Fin 64, gelu (hid cc pos w1 n g e) * w2 e ⟨f.val % 64, by omega⟩ else 0 := by
    intro g'
    by_cases h : g' = g
    · subst h
      rw [if_pos rfl]
      refine Finset.sum_congr rfl fun e _ => ?_
      rw [hH, hv, if_pos rfl]
    · rw [if_neg h]
      refine Finset.sum_eq_zero fun e _ => ?_
      rw [hv, if_neg (fun e => h (Fin.ext e)), mul_zero]
  have h0 := hg 0
  have h1 := hg 1
  have e0 : ∀ e : Fin 64, (⟨(0 : Fin 2).val * 64 + e.val, by omega⟩ : Fin 128) = ⟨e.val, by omega⟩ := fun e => Fin.ext (by show 0 * 64 + e.val = e.val; omega)
  have e1 : ∀ e : Fin 64, (⟨(1 : Fin 2).val * 64 + e.val, by omega⟩ : Fin 128) = ⟨64 + e.val, by omega⟩ := fun e => Fin.ext (by show 1 * 64 + e.val = 64 + e.val; omega)
  simp only [e0] at h0
  simp only [e1] at h1
  rw [h0, h1]
  fin_cases g
  · exact (add_zero _)
  · exact (zero_add _)

theorem kc_val (c : Dev nD) (t : Fin cfg0.N) (n : Fin 127) (g : Fin 2) (f : Fin 128) :
    kcAt m c t (ix2 ⟨n.val, by omega⟩ ⟨g.val * 128 + f.val, by omega⟩)
      = cmpr (rd4 (A1 m c) (bt t)) (rd2 (A8 m c)) (rd3 (A9 m c)) (rd2 (A10 m c)) n g ⟨f.val % 64, by omega⟩ := by
  unfold kcAt
  rw [blk_8, blk_9, blk_10, blk_14, blk_15, kcT_val]
  exact cmpr_sum _ _ _ _ _ _ _ _ _ _ (fun n l g d => (blk_5 m c t n _).trans (kcr m c (bt t) n l g d)) (fun l g d => pa m c l g d) (fun l g d => pb m c l g d)
    (fun l g d g' e => wak m c l g d g' e) (fun l g d g' e => wbk m c l g d g' e) (fun g e g' f => w2k m c g e g' f) n g f

theorem vc_val (c : Dev nD) (t : Fin cfg0.N) (n : Fin 127) (g : Fin 2) (f : Fin 128) :
    vcAt m c t (ix2 ⟨n.val, by omega⟩ ⟨g.val * 128 + f.val, by omega⟩)
      = cmpr (rd4 (A2 m c) (bt t)) (rd2 (A8 m c)) (rd3 (A11 m c)) (rd2 (A12 m c)) n g ⟨f.val % 64, by omega⟩ := by
  unfold vcAt
  rw [blk_11, blk_12, blk_13, blk_14, blk_15, vcT_val]
  exact cmpr_sum _ _ _ _ _ _ _ _ _ _ (fun n l g d => (blk_6 m c t n _).trans (vcr m c (bt t) n l g d)) (fun l g d => pa m c l g d) (fun l g d => pb m c l g d)
    (fun l g d g' e => wav m c l g d g' e) (fun l g d g' e => wbv m c l g d g' e) (fun g e g' f => w2v m c g e g' f) n g f

end Cert.Proof.Nsa
-- ==== Proof.KOut.lean ====
/- The kernel's output block at a grid point, element by element: the attention. -/
module

public import proofs.«01_k».proof.Proof.KCmp

@[expose] public section

set_option maxRecDepth 16384

noncomputable section

namespace Cert.Proof.Nsa

open Cert.KernelIdeal Cert.KernelIdeal.Gen Idealize.ShloMosaic Idealize.ShloMosaic.TcCoe

variable (m : (ℓ : Loc nD τ sig) → Buf (Elt Ideal) ℓ)

/-- The attention of the arguments of a device. -/
abbrev nsaA (c : Dev nD) (B : Fin 8) (t : Fin 2048) (h : Fin 8) (f : Fin 64) : EReal :=
  nsa (A0 m c) (A1 m c) (A2 m c) (A3 m c) (A4 m c) (A5 m c) (A6 m c) (A7 m c) (A8 m c) (A9 m c) (A10 m c) (A11 m c) (A12 m c) B t h f

/-- The compressed keys of a batch. -/
abbrev kcB (c : Dev nD) (B : Fin 8) : Fin 127 → Fin 2 → Fin 64 → EReal := cmpr (rd4 (A1 m c) B) (rd2 (A8 m c)) (rd3 (A9 m c)) (rd2 (A10 m c))

/-- The compressed values of a batch. -/
abbrev vcB (c : Dev nD) (B : Fin 8) : Fin 127 → Fin 2 → Fin 64 → EReal := cmpr (rd4 (A2 m c) B) (rd2 (A8 m c)) (rd3 (A11 m c)) (rd2 (A12 m c))

theorem ks_eq (t : Fin cfg0.N) : ksK (grid0.coords t) = BitVec.ofNat 32 (128 * (t.val % 16) - 512) := by
  unfold ksK
  rw [v3K_eq]
  have h : ∀ T : Fin 16, Scalar.maxsi (Scalar.subi (BitVec.ofNat 32 (128 * T.val)) 512#32) 0#32 = BitVec.ofNat 32 (128 * T.val - 512) := by decide +kernel
  exact h ⟨t.val % 16, Nat.mod_lt _ (by norm_num)⟩

theorem off1_eq : ∀ t : Fin cfg0.N, k0_off1 (grid0.coords t) = ![0, 128 * (t.val % 16) - 512, 0] :=
  (by decide +kernel : ∀ t : Fin grid0.N, k0_off1 (grid0.coords t) = ![0, 128 * (t.val % 16) - 512, 0])

theorem off2_eq : ∀ t : Fin cfg0.N, k0_off2 (grid0.coords t) = ![0, 128 * (t.val % 16) - 512, 128] :=
  (by decide +kernel : ∀ t : Fin grid0.N, k0_off2 (grid0.coords t) = ![0, 128 * (t.val % 16) - 512, 128])

theorem ld3 {nr : ℕ} (x : Vec Ideal S1x2048x256 .bf16) (off : Fin 3 → ℕ) (inb) (s b : ℕ) (h : off = ![0, s, b]) (n : Fin nr) (l : Fin 128)
    (h1 : s + n.val < 2048) (h2 : b + l.val < 256) :
    View.ld x (Rect.unit (s := S1x2048x256) off ![1, nr, 128] inb) (ix3 0 n l) = x (ix3 0 ⟨s + n.val, h1⟩ ⟨b + l.val, h2⟩) := by
  subst h
  refine View.ld_unit_apply_of x _ _ inb _ _ fun a => ?_
  fin_cases a <;> rfl

theorem ldq (x : Vec Ideal S1x128x512 .bf16) (off : Fin 3 → ℕ) (inb) (b : ℕ) (h : off = ![0, 0, b]) (r l : Fin 128) (h2 : b + l.val < 512) :
    View.ld x (Rect.unit (s := S1x128x512) off ![1, 128, 128] inb) (ix3 0 r l) = x (ix3 0 r ⟨b + l.val, h2⟩) := by
  subst h
  refine View.ld_unit_apply_of x _ _ inb _ _ fun a => ?_
  fin_cases a
  · rfl
  · exact (Nat.zero_add _).symm
  · rfl

theorem ldc (x : Vec Ideal S128x256 .bf16) (off : Fin 2 → ℕ) (inb) (b : ℕ) (h : off = ![0, b]) (n l : Fin 128) (h2 : b + l.val < 256) :
    View.ld x (Rect.unit (s := S128x256) off ![128, 128] inb) (ix2 n l) = x (ix2 n ⟨b + l.val, h2⟩) := by
  subst h
  refine View.ld_unit_apply_of x _ _ inb _ _ fun a => ?_
  fin_cases a
  · exact (Nat.zero_add _).symm
  · rfl

theorem lde {nk : ℕ} (x : Vec Ideal S128x2048 .bf16) (inb) (j : Fin 128) (n : Fin nk) (h2 : n.val < 2048) :
    View.ld x (Rect.unit (s := S128x2048) ![0, 0] ![128, nk] inb) (ix2 j n) = x (ix2 j ⟨n.val, h2⟩) := by
  refine View.ld_unit_apply_of x _ _ inb _ _ fun a => ?_
  fin_cases a
  · exact (Nat.zero_add _).symm
  · exact (Nat.zero_add _).symm

theorem gated_congr {a b d x y z a' b' d' x' y' z' : EReal} (h1 : a = a') (h2 : b = b') (h3 : d = d') (h4 : x = x') (h5 : y = y') (h6 : z = z') :
    gated a b d x y z = gated a' b' d' x' y' z' := by
  rw [h1, h2, h3, h4, h5, h6]

/-- What the queries of a group's pair have in a block. -/
structure Pair (c : Dev nD) (t : Fin cfg0.N) (r : Fin 128) (h h' : Fin 8) (q : Vec Ideal S1x128x128 .bf16) : Prop where
  even : ∀ d : Fin 64, q (ix3 0 r ⟨d.val, by omega⟩) = A0 m c (ix4 (bt t) (tt t r) h d)
  odd : ∀ d : Fin 64, q (ix3 0 r ⟨64 + d.val, by omega⟩) = A0 m c (ix4 (bt t) (tt t r) h' d)

/-- The four query heads of a group. -/
abbrev qG (c : Dev nD) (t : Fin cfg0.N) (r : Fin 128) (g : Fin 2) : Fin 4 → Fin 64 → EReal :=
  fun i => rd4 (A0 m c) (bt t) (tt t r) ⟨g.val * 4 + i.val, by omega⟩

section Head

variable (c : Dev nD) (t : Fin cfg0.N) (r : Fin 128) (g : Fin 2)
  (kc vc : FVec Ideal S128x128 .bf16)
  (hkc : ∀ (n : Fin 127) (l : Fin 128), kc (ix2 ⟨n.val, by omega⟩ l) = kcB m c (bt t) n g ⟨l.val % 64, Nat.mod_lt _ (by norm_num)⟩)
  (hvc : ∀ (n : Fin 127) (l : Fin 128), vc (ix2 ⟨n.val, by omega⟩ l) = vcB m c (bt t) n g ⟨l.val % 64, Nat.mod_lt _ (by norm_num)⟩)
  {nk : ℕ} (K : Keys nk) (hnk : nk ≤ 2048) (hlast : 128 * (t.val % 16) + 128 ≤ nk)
  (ch : FVec Ideal S128x128 .bf16)
  (hch : ∀ j : Fin 128, ch (ix2 r j) = if h : j.val < 32 then (if chosen (rd4 (A0 m c) (bt t)) (kcB m c (bt t)) (tt t r) g ⟨j.val, h⟩ then (1 : EReal) else 0) else 0)
  (e : FVec Ideal ⟨2, ![128, nk]⟩ .bf16) (he : ∀ (j : Fin 128) (k : Fin nk), e (ix2 j k) = if k.val / 64 = j.val then (1 : EReal) else 0)
  (k v : FVec Ideal ⟨3, ![1, nk, 128]⟩ .bf16)
  (hk : ∀ (n : Fin nk) (l : Fin 128), k (ix3 0 n l) = A3 m c (ix4 (bt t) ⟨n.val, by omega⟩ g ⟨l.val % 64, Nat.mod_lt _ (by norm_num)⟩))
  (hv : ∀ (n : Fin nk) (l : Fin 128), v (ix3 0 n l) = A4 m c (ix4 (bt t) ⟨n.val, by omega⟩ g ⟨l.val % 64, Nat.mod_lt _ (by norm_num)⟩))
  (kw vw : Vec Ideal S1x640x128 .bf16)
  (hkw : ∀ (n : Fin 640) (l : Fin 128), kw (ix3 0 n l) = A5 m c (ix4 (bt t) ⟨128 * (t.val % 16) - 512 + n.val, by omega⟩ g ⟨l.val % 64, Nat.mod_lt _ (by norm_num)⟩))
  (hvw : ∀ (n : Fin 640) (l : Fin 128), vw (ix3 0 n l) = A6 m c (ix4 (bt t) ⟨128 * (t.val % 16) - 512 + n.val, by omega⟩ g ⟨l.val % 64, Nat.mod_lt _ (by norm_num)⟩))

include hkc hvc hnk hlast hch he hk hv hkw hvw

/-- One head's output. -/
theorem out_val (h : Fin 8) (hg : grp h = g) {a b d : ℕ} (G : Gates a b d) (ha : a = 3 * h.val + 0) (hb : b = 3 * h.val + 1) (hd : d = 3 * h.val + 2)
    (q : FVec Ideal S128x128 .bf16) (hq : Reads q r (rd4 (A0 m c) (bt t) (tt t r) h)) (l : Fin 128) :
    outK G K (grid0.coords t) (sigK (iblk m c 7 t)) q kc vc ch e k v kw vw (ix2 r l) = nsaA m c (bt t) (tt t r) h ⟨l.val % 64, Nat.mod_lt _ (by norm_num)⟩ := by
  subst ha hb hd
  subst hg
  have hT : t.val % 16 < 16 := Nat.mod_lt _ (by norm_num)
  unfold outK
  rw [head_val G (by omega) (by omega) (by omega),
    cmp_val (t.val % 16) hT _ (v3K_eq t) r l q kc vc _ hq _ _ hkc hvc,
    slc_val (t.val % 16) hT _ (v3K_eq t) r K hnk hlast l ch q (fun j => chosen (rd4 (A0 m c) (bt t)) (kcB m c (bt t)) (tt t r) (grp h) j) hch e he _ hq
      (fun n d => A3 m c (ix4 (bt t) n (grp h) d)) (fun n d => A4 m c (ix4 (bt t) n (grp h) d)) k v hk hv,
    win_val (t.val % 16) hT _ (v3K_eq t) r _ rfl (ks_eq t) l q _ hq
      (fun n d => A5 m c (ix4 (bt t) n (grp h) d)) (fun n d => A6 m c (ix4 (bt t) n (grp h) d)) kw vw hkw hvw,
    blk_7, blk_7, blk_7]
  exact gated_congr (m3_g m c (bt t) (tt t r) h 0) (m3_g m c (bt t) (tt t r) h 1) (m3_g m c (bt t) (tt t r) h 2) rfl rfl rfl

/-- Two heads' outputs beside each other. -/
theorem piece_val (h h' : Fin 8) (hg : grp h = g) (hg' : grp h' = g) {a b d a' b' d' : ℕ} (G : Gates a b d) (G' : Gates a' b' d')
    (ha : a = 3 * h.val + 0) (hb : b = 3 * h.val + 1) (hd : d = 3 * h.val + 2) (ha' : a' = 3 * h'.val + 0) (hb' : b' = 3 * h'.val + 1) (hd' : d' = 3 * h'.val + 2)
    (q : Vec Ideal S1x128x128 .bf16) (hq : Pair m c t r h h' q) (l : Fin 128) :
    pieceK G G' K (grid0.coords t) (iblk m c 7 t) q kc vc ch e k v kw vw (ix3 0 r l)
      = nsaA m c (bt t) (tt t r) (if l.val < 64 then h else h') ⟨l.val % 64, Nat.mod_lt _ (by norm_num)⟩ := by
  unfold pieceK
  rw [pair_val]
  by_cases hl : l.val < 64
  · rw [if_pos hl, if_pos hl]
    exact out_val m c t r g kc vc hkc hvc K hnk hlast ch hch e he k v hk hv kw vw hkw hvw h hg G ha hb hd _ (reads_even q r _ hq.even) l
  · rw [if_neg hl, if_neg hl]
    exact out_val m c t r g kc vc hkc hvc K hnk hlast ch hch e he k v hk hv kw vw hkw hvw h' hg' G' ha' hb' hd' _ (reads_odd q r _ hq.odd) l

end Head

theorem chosen_val (c : Dev nD) (t : Fin cfg0.N) (r : Fin 128) (g : Fin 2) (kc : FVec Ideal S128x128 .bf16)
    (hkc : ∀ (n : Fin 127) (l : Fin 128), kc (ix2 ⟨n.val, by omega⟩ l) = kcB m c (bt t) n g ⟨l.val % 64, Nat.mod_lt _ (by norm_num)⟩)
    (q q' : Vec Ideal S1x128x128 .bf16) (hq : Pair m c t r ⟨g.val * 4 + 0, by omega⟩ ⟨g.val * 4 + 1, by omega⟩ q)
    (hq' : Pair m c t r ⟨g.val * 4 + 2, by omega⟩ ⟨g.val * 4 + 3, by omega⟩ q') (j : Fin 128) :
    pickK (grid0.coords t) (iblk m c 16 t) q q' kc (ix2 r j)
      = if h : j.val < 32 then (if chosen (rd4 (A0 m c) (bt t)) (kcB m c (bt t)) (tt t r) g ⟨j.val, h⟩ then (1 : EReal) else 0) else 0 := by
  unfold pickK
  refine (pick_val (t.val % 16) (Nat.mod_lt _ (by norm_num)) _ (v3K_eq t) r (iblk m c 16 t) ?_ _ _ _ _ kc (qG m c t r g) (reads_even q r _ hq.even) (reads_odd q r _ hq.odd)
    (reads_even q' r _ hq'.even) (reads_odd q' r _ hq'.odd) (fun n => kcB m c (bt t) n g) hkc j).trans ?_
  · intro j n
    rw [blk_16]
    exact mimpV m c j n
  · by_cases h : j.val < 32
    · rw [dif_pos h, dif_pos h]
      rfl
    · rw [dif_neg h, dif_neg h]

theorem pair_blk (c : Dev nD) (t : Fin cfg0.N) (r : Fin 128) (p : ℕ) (off : Fin 3 → ℕ) (inb) (hoff : off = ![0, 0, 128 * p]) (h h' : Fin 8)
    (hh : h.val = 2 * p) (hh' : h'.val = 2 * p + 1) :
    Pair m c t r h h' (View.ld (X0_0 m c t : Vec Ideal S1x128x512 .bf16) (Rect.unit (s := S1x128x512) off ![1, 128, 128] inb)) := by
  constructor
  · intro d
    rw [ldq _ off inb (128 * p) hoff _ _ (by dsimp only; omega), blk_0]
    refine Eq.trans ?_ (a3_q m c (bt t) (tt t r) h d)
    congr 2; apply Fin.ext; dsimp only; omega
  · intro d
    rw [ldq _ off inb (128 * p) hoff _ _ (by dsimp only; omega), blk_0]
    refine Eq.trans ?_ (a3_q m c (bt t) (tt t r) h' d)
    congr 2; apply Fin.ext; dsimp only; omega

section Group

variable (c : Dev nD) (t : Fin cfg0.N)

theorem kc_ld (n : Fin 127) (l : Fin 128) (g : Fin 2) (off : Fin 2 → ℕ) (inb) (hoff : off = ![0, 128 * g.val]) :
    View.ld (kcAt m c t : Vec Ideal S128x256 .bf16) (Rect.unit (s := S128x256) off ![128, 128] inb) (ix2 ⟨n.val, by omega⟩ l) = kcB m c (bt t) n g ⟨l.val % 64, Nat.mod_lt _ (by norm_num)⟩ := by
  rw [ldc _ off inb _ hoff _ _ (by omega)]
  refine Eq.trans ?_ (kc_val m c t n g l)
  congr 2; apply Fin.ext; dsimp only; omega

theorem vc_ld (n : Fin 127) (l : Fin 128) (g : Fin 2) (off : Fin 2 → ℕ) (inb) (hoff : off = ![0, 128 * g.val]) :
    View.ld (vcAt m c t : Vec Ideal S128x256 .bf16) (Rect.unit (s := S128x256) off ![128, 128] inb) (ix2 ⟨n.val, by omega⟩ l) = vcB m c (bt t) n g ⟨l.val % 64, Nat.mod_lt _ (by norm_num)⟩ := by
  rw [ldc _ off inb _ hoff _ _ (by omega)]
  refine Eq.trans ?_ (vc_val m c t n g l)
  congr 2; apply Fin.ext; dsimp only; omega

theorem ks_ld {nr : ℕ} (g : Fin 2) (off : Fin 3 → ℕ) (inb) (s : ℕ) (hoff : off = ![0, s, 128 * g.val]) (n : Fin nr) (l : Fin 128) (h1 : s + n.val < 2048) :
    View.ld (X0_1 m c t : Vec Ideal S1x2048x256 .bf16) (Rect.unit (s := S1x2048x256) off ![1, nr, 128] inb) (ix3 0 n l) = A3 m c (ix4 (bt t) ⟨s + n.val, h1⟩ g ⟨l.val % 64, Nat.mod_lt _ (by norm_num)⟩) := by
  rw [ld3 _ off inb _ _ hoff _ _ h1 (by omega), blk_1]
  refine Eq.trans ?_ (a3_ks m c (bt t) _ g l)
  congr 2; apply Fin.ext; dsimp only; omega

theorem kw_ld {nr : ℕ} (g : Fin 2) (off : Fin 3 → ℕ) (inb) (s : ℕ) (hoff : off = ![0, s, 128 * g.val]) (n : Fin nr) (l : Fin 128) (h1 : s + n.val < 2048) :
    View.ld (X0_2 m c t : Vec Ideal S1x2048x256 .bf16) (Rect.unit (s := S1x2048x256) off ![1, nr, 128] inb) (ix3 0 n l) = A5 m c (ix4 (bt t) ⟨s + n.val, h1⟩ g ⟨l.val % 64, Nat.mod_lt _ (by norm_num)⟩) := by
  rw [ld3 _ off inb _ _ hoff _ _ h1 (by omega), blk_2]
  refine Eq.trans ?_ (a3_kw m c (bt t) _ g l)
  congr 2; apply Fin.ext; dsimp only; omega

theorem vs_ld {nr : ℕ} (g : Fin 2) (off : Fin 3 → ℕ) (inb) (s : ℕ) (hoff : off = ![0, s, 128 * g.val]) (n : Fin nr) (l : Fin 128) (h1 : s + n.val < 2048) :
    View.ld (iblk m c 3 t : Vec Ideal S1x2048x256 .bf16) (Rect.unit (s := S1x2048x256) off ![1, nr, 128] inb) (ix3 0 n l) = A4 m c (ix4 (bt t) ⟨s + n.val, h1⟩ g ⟨l.val % 64, Nat.mod_lt _ (by norm_num)⟩) := by
  rw [ld3 _ off inb _ _ hoff _ _ h1 (by omega), blk_3]
  refine Eq.trans ?_ (v3_vs m c (bt t) _ g l)
  congr 2; apply Fin.ext; dsimp only; omega

theorem vw_ld {nr : ℕ} (g : Fin 2) (off : Fin 3 → ℕ) (inb) (s : ℕ) (hoff : off = ![0, s, 128 * g.val]) (n : Fin nr) (l : Fin 128) (h1 : s + n.val < 2048) :
    View.ld (iblk m c 4 t : Vec Ideal S1x2048x256 .bf16) (Rect.unit (s := S1x2048x256) off ![1, nr, 128] inb) (ix3 0 n l) = A6 m c (ix4 (bt t) ⟨s + n.val, h1⟩ g ⟨l.val % 64, Nat.mod_lt _ (by norm_num)⟩) := by
  rw [ld3 _ off inb _ _ hoff _ _ h1 (by omega), blk_4]
  refine Eq.trans ?_ (v3_vw m c (bt t) _ g l)
  congr 2; apply Fin.ext; dsimp only; omega

variable (r : Fin 128) {nk : ℕ} (K : Keys nk) (hnk : nk ≤ 2048) (hlast : 128 * (t.val % 16) + 128 ≤ nk)

include hnk in
theorem e_ld (inb) (j : Fin 128) (k : Fin nk) :
    View.ld (iblk m c 17 t : Vec Ideal S128x2048 .bf16) (Rect.unit (s := S128x2048) ![0, 0] ![128, nk] inb) (ix2 j k) = if k.val / 64 = j.val then (1 : EReal) else 0 := by
  rw [lde _ inb j k (by omega), blk_17]
  exact eexpV m c j _

include hnk hlast

/-- A group's two heads in the block, each operand read at its offset. -/
theorem group_val (g : Fin 2) (p : ℕ) (hp : p = 2 * g.val ∨ p = 2 * g.val + 1) (h h' : Fin 8) (hh : h.val = 2 * p) (hh' : h'.val = 2 * p + 1)
    {a b d a' b' d' : ℕ} (G : Gates a b d) (G' : Gates a' b' d')
    (ha : a = 3 * h.val + 0) (hb : b = 3 * h.val + 1) (hd : d = 3 * h.val + 2) (ha' : a' = 3 * h'.val + 0) (hb' : b' = 3 * h'.val + 1) (hd' : d' = 3 * h'.val + 2)
    (oq oq0 oq1 : Fin 3 → ℕ) (iq iq0 iq1) (hoq : oq = ![0, 0, 128 * p]) (hoq0 : oq0 = ![0, 0, 128 * (2 * g.val)]) (hoq1 : oq1 = ![0, 0, 128 * (2 * g.val + 1)])
    (oc : Fin 2 → ℕ) (ic) (hoc : oc = ![0, 128 * g.val]) (os : Fin 3 → ℕ) (is) (hos : os = ![0, 0, 128 * g.val])
    (ow : Fin 3 → ℕ) (iw) (how : ow = ![0, 128 * (t.val % 16) - 512, 128 * g.val]) (ie) (l : Fin 128) :
    pieceK G G' K (grid0.coords t) (iblk m c 7 t) (View.ld (X0_0 m c t : Vec Ideal S1x128x512 .bf16) (Rect.unit (s := S1x128x512) oq ![1, 128, 128] iq))
        (View.ld (kcAt m c t : Vec Ideal S128x256 .bf16) (Rect.unit (s := S128x256) oc ![128, 128] ic))
        (View.ld (vcAt m c t : Vec Ideal S128x256 .bf16) (Rect.unit (s := S128x256) oc ![128, 128] ic))
        (pickK (grid0.coords t) (iblk m c 16 t) (View.ld (X0_0 m c t : Vec Ideal S1x128x512 .bf16) (Rect.unit (s := S1x128x512) oq0 ![1, 128, 128] iq0))
          (View.ld (X0_0 m c t : Vec Ideal S1x128x512 .bf16) (Rect.unit (s := S1x128x512) oq1 ![1, 128, 128] iq1))
          (View.ld (kcAt m c t : Vec Ideal S128x256 .bf16) (Rect.unit (s := S128x256) oc ![128, 128] ic)))
        (View.ld (iblk m c 17 t : Vec Ideal S128x2048 .bf16) (Rect.unit (s := S128x2048) ![0, 0] ![128, nk] ie))
        (View.ld (X0_1 m c t : Vec Ideal S1x2048x256 .bf16) (Rect.unit (s := S1x2048x256) os ![1, nk, 128] is))
        (View.ld (iblk m c 3 t : Vec Ideal S1x2048x256 .bf16) (Rect.unit (s := S1x2048x256) os ![1, nk, 128] is))
        (View.ld (X0_2 m c t : Vec Ideal S1x2048x256 .bf16) (Rect.unit (s := S1x2048x256) ow ![1, 640, 128] iw))
        (View.ld (iblk m c 4 t : Vec Ideal S1x2048x256 .bf16) (Rect.unit (s := S1x2048x256) ow ![1, 640, 128] iw)) (ix3 0 r l)
      = nsaA m c (bt t) (tt t r) (if l.val < 64 then h else h') ⟨l.val % 64, Nat.mod_lt _ (by norm_num)⟩ := by
  refine piece_val m c t r g _ _ (fun n l => kc_ld m c t n l g oc ic hoc) (fun n l => vc_ld m c t n l g oc ic hoc) K hnk hlast _
    (chosen_val m c t r g _ (fun n l => kc_ld m c t n l g oc ic hoc) _ _
      (pair_blk m c t r (2 * g.val) oq0 iq0 hoq0 _ _ (by dsimp only; omega) (by dsimp only; omega))
      (pair_blk m c t r (2 * g.val + 1) oq1 iq1 hoq1 _ _ (by dsimp only; omega) (by dsimp only; omega)))
    _ (e_ld m c t hnk ie) _ _ ?_ ?_ _ _ ?_ ?_ h h' ?_ ?_ G G' ha hb hd ha' hb' hd' _ (pair_blk m c t r p oq iq hoq _ _ hh hh') l
  · intro n l
    rw [ks_ld m c t g os is 0 hos n l (by omega)]
    congr 2; apply Fin.ext; dsimp only; omega
  · intro n l
    rw [vs_ld m c t g os is 0 hos n l (by omega)]
    congr 2; apply Fin.ext; dsimp only; omega
  · intro n l
    exact kw_ld m c t g ow iw _ how n l (by omega)
  · intro n l
    exact vw_ld m c t g ow iw _ how n l (by omega)
  · apply Fin.ext; unfold grp; dsimp only; omega
  · apply Fin.ext; unfold grp; dsimp only; omega

omit hnk hlast in
theorem idx_of (x : S1x128x128.Idx) (r : Fin 128) (h : (x 1).val = r.val) : x = ix3 0 r (x 2) := by
  funext a
  fin_cases a
  · exact Fin.ext (Nat.lt_one_iff.mp (x 0).isLt)
  · exact Fin.ext h
  · rfl

omit hnk hlast in
theorem nsaA_congr (B : Fin 8) (q : Fin 2048) {h h' : Fin 8} {f f' : Fin 64} (e : h.val = h'.val) (e' : f.val = f'.val) : nsaA m c B q h f = nsaA m c B q h' f' := by
  rw [Fin.ext e, Fin.ext e']

/-- The whole output block, once the compressed keys and values are the batch's. -/
theorem outAt_val (cc : Fin 512) :
    outAt m K c t (kcAt m c t) (vcAt m c t) (ix3 0 r cc) = nsaA m c (bt t) (tt t r) ⟨cc.val / 64, by omega⟩ ⟨cc.val % 64, Nat.mod_lt _ (by norm_num)⟩ := by
  unfold outAt outVec
  have hr : ∀ y : S1x128x512.Idx, y = ix3 0 r cc → (y 1).val = r.val ∧ (y 2).val = cc.val := by
    intro y h; subst h; exact ⟨rfl, rfl⟩
  generalize hy : (ix3 0 r cc : S1x128x512.Idx) = y
  obtain ⟨y1, y2⟩ := hr y hy.symm
  clear hr hy
  canon_tiles x h
  · rw [idx_of x r (h1.symm.trans y1)]
    refine (group_val m c t r K hnk hlast 1 3 (by decide) 6 7 rfl rfl gates6 gates7 rfl rfl rfl rfl rfl rfl _ _ _ _ _ _ rfl rfl rfl _ _ rfl _ _ rfl _ _ (off2_eq t) _ _).trans ?_
    have e : cc.val = 384 + (x 2).val := y2.symm.trans (h2.trans (by omega))
    refine nsaA_congr m c _ _ ?_ (by dsimp only; omega)
    split
    · show 6 = cc.val / 64
      omega
    · show 7 = cc.val / 64
      omega
  · rw [idx_of x r (h1.symm.trans y1)]
    refine (group_val m c t r K hnk hlast 1 2 (by decide) 4 5 rfl rfl gates4 gates5 rfl rfl rfl rfl rfl rfl _ _ _ _ _ _ rfl rfl rfl _ _ rfl _ _ rfl _ _ (off2_eq t) _ _).trans ?_
    have e : cc.val = 256 + (x 2).val := y2.symm.trans (h2.trans (by omega))
    refine nsaA_congr m c _ _ ?_ (by dsimp only; omega)
    split
    · show 4 = cc.val / 64
      omega
    · show 5 = cc.val / 64
      omega
  · rw [idx_of x r (h1.symm.trans y1)]
    refine (group_val m c t r K hnk hlast 0 1 (by decide) 2 3 rfl rfl gates2 gates3 rfl rfl rfl rfl rfl rfl _ _ _ _ _ _ rfl rfl rfl _ _ rfl _ _ rfl _ _ (off1_eq t) _ _).trans ?_
    have e : cc.val = 128 + (x 2).val := y2.symm.trans (h2.trans (by omega))
    refine nsaA_congr m c _ _ ?_ (by dsimp only; omega)
    split
    · show 2 = cc.val / 64
      omega
    · show 3 = cc.val / 64
      omega
  · rw [idx_of x r (h1.symm.trans y1)]
    refine (group_val m c t r K hnk hlast 0 0 (by decide) 0 1 rfl rfl gates0 gates1 rfl rfl rfl rfl rfl rfl _ _ _ _ _ _ rfl rfl rfl _ _ rfl _ _ rfl _ _ (off1_eq t) _ _).trans ?_
    have e : cc.val = 0 + (x 2).val := y2.symm.trans (h2.trans (by omega))
    refine nsaA_congr m c _ _ ?_ (by dsimp only; omega)
    split
    · show 0 = cc.val / 64
      omega
    · show 1 = cc.val / 64
      omega

end Group

end Cert.Proof.Nsa
-- ==== Proof.KRun.lean ====
/- The sweep over the grid: the compressed keys and values carried through a batch, and the result array. -/
module

public import proofs.«01_k».proof.Proof.KOut
public import proofs.«01_k».proof.Proof.Gen.KernelIdeal.Value

@[expose] public section

set_option maxRecDepth 16384

noncomputable section

namespace Cert.Proof.Nsa

open Cert.KernelIdeal Cert.KernelIdeal.Gen Idealize.ShloMosaic Idealize.ShloMosaic.TcCoe

variable (m : (ℓ : Loc nD τ sig) → Buf (Elt Ideal) ℓ)

/-- Two points of one batch read the same compressed keys. -/
theorem kc_same (c : Dev nD) (t t' : Fin cfg0.N) (h : bt t = bt t') : kcAt m c t = kcAt m c t' := by
  have e5 : (iblk m c 5 t : Vec Ideal S1x128x2048 .f32) = iblk m c 5 t' := by
    funext y
    rw [← ix3_eta y]
    obtain ⟨y0, hy⟩ : ∃ a, a = y 0 := ⟨_, rfl⟩
    fin_cases y0
    rw [← hy]
    exact (blk_5 m c t _ _).trans ((congrArg (fun B => V m c main_v131 (ix3 B _ _)) h).trans (blk_5 m c t' _ _).symm)
  unfold kcAt
  rw [e5, blk_8, blk_9, blk_10, blk_14, blk_15, blk_8, blk_9, blk_10, blk_14, blk_15]

/-- Two points of one batch read the same compressed values. -/
theorem vc_same (c : Dev nD) (t t' : Fin cfg0.N) (h : bt t = bt t') : vcAt m c t = vcAt m c t' := by
  have e6 : (iblk m c 6 t : Vec Ideal S1x128x2048 .f32) = iblk m c 6 t' := by
    funext y
    rw [← ix3_eta y]
    obtain ⟨y0, hy⟩ : ∃ a, a = y 0 := ⟨_, rfl⟩
    fin_cases y0
    rw [← hy]
    exact (blk_6 m c t _ _).trans ((congrArg (fun B => V m c main_v132 (ix3 B _ _)) h).trans (blk_6 m c t' _ _).symm)
  unfold vcAt
  rw [e6, blk_11, blk_12, blk_13, blk_14, blk_15, blk_11, blk_12, blk_13, blk_14, blk_15]

/-- Past the first point of a batch the carried arrays stay. -/
theorem keep (c : Dev nD) (t : Fin cfg0.N) (h : t.val % 16 ≠ 0) :
    (outsAt0 (F := Ideal) m c t.val t.isLt).2 = (outsAt0 (F := Ideal) m c (t.val - 1) (by omega)).2 := by
  by_cases h1 : t.val % 16 = 1
  · exact keep_B m c t h1
  by_cases h2 : t.val % 16 ≤ 3
  · exact keep_C m c t ⟨by omega, by omega⟩
  by_cases h3 : t.val % 16 ≤ 5
  · exact keep_D m c t ⟨by omega, by omega⟩
  by_cases h4 : t.val % 16 ≤ 7
  · exact keep_E m c t ⟨by omega, by omega⟩
  by_cases h5 : t.val % 16 ≤ 9
  · exact keep_F m c t ⟨by omega, by omega⟩
  by_cases h6 : t.val % 16 ≤ 11
  · exact keep_G m c t ⟨by omega, by omega⟩
  by_cases h7 : t.val % 16 ≤ 13
  · exact keep_H m c t ⟨by omega, by omega⟩
  · exact keep_I m c t ⟨by omega, by omega⟩

/-- What the carried arrays hold after each point: the batch's compressed keys and values. -/
theorem carried (c : Dev nD) : ∀ (n : ℕ) (hn : n < cfg0.N),
    (outsAt0 (F := Ideal) m c n hn).2.1 = kcAt m c ⟨n, hn⟩ ∧ (outsAt0 (F := Ideal) m c n hn).2.2 = vcAt m c ⟨n, hn⟩ := by
  intro n
  induction n with
  | zero => exact fun hn => ⟨kc_A m c ⟨0, hn⟩ rfl, vc_A m c ⟨0, hn⟩ rfl⟩
  | succ n ih =>
    intro hn
    by_cases h : (n + 1) % 16 = 0
    · exact ⟨kc_A m c ⟨n + 1, hn⟩ h, vc_A m c ⟨n + 1, hn⟩ h⟩
    · have hb : bt (⟨n, Nat.lt_of_succ_lt hn⟩ : Fin cfg0.N) = bt ⟨n + 1, hn⟩ := by
        apply Fin.ext
        unfold bt
        dsimp only
        omega
      have hk := keep m c ⟨n + 1, hn⟩ h
      have hi := ih (Nat.lt_of_succ_lt hn)
      refine ⟨?_, ?_⟩
      · exact (congrArg Prod.fst hk).trans (hi.1.trans (kc_same m c _ _ hb))
      · exact (congrArg Prod.snd hk).trans (hi.2.trans (vc_same m c _ _ hb))

/-- What the point before left, read at a point past the first of its batch. -/
theorem carried_in (c : Dev nD) (t : Fin cfg0.N) (h : t.val % 16 ≠ 0) :
    (outsAt0 (F := Ideal) m c (t.val - 1) (by omega)).2.1 = kcAt m c t ∧ (outsAt0 (F := Ideal) m c (t.val - 1) (by omega)).2.2 = vcAt m c t := by
  have hk := keep m c t h
  have hi := carried m c t.val t.isLt
  exact ⟨(congrArg Prod.fst hk).symm.trans hi.1, (congrArg Prod.snd hk).symm.trans hi.2⟩

/-- The output block at every point. -/
theorem out_point (c : Dev nD) (t : Fin cfg0.N) (r : Fin 128) (cc : Fin 512) :
    (outsAt0 (F := Ideal) m c t.val t.isLt).1 (ix3 0 r cc) = nsaA m c (bt t) (tt t r) ⟨cc.val / 64, by omega⟩ ⟨cc.val % 64, Nat.mod_lt _ (by norm_num)⟩ := by
  by_cases h0 : t.val % 16 = 0
  · rw [out_A m c t h0]
    exact outAt_val m c t r keys256 (by omega) (by omega) cc
  obtain ⟨ek, ev⟩ := carried_in m c t h0
  by_cases h1 : t.val % 16 = 1
  · rw [out_B m c t h1, ek, ev]
    exact outAt_val m c t r keys256 (by omega) (by omega) cc
  by_cases h2 : t.val % 16 ≤ 3
  · rw [out_C m c t ⟨by omega, by omega⟩, ek, ev]
    exact outAt_val m c t r keys512 (by omega) (by omega) cc
  by_cases h3 : t.val % 16 ≤ 5
  · rw [out_D m c t ⟨by omega, by omega⟩, ek, ev]
    exact outAt_val m c t r keys768 (by omega) (by omega) cc
  by_cases h4 : t.val % 16 ≤ 7
  · rw [out_E m c t ⟨by omega, by omega⟩, ek, ev]
    exact outAt_val m c t r keys1024 (by omega) (by omega) cc
  by_cases h5 : t.val % 16 ≤ 9
  · rw [out_F m c t ⟨by omega, by omega⟩, ek, ev]
    exact outAt_val m c t r keys1280 (by omega) (by omega) cc
  by_cases h6 : t.val % 16 ≤ 11
  · rw [out_G m c t ⟨by omega, by omega⟩, ek, ev]
    exact outAt_val m c t r keys1536 (by omega) (by omega) cc
  by_cases h7 : t.val % 16 ≤ 13
  · rw [out_H m c t ⟨by omega, by omega⟩, ek, ev]
    exact outAt_val m c t r keys1792 (by omega) (by omega) cc
  · rw [out_I m c t ⟨by omega, by omega⟩, ek, ev]
    exact outAt_val m c t r keys2048 (by omega) (by omega) cc

/-- The result array, element by element: the attention of the arguments. -/
theorem result (c : Dev nD) (B : Fin 8) (q : Fin 2048) (cc : Fin 512) :
    (Cert.KernelIdeal.Value.G18 m c : Vec Ideal S8x2048x512 .bf16) (ix3 B q cc) = nsaA m c B q ⟨cc.val / 64, by omega⟩ ⟨cc.val % 64, Nat.mod_lt _ (by norm_num)⟩ := by
  have hN : cfg0.N = 128 := N_0
  have hp : Cert.KernelIdeal.Value.pt18Of (ix3 B q cc) = 16 * B.val + q.val / 128 := by
    show 16 * (B.val / 1 - 0) + 1 * (q.val / 128 - 0) + 1 * (cc.val / 512 - 0) = 16 * B.val + q.val / 128
    omega
  have hl : Cert.KernelIdeal.Value.loc18Of (ix3 B q cc) = ix3 0 ⟨q.val % 128, by omega⟩ cc := by
    funext a
    fin_cases a
    · exact Fin.ext (Nat.mod_one _)
    · rfl
    · exact Fin.ext (Nat.mod_eq_of_lt cc.isLt)
  have hlt : Cert.KernelIdeal.Value.pt18Of (ix3 B q cc) < cfg0.N := by rw [hp, hN]; omega
  unfold Cert.KernelIdeal.Value.G18
  rw [dif_pos hlt, ← Cert.KernelIdeal.Value.outsAt0_sweep m c _ hlt, hl]
  refine (out_point m c ⟨_, hlt⟩ ⟨q.val % 128, by omega⟩ cc).trans ?_
  have eb : bt (⟨Cert.KernelIdeal.Value.pt18Of (ix3 B q cc), hlt⟩ : Fin cfg0.N) = B := by
    apply Fin.ext
    unfold bt
    dsimp only
    rw [hp]
    omega
  have et : tt (⟨Cert.KernelIdeal.Value.pt18Of (ix3 B q cc), hlt⟩ : Fin cfg0.N) ⟨q.val % 128, by omega⟩ = q := by
    apply Fin.ext
    unfold tt
    dsimp only
    rw [hp]
    omega
  rw [eb, et]

end Cert.Proof.Nsa
-- ==== Proof.MSpec.lean ====
/- What the merge computes for one row: the gates of the modulated normalized row, the gated sum of the two branches, the
   residual, and the second modulated norm. -/
module

public import Idealize.ShloMosaic.PureOps.Ideal
public import Idealize.ShloMosaic.Lib.Pointwise

@[expose] public section

noncomputable section

namespace Cert.Proof.Merge

open Idealize.ShloMosaic

/-- The rows of an array. -/
abbrev row1 {a : ℕ} (x : (⟨1, ![a]⟩ : Shape).Idx → EReal) (i : Fin a) : EReal := x (ix1 i)
abbrev row2 {a b : ℕ} (x : (⟨2, ![a, b]⟩ : Shape).Idx → EReal) (i : Fin a) (j : Fin b) : EReal := x (ix2 i j)
abbrev row3 {a b c : ℕ} (x : (⟨3, ![a, b, c]⟩ : Shape).Idx → EReal) (i : Fin a) (j : Fin b) (k : Fin c) : EReal := x (ix3 i j k)

/-- The root mean square norm of a row, scaled by `g`, modulated by `sc` and `sh`. -/
def modn (x g sc sh : Fin 1024 → EReal) (j : Fin 1024) : EReal :=
  x j * Ideal.rsqrt (Ideal.div (∑ k, x k * x k) (Ideal.ofBits .f32 0x44800000#32) + Ideal.ofBits .f32 0x358637BD#32) * g j * (1 + sc j) + sh j

/-- The logit of a gate. -/
def gate (x g sc sh : Fin 1024 → EReal) (w : Fin 1024 → Fin 2048 → EReal) (j : Fin 2048) : EReal :=
  ∑ k, modn x g sc sh k * w k j

/-- The gated sum of the two branches. -/
def mix (u : Fin 2048 → EReal) (a b : Fin 512 → EReal) (wa wb : Fin 512 → Fin 1024 → EReal) (j : Fin 1024) : EReal :=
  Ideal.logistic (u ⟨j.val, by omega⟩) * ∑ d, a d * wa d j + Ideal.logistic (u ⟨1024 + j.val, by omega⟩) * ∑ d, b d * wb d j

/-- The residual row: the input plus the gated output projection. -/
def resid (x g1 : Fin 1024 → EReal) (y : Fin 1024 → EReal) (wo : Fin 1024 → Fin 1024 → EReal) (j : Fin 1024) : EReal :=
  x j + g1 j * ∑ k, y k * wo k j

/-- The first result, one row. -/
def out1 (a b : Fin 512 → EReal) (x n1 sc1 sh1 g1 : Fin 1024 → EReal) (wg : Fin 1024 → Fin 2048 → EReal)
    (wa wb : Fin 512 → Fin 1024 → EReal) (wo : Fin 1024 → Fin 1024 → EReal) : Fin 1024 → EReal :=
  resid x g1 (mix (gate x n1 sc1 sh1 wg) a b wa wb) wo

end Cert.Proof.Merge
-- ==== Proof.MRef.lean ====
/- The merge's reference, read at an index. -/
module

public import proofs.«01_k».proof.Proof.MSpec
public import proofs.«01_k».proof.Proof.Gen.Reference2Ideal.Read

@[expose] public section

set_option maxRecDepth 16384

noncomputable section

namespace Cert.Proof.Merge

open Idealize.ShloMosaic
open Cert.Reference2Ideal.Read Cert.Reference2Ideal

theorem ref_norm (x2 x3 x4 x5) (B : Fin 8) (t : Fin 2048) (j : Fin 1024) :
    val_main_v18 (F := Ideal) x2 x3 x4 x5 (ix3 B t j) = modn (row3 x2 B t) (row1 x3) (row3 x5 B 0) (row3 x4 B 0) j := by
  unfold modn
  pointwise [val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]

theorem ref_gate (x2 x3 x4 x5 x10) (B : Fin 8) (t : Fin 2048) (j : Fin 2048) :
    val_main_v19 (F := Ideal) x2 x3 x4 x5 x10 (ix3 B t j) = gate (row3 x2 B t) (row1 x3) (row3 x5 B 0) (row3 x4 B 0) (row2 x10) j := by
  unfold gate
  simp only [← ref_norm]
  unfold val_main_v19
  generalize val_main_v18 (F := Ideal) x2 x3 x4 x5 = y
  pointwise

theorem ref_mix (x0 x1 x2 x3 x4 x5 x10 x11 x12) (B : Fin 8) (t : Fin 2048) (j : Fin 1024) :
    val_main_v38 (F := Ideal) x0 x1 x2 x3 x4 x5 x10 x11 x12 (ix3 B t j)
      = mix (gate (row3 x2 B t) (row1 x3) (row3 x5 B 0) (row3 x4 B 0) (row2 x10)) (row3 x0 B t) (row3 x1 B t) (row2 x11) (row2 x12) j := by
  unfold mix Ideal.logistic
  simp only [← ref_gate]
  unfold val_main_v38 val_main_v37 val_main_v36 val_main_v35 val_main_v33 val_main_v31 val_main_v30 val_main_v29 val_main_v28 val_main_v27 val_main_v25 val_main_v23 val_main_v22 val_main_v21 val_main_v20
  generalize val_main_v19 (F := Ideal) x2 x3 x4 x5 x10 = y
  pointwise [val_main_v34, val_main_v32, val_main_v26, val_main_v24, val_main_cst_3, val_main_cst_4, val_main_cst_5, val_main_cst_6]

theorem ref_x1 (x0 x1 x2 x3 x4 x5 x6 x10 x11 x12 x13) (B : Fin 8) (t : Fin 2048) (j : Fin 1024) :
    val_main_v42 (F := Ideal) x0 x1 x2 x3 x4 x5 x6 x10 x11 x12 x13 (ix3 B t j)
      = out1 (row3 x0 B t) (row3 x1 B t) (row3 x2 B t) (row1 x3) (row3 x5 B 0) (row3 x4 B 0) (row3 x6 B 0) (row2 x10) (row2 x11) (row2 x12) (row2 x13) j := by
  unfold out1 resid
  simp only [← ref_mix]
  unfold val_main_v42 val_main_v41 val_main_v40 val_main_v39
  generalize val_main_v38 (F := Ideal) x0 x1 x2 x3 x4 x5 x10 x11 x12 = y
  pointwise

theorem ref_h2 (x0 x1 x2 x3 x4 x5 x6 x7 x8 x9 x10 x11 x12 x13) (B : Fin 8) (t : Fin 2048) (j : Fin 1024) :
    val_main_v61 (F := Ideal) x0 x1 x2 x3 x4 x5 x6 x7 x8 x9 x10 x11 x12 x13 (ix3 B t j)
      = modn (out1 (row3 x0 B t) (row3 x1 B t) (row3 x2 B t) (row1 x3) (row3 x5 B 0) (row3 x4 B 0) (row3 x6 B 0) (row2 x10) (row2 x11) (row2 x12) (row2 x13))
          (row1 x9) (row3 x8 B 0) (row3 x7 B 0) j := by
  unfold modn
  simp only [← ref_x1]
  unfold val_main_v61 val_main_v59 val_main_v55 val_main_v52 val_main_v51 val_main_v50 val_main_v49 val_main_v47 val_main_v45 val_main_v44 val_main_v43
  generalize val_main_v42 (F := Ideal) x0 x1 x2 x3 x4 x5 x6 x10 x11 x12 x13 = y
  pointwise [val_main_v60, val_main_v58, val_main_v57, val_main_v56, val_main_cst_10, val_main_v54, val_main_v53, val_main_v48, val_main_cst_9, val_main_v46, val_main_cst_8, val_main_cst_7]

/-- The index of a row of the flattened arrays. -/
theorem flat (R : Fin 16384) (j : Fin 1024) : idx_main_v62 (ix2 R j) = ix3 ⟨R.val / 2048, by omega⟩ ⟨R.val % 2048, Nat.mod_lt _ (by norm_num)⟩ j := by
  funext a
  apply Fin.ext
  fin_cases a
  · show (R.val * 1024 + j.val) / 2097152 = R.val / 2048
    omega
  · show (R.val * 1024 + j.val) / 1024 % 2048 = R.val % 2048
    omega
  · show (R.val * 1024 + j.val) % 1024 = j.val
    omega

theorem ref_out1 (x0 x1 x2 x3 x4 x5 x6 x10 x11 x12 x13) (R : Fin 16384) (j : Fin 1024) (B : Fin 8) (t : Fin 2048) (h : R.val = 2048 * B.val + t.val) :
    val_main_v62 (F := Ideal) x0 x1 x2 x3 x4 x5 x6 x10 x11 x12 x13 (ix2 R j)
      = out1 (row3 x0 B t) (row3 x1 B t) (row3 x2 B t) (row1 x3) (row3 x5 B 0) (row3 x4 B 0) (row3 x6 B 0) (row2 x10) (row2 x11) (row2 x12) (row2 x13) j := by
  rw [val_main_v62_apply, flat, ← ref_x1]
  congr 2 <;> apply Fin.ext <;> dsimp only <;> omega

theorem ref_out2 (x0 x1 x2 x3 x4 x5 x6 x7 x8 x9 x10 x11 x12 x13) (R : Fin 16384) (j : Fin 1024) (B : Fin 8) (t : Fin 2048) (h : R.val = 2048 * B.val + t.val) :
    val_main_v64 (F := Ideal) x0 x1 x2 x3 x4 x5 x6 x7 x8 x9 x10 x11 x12 x13 (ix2 R j)
      = modn (out1 (row3 x0 B t) (row3 x1 B t) (row3 x2 B t) (row1 x3) (row3 x5 B 0) (row3 x4 B 0) (row3 x6 B 0) (row2 x10) (row2 x11) (row2 x12) (row2 x13))
          (row1 x9) (row3 x8 B 0) (row3 x7 B 0) j := by
  rw [val_main_v64_apply, val_main_v63_apply, ← ref_h2]
  show val_main_v61 (F := Ideal) x0 x1 x2 x3 x4 x5 x6 x7 x8 x9 x10 x11 x12 x13 (idx_main_v62 (ix2 R j)) = _
  rw [flat]
  congr 2 <;> apply Fin.ext <;> dsimp only <;> omega

end Cert.Proof.Merge
-- ==== Proof.MBody.lean ====
/- The body of the merge, read at a row and a column. -/
module

public import proofs.«01_k».proof.Proof.MSpec
public import proofs.«01_k».proof.Proof.Gen.Kernel2Ideal.Frame

@[expose] public section

set_option maxRecDepth 16384

noncomputable section

namespace Cert.Proof.Merge

open Cert.Kernel2Ideal Cert.Kernel2Ideal.Gen Idealize.ShloMosaic Idealize.ShloMosaic.TcCoe

theorem pay2_val (x : Vec Ideal S512x1024 .f32) (n : Vec Ideal S1x1024 .f32) (sc sh : Vec Ideal S1x1x1024 .f32) (w : Vec Ideal S1024x2048 .bf16)
    (r : Fin 512) (j : Fin 2048) :
    k0_pay2 x n sc sh w (ix2 r j) = gate (row2 x r) (row2 n 0) (row3 sc 0 0) (row3 sh 0 0) (row2 w) j := by
  unfold k0_pay2 gate modn
  pointwise

theorem pay4_val (a : Vec Ideal S512x512 .bf16) (w : Vec Ideal S512x1024 .bf16) (r : Fin 512) (j : Fin 1024) :
    k0_pay4 a w (ix2 r j) = ∑ d, row2 a r d * row2 w d j := by
  unfold k0_pay4
  pointwise

theorem pay3_val (x : Vec Ideal S512x1024 .f32) (n : Vec Ideal S1x1024 .f32) (sc sh : Vec Ideal S1x1x1024 .f32) (w : Vec Ideal S1024x2048 .bf16)
    (r : Fin 512) (j : Fin 1024) :
    k0_pay3 x n sc sh w (ix2 r j) = Ideal.logistic (k0_pay2 x n sc sh w (ix2 r ⟨j.val, by omega⟩)) := by
  unfold k0_pay3
  generalize k0_pay2 x n sc sh w = y
  pointwise

theorem pay5_val (u : FVec Ideal S512x2048 .f32) (l p : FVec Ideal S512x1024 .f32) (b : Vec Ideal S512x512 .bf16) (wb : Vec Ideal S512x1024 .bf16)
    (x : Vec Ideal S512x1024 .f32) (g1 : Vec Ideal S1x1x1024 .f32) (wo : Vec Ideal S1024x1024 .bf16) (r : Fin 512) (j : Fin 1024) :
    k0_pay5 u l p b wb x g1 wo (ix2 r j) = resid (row2 x r) (row3 g1 0 0)
      (fun k => l (ix2 r k) * p (ix2 r k) + Ideal.logistic (u (ix2 r ⟨1024 + k.val, by omega⟩)) * ∑ d, row2 b r d * row2 wb d k) (row2 wo) j := by
  unfold k0_pay5 resid
  pointwise

theorem x1_val (a b : Vec Ideal S512x512 .bf16) (x : Vec Ideal S512x1024 .f32) (n1 : Vec Ideal S1x1024 .f32) (sc1 sh1 g1 : Vec Ideal S1x1x1024 .f32)
    (wg : Vec Ideal S1024x2048 .bf16) (wa wb : Vec Ideal S512x1024 .bf16) (wo : Vec Ideal S1024x1024 .bf16) (r : Fin 512) (j : Fin 1024) :
    k0_pay5 (k0_pay2 x n1 sc1 sh1 wg) (k0_pay3 x n1 sc1 sh1 wg) (k0_pay4 a wa) b wb x g1 wo (ix2 r j)
      = out1 (row2 a r) (row2 b r) (row2 x r) (row2 n1 0) (row3 sc1 0 0) (row3 sh1 0 0) (row3 g1 0 0) (row2 wg) (row2 wa) (row2 wb) (row2 wo) j := by
  rw [pay5_val]
  unfold out1 mix
  simp only [pay3_val, pay2_val, pay4_val]

theorem h2_val (u : FVec Ideal S512x2048 .f32) (l p : FVec Ideal S512x1024 .f32) (b : Vec Ideal S512x512 .bf16) (wb : Vec Ideal S512x1024 .bf16)
    (x : Vec Ideal S512x1024 .f32) (g1 : Vec Ideal S1x1x1024 .f32) (wo : Vec Ideal S1024x1024 .bf16) (n2 : Vec Ideal S1x1024 .f32)
    (sc2 sh2 : Vec Ideal S1x1x1024 .f32) (r : Fin 512) (j : Fin 1024) :
    k0_pay1 (k0_pay6 u l p b wb x g1 wo n2) sc2 sh2 (ix2 r j)
      = modn (fun k => k0_pay5 u l p b wb x g1 wo (ix2 r k)) (row2 n2 0) (row3 sc2 0 0) (row3 sh2 0 0) j := by
  unfold k0_pay1 k0_pay6 modn
  generalize k0_pay5 u l p b wb x g1 wo = y
  pointwise

end Cert.Proof.Merge
-- ==== Proof.MBlk.lean ====
/- The blocks that the merge's body reads at a grid point, as parts of the arguments. -/
module

public import proofs.«01_k».proof.Proof.MBody
public import Idealize.ShloMosaic.Lib.Pipeline.ReadBack
public import Idealize.ShloMosaic.Lib.Pipeline.ValueKit
public import Idealize.ShloMosaic.Lib.Claim
public import Idealize.ShloMosaic.Lib.StableHlo.RunRead
public import Idealize.ShloMosaic.Lib.Tactic.CleanTypes

@[expose] public section

set_option maxRecDepth 16384

noncomputable section

namespace Cert.Proof.Merge

open Cert.Kernel2Ideal Cert.Kernel2Ideal.Gen Idealize.ShloMosaic Idealize.ShloMosaic.TcCoe

variable (m : (ℓ : Loc nD τ sig) → Buf (Elt Ideal) ℓ)

/-- The arguments of a device. -/
abbrev B0 (c : Dev nD) : FVec Ideal S8x2048x512 .f32 := m ((c : Thread nD τ).loc main_arg0)
abbrev B1 (c : Dev nD) : FVec Ideal S8x2048x512 .f32 := m ((c : Thread nD τ).loc main_arg1)
abbrev B2 (c : Dev nD) : FVec Ideal S8x2048x1024 .f32 := m ((c : Thread nD τ).loc main_arg2)
abbrev B3 (c : Dev nD) : FVec Ideal S1024 .f32 := m ((c : Thread nD τ).loc main_arg3)
abbrev B4 (c : Dev nD) : FVec Ideal S8x1x1024 .f32 := m ((c : Thread nD τ).loc main_arg4)
abbrev B5 (c : Dev nD) : FVec Ideal S8x1x1024 .f32 := m ((c : Thread nD τ).loc main_arg5)
abbrev B6 (c : Dev nD) : FVec Ideal S8x1x1024 .f32 := m ((c : Thread nD τ).loc main_arg6)
abbrev B7 (c : Dev nD) : FVec Ideal S8x1x1024 .f32 := m ((c : Thread nD τ).loc main_arg7)
abbrev B8 (c : Dev nD) : FVec Ideal S8x1x1024 .f32 := m ((c : Thread nD τ).loc main_arg8)
abbrev B9 (c : Dev nD) : FVec Ideal S1024 .f32 := m ((c : Thread nD τ).loc main_arg9)
abbrev B10 (c : Dev nD) : FVec Ideal S1024x2048 .f32 := m ((c : Thread nD τ).loc main_arg10)
abbrev B11 (c : Dev nD) : FVec Ideal S512x1024 .f32 := m ((c : Thread nD τ).loc main_arg11)
abbrev B12 (c : Dev nD) : FVec Ideal S512x1024 .f32 := m ((c : Thread nD τ).loc main_arg12)
abbrev B13 (c : Dev nD) : FVec Ideal S1024x1024 .f32 := m ((c : Thread nD τ).loc main_arg13)

/-- The batch of a grid point. -/
def bt (t : Fin cfg0.N) : Fin 8 := ⟨t.val / 4, by have : t.val < 32 := t.isLt; omega⟩
/-- The time of a row of a grid point. -/
def tt (t : Fin cfg0.N) (r : Fin 512) : Fin 2048 := ⟨512 * (t.val % 4) + r.val, by omega⟩
/-- The row of the flattened arrays. -/
def rr (t : Fin cfg0.N) (r : Fin 512) : Fin 16384 := ⟨512 * t.val + r.val, by have : t.val < 32 := t.isLt; omega⟩

theorem host_1 (c : Dev nD) (t : Fin cfg0.N) (r : Fin 512) (k : Fin 512) :
    (V m c main_v1 : FVec Ideal S16384x512 .bf16) (ix2 (rr t r) k) = B0 m c (ix3 (bt t) (tt t r) k) := by
  unfold V
  simp only [hostOps0]
  after_reads_simp
  unfold rr bt tt
  pointwise
  refine congrArg _ ?_
  have : t.val < 32 := t.isLt
  congr 1 <;> apply Fin.ext <;> simp <;> omega

theorem ix_0 : ∀ t : Fin cfg0.N, win0_0.index t = ![t.val, 0] :=
  (by decide +kernel : ∀ t : Fin grid0.N, win0_0.index t = ![t.val, 0])

theorem blk_0 (c : Dev nD) (t : Fin cfg0.N) (r : Fin 512) (k : Fin 512) :
    (iblk m c 0 t : Vec Ideal S512x512 .bf16) (ix2 r k) = B0 m c (ix3 (bt t) (tt t r) k) := by
  rw [← host_1]
  unfold iblk
  refine congrArg (V m c main_v1) ?_
  funext a
  apply Fin.ext
  fin_cases a <;> blk_simp [ix_0, rr] <;> first | rfl | exact Nat.add_comm _ _ | exact Nat.add_zero _ | (show _ * _ + _ = _; exact congrArg (· + _) (Nat.mul_comm _ _))

theorem host_3 (c : Dev nD) (t : Fin cfg0.N) (r : Fin 512) (k : Fin 512) :
    (V m c main_v3 : FVec Ideal S16384x512 .bf16) (ix2 (rr t r) k) = B1 m c (ix3 (bt t) (tt t r) k) := by
  unfold V
  simp only [hostOps0]
  after_reads_simp
  unfold rr bt tt
  pointwise
  refine congrArg _ ?_
  have : t.val < 32 := t.isLt
  congr 1 <;> apply Fin.ext <;> simp <;> omega

theorem ix_1 : ∀ t : Fin cfg0.N, win0_1.index t = ![t.val, 0] :=
  (by decide +kernel : ∀ t : Fin grid0.N, win0_1.index t = ![t.val, 0])

theorem blk_1 (c : Dev nD) (t : Fin cfg0.N) (r : Fin 512) (k : Fin 512) :
    (iblk m c 1 t : Vec Ideal S512x512 .bf16) (ix2 r k) = B1 m c (ix3 (bt t) (tt t r) k) := by
  rw [← host_3]
  unfold iblk
  refine congrArg (V m c main_v3) ?_
  funext a
  apply Fin.ext
  fin_cases a <;> blk_simp [ix_1, rr] <;> first | rfl | exact Nat.add_comm _ _ | exact Nat.add_zero _ | (show _ * _ + _ = _; exact congrArg (· + _) (Nat.mul_comm _ _))

theorem host_4 (c : Dev nD) (t : Fin cfg0.N) (r : Fin 512) (k : Fin 1024) :
    (V m c main_v4 : FVec Ideal S16384x1024 .f32) (ix2 (rr t r) k) = B2 m c (ix3 (bt t) (tt t r) k) := by
  unfold V
  simp only [hostOps0]
  after_reads_simp
  unfold rr bt tt
  pointwise
  refine congrArg _ ?_
  have : t.val < 32 := t.isLt
  congr 1 <;> apply Fin.ext <;> simp <;> omega

theorem ix_2 : ∀ t : Fin cfg0.N, win0_2.index t = ![t.val, 0] :=
  (by decide +kernel : ∀ t : Fin grid0.N, win0_2.index t = ![t.val, 0])

theorem blk_2 (c : Dev nD) (t : Fin cfg0.N) (r : Fin 512) (k : Fin 1024) :
    (iblk m c 2 t : Vec Ideal S512x1024 .f32) (ix2 r k) = B2 m c (ix3 (bt t) (tt t r) k) := by
  rw [← host_4]
  unfold iblk
  refine congrArg (V m c main_v4) ?_
  funext a
  apply Fin.ext
  fin_cases a <;> blk_simp [ix_2, rr] <;> first | rfl | exact Nat.add_comm _ _ | exact Nat.add_zero _ | (show _ * _ + _ = _; exact congrArg (· + _) (Nat.mul_comm _ _))

theorem ix_3 : ∀ t : Fin cfg0.N, win0_3.index t = ![0, 0] :=
  (by decide +kernel : ∀ t : Fin grid0.N, win0_3.index t = ![0, 0])

theorem blk_3 (c : Dev nD) (t : Fin cfg0.N) (k : Fin 1024) : (iblk m c 3 t : Vec Ideal S1x1024 .f32) (ix2 0 k) = B3 m c (ix1 k) := by
  have e : (V m c main_v5 : FVec Ideal S1x1024 .f32) (ix2 0 k) = B3 m c (ix1 k) := by
    unfold V
    simp only [hostOps0]
    after_reads_simp
    pointwise
  rw [← e]
  unfold iblk
  refine congrArg (V m c main_v5) ?_
  funext a
  apply Fin.ext
  fin_cases a <;> blk_simp [ix_3] <;> first | rfl | exact Nat.add_comm _ _ | exact Nat.add_zero _ | (show _ * _ + _ = _; exact congrArg (· + _) (Nat.mul_comm _ _))

theorem ix_4 : ∀ t : Fin cfg0.N, win0_4.index t = ![t.val / 4, 0, 0] :=
  (by decide +kernel : ∀ t : Fin grid0.N, win0_4.index t = ![t.val / 4, 0, 0])

theorem blk_4 (c : Dev nD) (t : Fin cfg0.N) (k : Fin 1024) :
    (iblk m c 4 t : Vec Ideal S1x1x1024 .f32) (ix3 0 0 k) = B5 m c (ix3 (bt t) 0 k) := by
  have e : (V m c main_arg5 : FVec Ideal S8x1x1024 .f32) = B5 m c := by
    unfold V
    simp only [hostOps0]
    after_reads_simp
  rw [← e]
  unfold iblk
  refine congrArg (V m c main_arg5) ?_
  funext a
  apply Fin.ext
  fin_cases a <;> blk_simp [ix_4, bt] <;> first | rfl | exact Nat.add_comm _ _ | exact Nat.add_zero _ | (show _ * _ + _ = _; exact congrArg (· + _) (Nat.mul_comm _ _))

theorem ix_5 : ∀ t : Fin cfg0.N, win0_5.index t = ![t.val / 4, 0, 0] :=
  (by decide +kernel : ∀ t : Fin grid0.N, win0_5.index t = ![t.val / 4, 0, 0])

theorem blk_5 (c : Dev nD) (t : Fin cfg0.N) (k : Fin 1024) :
    (iblk m c 5 t : Vec Ideal S1x1x1024 .f32) (ix3 0 0 k) = B4 m c (ix3 (bt t) 0 k) := by
  have e : (V m c main_arg4 : FVec Ideal S8x1x1024 .f32) = B4 m c := by
    unfold V
    simp only [hostOps0]
    after_reads_simp
  rw [← e]
  unfold iblk
  refine congrArg (V m c main_arg4) ?_
  funext a
  apply Fin.ext
  fin_cases a <;> blk_simp [ix_5, bt] <;> first | rfl | exact Nat.add_comm _ _ | exact Nat.add_zero _ | (show _ * _ + _ = _; exact congrArg (· + _) (Nat.mul_comm _ _))

theorem ix_6 : ∀ t : Fin cfg0.N, win0_6.index t = ![0, 0] :=
  (by decide +kernel : ∀ t : Fin grid0.N, win0_6.index t = ![0, 0])

theorem blk_6 (c : Dev nD) (t : Fin cfg0.N) (j : Fin 1024) (k : Fin 2048) :
    (iblk m c 6 t : Vec Ideal S1024x2048 .bf16) (ix2 j k) = B10 m c (ix2 j k) := by
  have e : (V m c main_v6 : FVec Ideal S1024x2048 .bf16) (ix2 j k) = B10 m c (ix2 j k) := by
    unfold V
    simp only [hostOps0]
    after_reads_simp
    pointwise
  rw [← e]
  unfold iblk
  refine congrArg (V m c main_v6) ?_
  funext a
  apply Fin.ext
  fin_cases a <;> blk_simp [ix_6] <;> first | rfl | exact Nat.add_comm _ _ | exact Nat.add_zero _ | (show _ * _ + _ = _; exact congrArg (· + _) (Nat.mul_comm _ _))

theorem ix_7 : ∀ t : Fin cfg0.N, win0_7.index t = ![t.val / 4, 0, 0] :=
  (by decide +kernel : ∀ t : Fin grid0.N, win0_7.index t = ![t.val / 4, 0, 0])

theorem blk_7 (c : Dev nD) (t : Fin cfg0.N) (k : Fin 1024) :
    (iblk m c 7 t : Vec Ideal S1x1x1024 .f32) (ix3 0 0 k) = B6 m c (ix3 (bt t) 0 k) := by
  have e : (V m c main_arg6 : FVec Ideal S8x1x1024 .f32) = B6 m c := by
    unfold V
    simp only [hostOps0]
    after_reads_simp
  rw [← e]
  unfold iblk
  refine congrArg (V m c main_arg6) ?_
  funext a
  apply Fin.ext
  fin_cases a <;> blk_simp [ix_7, bt] <;> first | rfl | exact Nat.add_comm _ _ | exact Nat.add_zero _ | (show _ * _ + _ = _; exact congrArg (· + _) (Nat.mul_comm _ _))

theorem ix_8 : ∀ t : Fin cfg0.N, win0_8.index t = ![t.val / 4, 0, 0] :=
  (by decide +kernel : ∀ t : Fin grid0.N, win0_8.index t = ![t.val / 4, 0, 0])

theorem blk_8 (c : Dev nD) (t : Fin cfg0.N) (k : Fin 1024) :
    (iblk m c 8 t : Vec Ideal S1x1x1024 .f32) (ix3 0 0 k) = B8 m c (ix3 (bt t) 0 k) := by
  have e : (V m c main_arg8 : FVec Ideal S8x1x1024 .f32) = B8 m c := by
    unfold V
    simp only [hostOps0]
    after_reads_simp
  rw [← e]
  unfold iblk
  refine congrArg (V m c main_arg8) ?_
  funext a
  apply Fin.ext
  fin_cases a <;> blk_simp [ix_8, bt] <;> first | rfl | exact Nat.add_comm _ _ | exact Nat.add_zero _ | (show _ * _ + _ = _; exact congrArg (· + _) (Nat.mul_comm _ _))

theorem ix_9 : ∀ t : Fin cfg0.N, win0_9.index t = ![t.val / 4, 0, 0] :=
  (by decide +kernel : ∀ t : Fin grid0.N, win0_9.index t = ![t.val / 4, 0, 0])

theorem blk_9 (c : Dev nD) (t : Fin cfg0.N) (k : Fin 1024) :
    (iblk m c 9 t : Vec Ideal S1x1x1024 .f32) (ix3 0 0 k) = B7 m c (ix3 (bt t) 0 k) := by
  have e : (V m c main_arg7 : FVec Ideal S8x1x1024 .f32) = B7 m c := by
    unfold V
    simp only [hostOps0]
    after_reads_simp
  rw [← e]
  unfold iblk
  refine congrArg (V m c main_arg7) ?_
  funext a
  apply Fin.ext
  fin_cases a <;> blk_simp [ix_9, bt] <;> first | rfl | exact Nat.add_comm _ _ | exact Nat.add_zero _ | (show _ * _ + _ = _; exact congrArg (· + _) (Nat.mul_comm _ _))

theorem ix_10 : ∀ t : Fin cfg0.N, win0_10.index t = ![0, 0] :=
  (by decide +kernel : ∀ t : Fin grid0.N, win0_10.index t = ![0, 0])

theorem blk_10 (c : Dev nD) (t : Fin cfg0.N) (k : Fin 1024) : (iblk m c 10 t : Vec Ideal S1x1024 .f32) (ix2 0 k) = B9 m c (ix1 k) := by
  have e : (V m c main_v7 : FVec Ideal S1x1024 .f32) (ix2 0 k) = B9 m c (ix1 k) := by
    unfold V
    simp only [hostOps0]
    after_reads_simp
    pointwise
  rw [← e]
  unfold iblk
  refine congrArg (V m c main_v7) ?_
  funext a
  apply Fin.ext
  fin_cases a <;> blk_simp [ix_10] <;> first | rfl | exact Nat.add_comm _ _ | exact Nat.add_zero _ | (show _ * _ + _ = _; exact congrArg (· + _) (Nat.mul_comm _ _))

theorem ix_11 : ∀ t : Fin cfg0.N, win0_11.index t = ![0, 0] :=
  (by decide +kernel : ∀ t : Fin grid0.N, win0_11.index t = ![0, 0])

theorem blk_11 (c : Dev nD) (t : Fin cfg0.N) (j : Fin 512) (k : Fin 1024) :
    (iblk m c 11 t : Vec Ideal S512x1024 .bf16) (ix2 j k) = B11 m c (ix2 j k) := by
  have e : (V m c main_v8 : FVec Ideal S512x1024 .bf16) (ix2 j k) = B11 m c (ix2 j k) := by
    unfold V
    simp only [hostOps0]
    after_reads_simp
    pointwise
  rw [← e]
  unfold iblk
  refine congrArg (V m c main_v8) ?_
  funext a
  apply Fin.ext
  fin_cases a <;> blk_simp [ix_11] <;> first | rfl | exact Nat.add_comm _ _ | exact Nat.add_zero _ | (show _ * _ + _ = _; exact congrArg (· + _) (Nat.mul_comm _ _))

theorem ix_12 : ∀ t : Fin cfg0.N, win0_12.index t = ![0, 0] :=
  (by decide +kernel : ∀ t : Fin grid0.N, win0_12.index t = ![0, 0])

theorem blk_12 (c : Dev nD) (t : Fin cfg0.N) (j : Fin 512) (k : Fin 1024) :
    (iblk m c 12 t : Vec Ideal S512x1024 .bf16) (ix2 j k) = B12 m c (ix2 j k) := by
  have e : (V m c main_v9 : FVec Ideal S512x1024 .bf16) (ix2 j k) = B12 m c (ix2 j k) := by
    unfold V
    simp only [hostOps0]
    after_reads_simp
    pointwise
  rw [← e]
  unfold iblk
  refine congrArg (V m c main_v9) ?_
  funext a
  apply Fin.ext
  fin_cases a <;> blk_simp [ix_12] <;> first | rfl | exact Nat.add_comm _ _ | exact Nat.add_zero _ | (show _ * _ + _ = _; exact congrArg (· + _) (Nat.mul_comm _ _))

theorem ix_13 : ∀ t : Fin cfg0.N, win0_13.index t = ![0, 0] :=
  (by decide +kernel : ∀ t : Fin grid0.N, win0_13.index t = ![0, 0])

theorem blk_13 (c : Dev nD) (t : Fin cfg0.N) (j : Fin 1024) (k : Fin 1024) :
    (iblk m c 13 t : Vec Ideal S1024x1024 .bf16) (ix2 j k) = B13 m c (ix2 j k) := by
  have e : (V m c main_v10 : FVec Ideal S1024x1024 .bf16) (ix2 j k) = B13 m c (ix2 j k) := by
    unfold V
    simp only [hostOps0]
    after_reads_simp
    pointwise
  rw [← e]
  unfold iblk
  refine congrArg (V m c main_v10) ?_
  funext a
  apply Fin.ext
  fin_cases a <;> blk_simp [ix_13] <;> first | rfl | exact Nat.add_comm _ _ | exact Nat.add_zero _ | (show _ * _ + _ = _; exact congrArg (· + _) (Nat.mul_comm _ _))

end Cert.Proof.Merge
-- ==== Proof.MRun.lean ====
/- The two result arrays of the merge, from its blocks. -/
module

public import proofs.«01_k».proof.Proof.MBlk
public import proofs.«01_k».proof.Proof.Gen.Kernel2Ideal.Value

@[expose] public section

set_option maxRecDepth 16384

noncomputable section

namespace Cert.Proof.Merge

open Cert.Kernel2Ideal Cert.Kernel2Ideal.Gen Idealize.ShloMosaic Idealize.ShloMosaic.TcCoe

variable (m : (ℓ : Loc nD τ sig) → Buf (Elt Ideal) ℓ)

/-- One row of the first result. -/
def X1 (c : Dev nD) (B : Fin 8) (t : Fin 2048) : Fin 1024 → EReal :=
  out1 (row3 (B0 m c) B t) (row3 (B1 m c) B t) (row3 (B2 m c) B t) (row1 (B3 m c)) (row3 (B5 m c) B 0) (row3 (B4 m c) B 0) (row3 (B6 m c) B 0)
    (row2 (B10 m c)) (row2 (B11 m c)) (row2 (B12 m c)) (row2 (B13 m c))

/-- One row of the second result. -/
def H2 (c : Dev nD) (B : Fin 8) (t : Fin 2048) : Fin 1024 → EReal :=
  modn (X1 m c B t) (row1 (B9 m c)) (row3 (B8 m c) B 0) (row3 (B7 m c) B 0)

/-- The batch and the time of a row of the flattened arrays. -/
def rb (R : Fin 16384) : Fin 8 := ⟨R.val / 2048, by omega⟩
def rt (R : Fin 16384) : Fin 2048 := ⟨R.val % 2048, Nat.mod_lt _ (by norm_num)⟩

theorem rb_rr (t : Fin cfg0.N) (r : Fin 512) : rb (rr t r) = bt t := by
  apply Fin.ext
  unfold rb rr bt
  dsimp only
  omega
theorem rt_rr (t : Fin cfg0.N) (r : Fin 512) : rt (rr t r) = tt t r := by
  apply Fin.ext
  unfold rt rr tt
  dsimp only
  omega

/-- The two results. -/
def R1 (c : Dev nD) : FVec Ideal S16384x1024 .f32 := fun i => X1 m c (rb (i 0)) (rt (i 0)) (i 1)
def R2 (c : Dev nD) : FVec Ideal S16384x1024 .bf16 := fun i => H2 m c (rb (i 0)) (rt (i 0)) (i 1)

theorem x1_point (c : Dev nD) (t : Fin cfg0.N) (r : Fin 512) (j : Fin 1024) :
    k0_pay5 (k0_pay2 (iblk m c 2 t) (iblk m c 3 t) (iblk m c 4 t) (iblk m c 5 t) (iblk m c 6 t))
        (k0_pay3 (iblk m c 2 t) (iblk m c 3 t) (iblk m c 4 t) (iblk m c 5 t) (iblk m c 6 t)) (k0_pay4 (iblk m c 0 t) (iblk m c 11 t))
        (iblk m c 1 t) (iblk m c 12 t) (iblk m c 2 t) (iblk m c 7 t) (iblk m c 13 t) (ix2 r j) = X1 m c (bt t) (tt t r) j := by
  refine (x1_val (iblk m c 0 t) (iblk m c 1 t) (iblk m c 2 t) (iblk m c 3 t) (iblk m c 4 t) (iblk m c 5 t) (iblk m c 7 t) (iblk m c 6 t)
    (iblk m c 11 t) (iblk m c 12 t) (iblk m c 13 t) r j).trans ?_
  unfold X1
  congr 1
  · exact funext fun k => blk_0 m c t r k
  · exact funext fun k => blk_1 m c t r k
  · exact funext fun k => blk_2 m c t r k
  · exact funext fun k => blk_3 m c t k
  · exact funext fun k => blk_4 m c t k
  · exact funext fun k => blk_5 m c t k
  · exact funext fun k => blk_7 m c t k
  · exact funext fun k => funext fun l => blk_6 m c t k l
  · exact funext fun k => funext fun l => blk_11 m c t k l
  · exact funext fun k => funext fun l => blk_12 m c t k l
  · exact funext fun k => funext fun l => blk_13 m c t k l

theorem h2_point (c : Dev nD) (t : Fin cfg0.N) (r : Fin 512) (j : Fin 1024) :
    k0_pay1 (k0_pay6 (k0_pay2 (iblk m c 2 t) (iblk m c 3 t) (iblk m c 4 t) (iblk m c 5 t) (iblk m c 6 t))
        (k0_pay3 (iblk m c 2 t) (iblk m c 3 t) (iblk m c 4 t) (iblk m c 5 t) (iblk m c 6 t)) (k0_pay4 (iblk m c 0 t) (iblk m c 11 t))
        (iblk m c 1 t) (iblk m c 12 t) (iblk m c 2 t) (iblk m c 7 t) (iblk m c 13 t) (iblk m c 10 t)) (iblk m c 8 t) (iblk m c 9 t) (ix2 r j)
      = H2 m c (bt t) (tt t r) j := by
  refine (h2_val _ _ _ (iblk m c 1 t) (iblk m c 12 t) (iblk m c 2 t) (iblk m c 7 t) (iblk m c 13 t) (iblk m c 10 t) (iblk m c 8 t) (iblk m c 9 t) r j).trans ?_
  unfold H2
  congr 1
  · exact funext fun k => x1_point m c t r k
  · exact funext fun k => blk_10 m c t k
  · exact funext fun k => blk_8 m c t k
  · exact funext fun k => blk_9 m c t k

theorem z2 : (![0, 0] : Fin 2 → ℕ) = fun _ => 0 := by funext a; fin_cases a <;> rfl
theorem z3 : (![0, 0, 0] : Fin 3 → ℕ) = fun _ => 0 := by funext a; fin_cases a <;> rfl

theorem out14_val (c : Dev nD) (t : Fin cfg0.N) (r : Fin 512) (j : Fin 1024) :
    (dats m 0 c).after 14 t (ix2 r j) = X1 m c (bt t) (tt t r) j := by
  rw [after0_14]
  refine Eq.trans (congrFun ?_ _) (x1_point m c t r j)
  unfold_out out0_14
  rw [View.canon_unit_zero z2]
  simp only [View.ld_unit_zero (S := S512x1024) z2, View.ld_unit_zero (S := S1x1024) z2, View.ld_unit_zero (S := S1x1x1024) z3, View.ld_unit_zero (S := S1024x2048) z2, View.ld_unit_zero (S := S512x512) z2, View.ld_unit_zero (S := S1024x1024) z2]

theorem out15_val (c : Dev nD) (t : Fin cfg0.N) (r : Fin 512) (j : Fin 1024) :
    (dats m 0 c).after 15 t (ix2 r j) = H2 m c (bt t) (tt t r) j := by
  rw [after0_15]
  refine Eq.trans (congrFun ?_ _) (h2_point m c t r j)
  unfold_out out0_15
  rw [View.canon_unit_zero z2]
  simp only [View.ld_unit_zero (S := S512x1024) z2, View.ld_unit_zero (S := S1x1024) z2, View.ld_unit_zero (S := S1x1x1024) z3, View.ld_unit_zero (S := S1024x2048) z2, View.ld_unit_zero (S := S512x512) z2, View.ld_unit_zero (S := S1024x1024) z2]

theorem ix_14 : ∀ t : Fin cfg0.N, win0_14.index t = ![t.val, 0] :=
  (by decide +kernel : ∀ t : Fin grid0.N, win0_14.index t = ![t.val, 0])
theorem ix_15 : ∀ t : Fin cfg0.N, win0_15.index t = ![t.val, 0] :=
  (by decide +kernel : ∀ t : Fin grid0.N, win0_15.index t = ![t.val, 0])

theorem emb_14 (t : Fin cfg0.N) (r : Fin 512) (j : Fin 1024) : ((cfg0.win 14).blk t).view.emb (ix2 r j) = (ix2 (rr t r) j : S16384x1024.Idx) := by
  funext a
  apply Fin.ext
  fin_cases a <;> blk_simp [ix_14, rr] <;> first | rfl | exact Nat.add_comm _ _ | exact Nat.add_zero _ | (show _ * _ + _ = _; exact congrArg (· + _) (Nat.mul_comm _ _))
theorem emb_15 (t : Fin cfg0.N) (r : Fin 512) (j : Fin 1024) : ((cfg0.win 15).blk t).view.emb (ix2 r j) = (ix2 (rr t r) j : S16384x1024.Idx) := by
  funext a
  apply Fin.ext
  fin_cases a <;> blk_simp [ix_15, rr] <;> first | rfl | exact Nat.add_comm _ _ | exact Nat.add_zero _ | (show _ * _ + _ = _; exact congrArg (· + _) (Nat.mul_comm _ _))

theorem final14 (c : Dev nD) : (dats m 0 c).arrAt 14 cfg0.N = R1 m c := by
  refine (dats m 0 c).arrAt_eq_of_covers 14 _ (by decide +kernel) fun t hf y => ?_
  obtain ⟨r, j, rfl⟩ : ∃ (r : Fin 512) (j : Fin 1024), y = ix2 r j := ⟨y 0, y 1, eq_ix2 y⟩
  refine (out14_val m c t r j).trans ?_
  rw [emb_14]
  show _ = X1 m c (rb (rr t r)) (rt (rr t r)) j
  rw [rb_rr, rt_rr]

theorem final15 (c : Dev nD) : (dats m 0 c).arrAt 15 cfg0.N = R2 m c := by
  refine (dats m 0 c).arrAt_eq_of_covers 15 _ (by decide +kernel) fun t hf y => ?_
  obtain ⟨r, j, rfl⟩ : ∃ (r : Fin 512) (j : Fin 1024), y = ix2 r j := ⟨y 0, y 1, eq_ix2 y⟩
  refine (out15_val m c t r j).trans ?_
  rw [emb_15]
  show _ = H2 m c (rb (rr t r)) (rt (rr t r)) j
  rw [rb_rr, rt_rr]

end Cert.Proof.Merge
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.RefSlc
public import proofs.«01_k».proof.Proof.KRun
public import proofs.«01_k».proof.Proof.MRef
public import proofs.«01_k».proof.Proof.MRun
public import Idealize.ShloMosaic.Adequacy
public import Idealize.ShloMosaic.Init

@[expose] public section

noncomputable section

namespace Cert.Proof

open Idealize.ShloMosaic Idealize.SL.Sem

/-- The reference terminates, leaves its arguments as they were and every counter at zero: it declares none. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- The reference's term of arguments that agree with the kernel's is the kernel's result array. -/
theorem values_eq (m : (ℓ : Loc Cert.KernelIdeal.nD Cert.KernelIdeal.τ Cert.KernelIdeal.sig) → Buf (Elt Ideal) ℓ) (c : Dev Cert.KernelIdeal.nD) :
    Cert.ReferenceIdeal.Read.val_main_v214 (F := Ideal) (Nsa.A0 m c) (Nsa.A1 m c) (Nsa.A2 m c) (Nsa.A3 m c) (Nsa.A4 m c) (Nsa.A5 m c) (Nsa.A6 m c) (Nsa.A7 m c)
      (Nsa.A8 m c) (Nsa.A9 m c) (Nsa.A10 m c) (Nsa.A11 m c) (Nsa.A12 m c) = Cert.KernelIdeal.Value.G18 m c := by
  funext y
  rw [eq_ix3 y]
  exact (Nsa.ref_out _ _ _ _ _ _ _ _ _ _ _ _ _ (y 0) (y 1) (y 2)).trans (Nsa.result m c (y 0) (y 1) (y 2)).symm

/-- Kernel and reference compute the same array. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Value.G18 m c, Cert.KernelIdeal.Value.run m g, ?_⟩
  refine (θ_run Cert.ReferenceIdeal.defs _ _).mono (fun r h c => ⟨?_, (h c).2⟩) (Cert.ReferenceIdeal.Value.run m' g')
  obtain ⟨e0, e1, e2, e3, e4, e5, e6, e7, e8, e9, e10, e11, e12⟩ := hagree c
  refine (h c).1.trans ((Cert.ReferenceIdeal.Read.val_main_v214_eq (F := Ideal) (StableHlo.launchContents m' c)).trans (Eq.trans ?_ (values_eq m c)))
  show Cert.ReferenceIdeal.Read.val_main_v214 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)) = _
  rw [e0, e1, e2, e3, e4, e5, e6, e7, e8, e9, e10, e11, e12]

/-- The frame of the merge's reference. -/
theorem frame_reference2 : Cert.quiescent_Reference2Ideal (hReference2Ideal := Cert.Reference2Ideal.Gen.facts) := fun m ρ _ =>
  (θ_run Cert.Reference2Ideal.defs _ _).mono
    (fun r h => ⟨fun c => (h c).2.2, Idealize.ShloMosaic.sem_eq_zero_of_no_sems (by decide) r.2⟩)
    (Cert.Reference2Ideal.Value.run m ρ)

/-- The first result of the merge: the reference's array is the kernel's. -/
theorem merge_x1 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v62 (F := Ideal) (Merge.B0 m c) (Merge.B1 m c) (Merge.B2 m c) (Merge.B3 m c) (Merge.B4 m c) (Merge.B5 m c) (Merge.B6 m c) (Merge.B10 m c) (Merge.B11 m c) (Merge.B12 m c) (Merge.B13 m c) = Merge.R1 m c := by
  funext y
  rw [eq_ix2 y]
  exact Merge.ref_out1 _ _ _ _ _ _ _ _ _ _ _ _ _ (Merge.rb (y 0)) (Merge.rt (y 0)) (Nat.div_add_mod _ _).symm

/-- The second result of the merge: the reference's array is the kernel's. -/
theorem merge_h2 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v64 (F := Ideal) (Merge.B0 m c) (Merge.B1 m c) (Merge.B2 m c) (Merge.B3 m c) (Merge.B4 m c) (Merge.B5 m c) (Merge.B6 m c) (Merge.B7 m c) (Merge.B8 m c) (Merge.B9 m c) (Merge.B10 m c) (Merge.B11 m c) (Merge.B12 m c) (Merge.B13 m c) = Merge.R2 m c := by
  funext y
  rw [eq_ix2 y]
  exact Merge.ref_out2 _ _ _ _ _ _ _ _ _ _ _ _ _ _ _ _ (Merge.rb (y 0)) (Merge.rt (y 0)) (Nat.div_add_mod _ _).symm

/-- The merge and its reference end with equal results. -/
theorem algebraic2 : Cert.algebraic_Kernel2Ideal_Reference2Ideal (hKernel2Ideal := Cert.Kernel2Ideal.Gen.facts) (hReference2Ideal := Cert.Reference2Ideal.Gen.facts) := by
  intro m g m' g' _ hagree
  refine ⟨fun c => Merge.R1 m c, fun c => Merge.R2 m c,
    (θ_run Cert.Kernel2Ideal.defs _ _).mono (fun r h c => ⟨(h c).1.trans (Merge.final14 m c), (h c).2.1.trans (Merge.final15 m c), (h c).2.2⟩)
      (Cert.Kernel2Ideal.Value.run_blocks m g), ?_⟩
  refine (θ_run Cert.Reference2Ideal.defs _ _).mono (fun r h c => ⟨?_, ?_, (h c).2.2⟩) (Cert.Reference2Ideal.Value.run m' g')
  · obtain ⟨e0, e1, e2, e3, e4, e5, e6, e7, e8, e9, e10, e11, e12, e13⟩ := hagree c
    refine (h c).1.trans ((Cert.Reference2Ideal.Read.val_main_v62_eq (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg10))
      (m' ((c.tc : Thread Cert.Reference2Ideal.nD Cert.Reference2Ideal.τ).loc Cert.Reference2Ideal.main_arg11))
      (m' ((c.tc : Thread Cert.Reference2Ideal.nD Cert.Reference2Ideal.τ).loc Cert.Reference2Ideal.main_arg12))
      (m' ((c.tc : Thread Cert.Reference2Ideal.nD Cert.Reference2Ideal.τ).loc Cert.Reference2Ideal.main_arg13))).trans (Eq.trans ?_ (merge_x1 m c)))
    rw [e0, e1, e2, e3, e4, e5, e6, e10, e11, e12, e13]
  · obtain ⟨e0, e1, e2, e3, e4, e5, e6, e7, e8, e9, e10, e11, e12, e13⟩ := hagree c
    refine (h c).2.1.trans ((Cert.Reference2Ideal.Read.val_main_v64_eq (F := Ideal) m' c).trans (Eq.trans ?_ (merge_h2 m c)))
    rw [e0, e1, e2, e3, e4, e5, e6, e7, e8, e9, e10, e11, e12, e13]

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  IdealRules.named_const.statement Cert.KernelIdeal.κ "mask" .f32 0xF149F2CA#32 ⊥ rfl, algebraic, trivial, algebraic2⟩

end Cert.Proof

end
